-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_no_positive_nan [hPre_no_positive_nan : Cert.Pre_no_positive_nan.Facts] (m : (ℓ : Loc Cert.KernelIdeal.nD Cert.KernelIdeal.τ Cert.KernelIdeal.sig) → Buf (Elt Ideal) ℓ) : Prop :=
  ∀ c : Dev Cert.KernelIdeal.nD,
    (Cert.Pre_no_positive_nan.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_positive_nan [hPre_no_positive_nan : Cert.Pre_no_positive_nan.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_positive_nan.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_no_positive_nan [hKernelIdeal : Cert.KernelIdeal.Facts] [hPre_no_positive_nan : Cert.Pre_no_positive_nan.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_no_positive_nan m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_no_positive_nan [hReferenceIdeal : Cert.ReferenceIdeal.Facts] [hPre_no_positive_nan : Cert.Pre_no_positive_nan.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_positive_nan m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_no_positive_nan [hKernelIdeal : Cert.KernelIdeal.Facts] [hReferenceIdeal : Cert.ReferenceIdeal.Facts] [hPre_no_positive_nan : Cert.Pre_no_positive_nan.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_no_positive_nan m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v20)) (v1 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_v22) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_no_positive_nan : Cert.Pre_no_positive_nan.Facts),
    quiescent_Kernel (hKernel := hKernel)
    ∧ quiescent_KernelIdeal (hKernelIdeal := hKernelIdeal)
    ∧ quiescent_KernelIdeal_pre_no_positive_nan (hKernelIdeal := hKernelIdeal) (hPre_no_positive_nan := hPre_no_positive_nan)
    ∧ quiescent_ReferenceIdeal (hReferenceIdeal := hReferenceIdeal)
    ∧ quiescent_ReferenceIdeal_pre_no_positive_nan (hReferenceIdeal := hReferenceIdeal) (hPre_no_positive_nan := hPre_no_positive_nan)
    ∧ preserves_Kernel_KernelIdeal
    ∧ algebraic_KernelIdeal_ReferenceIdeal_pre_no_positive_nan (hKernelIdeal := hKernelIdeal) (hReferenceIdeal := hReferenceIdeal) (hPre_no_positive_nan := hPre_no_positive_nan)
-- ==== Pre_no_positive_nan.lean ====
abbrev S4096x4096 : Shape := ⟨2, ![4096, 4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel

variable [Facts]

def fn {F : FTy → Type} [FloatOps F] (main_arg0 : IVec S4096x4096 32) (main_arg1 : FVec F S_ .f32) (main_arg2 : FVec F S_ .f32) : IVec S_ 1 :=
  let main_c : IVec S_ 32 := constantI S_ 32 2139095040#32
  let main_v0 : IVec S4096x4096 32 := broadcastInDim S4096x4096 ![] bcast_S_S4096x4096 main_c
  let main_v1 : IVec S4096x4096 1 := cmpi .sle main_arg0 main_v0
  let main_c_0 : IVec S_ 1 := constantI S_ 1 1#1
  let main_v2 : IVec S_ 1 := (fun x v => Host.reduce IntOp.andi x v reducesTo_S4096x4096_S_d0_1 h_S_) main_v1 main_c_0
  main_v2
-- ==== Kernel.lean ====
abbrev S4096x4096 : Shape := ⟨2, ![4096, 4096]⟩
abbrev S_ : Shape := ⟨0, ![]⟩
abbrev S32x65536 : Shape := ⟨2, ![32, 65536]⟩
abbrev S4x4096 : Shape := ⟨2, ![4, 4096]⟩
abbrev S65536 : Shape := ⟨1, ![65536]⟩
abbrev S16 : Shape := ⟨1, ![16]⟩
abbrev S1x16 : Shape := ⟨2, ![1, 16]⟩
abbrev S1x65536 : Shape := ⟨2, ![1, 65536]⟩
abbrev S32x512x128 : Shape := ⟨3, ![32, 512, 128]⟩
abbrev S1x128 : Shape := ⟨2, ![1, 128]⟩
abbrev S512x128 : Shape := ⟨2, ![512, 128]⟩
abbrev S512x1 : Shape := ⟨2, ![512, 1]⟩
abbrev S512x127 : Shape := ⟨2, ![512, 127]⟩
abbrev S512x2 : Shape := ⟨2, ![512, 2]⟩
abbrev S512x126 : Shape := ⟨2, ![512, 126]⟩
abbrev S512x4 : Shape := ⟨2, ![512, 4]⟩
abbrev S512x124 : Shape := ⟨2, ![512, 124]⟩
abbrev S512x8 : Shape := ⟨2, ![512, 8]⟩
abbrev S512x120 : Shape := ⟨2, ![512, 120]⟩
abbrev S512x16 : Shape := ⟨2, ![512, 16]⟩
abbrev S512x112 : Shape := ⟨2, ![512, 112]⟩
abbrev S512x32 : Shape := ⟨2, ![512, 32]⟩
abbrev S512x96 : Shape := ⟨2, ![512, 96]⟩
abbrev S512x64 : Shape := ⟨2, ![512, 64]⟩
abbrev S1x1 : Shape := ⟨2, ![1, 1]⟩
abbrev S511x1 : Shape := ⟨2, ![511, 1]⟩
abbrev S2x1 : Shape := ⟨2, ![2, 1]⟩
abbrev S510x1 : Shape := ⟨2, ![510, 1]⟩
abbrev S4x1 : Shape := ⟨2, ![4, 1]⟩
abbrev S508x1 : Shape := ⟨2, ![508, 1]⟩
abbrev S8x1 : Shape := ⟨2, ![8, 1]⟩
abbrev S504x1 : Shape := ⟨2, ![504, 1]⟩
abbrev S16x1 : Shape := ⟨2, ![16, 1]⟩
abbrev S496x1 : Shape := ⟨2, ![496, 1]⟩
abbrev S32x1 : Shape := ⟨2, ![32, 1]⟩
abbrev S480x1 : Shape := ⟨2, ![480, 1]⟩
abbrev S64x1 : Shape := ⟨2, ![64, 1]⟩
abbrev S448x1 : Shape := ⟨2, ![448, 1]⟩
abbrev S128x1 : Shape := ⟨2, ![128, 1]⟩
abbrev S384x1 : Shape := ⟨2, ![384, 1]⟩
abbrev S256x1 : Shape := ⟨2, ![256, 1]⟩
abbrev S1x512x128 : Shape := ⟨3, ![1, 512, 128]⟩
abbrev S1 : Shape := ⟨1, ![1]⟩
abbrev S1x1x1 : Shape := ⟨3, ![1, 1, 1]⟩
abbrev S1x4 : Shape := ⟨2, ![1, 4]⟩
abbrev S4 : Shape := ⟨1, ![4]⟩
abbrev S4x16 : Shape := ⟨2, ![4, 16]⟩
abbrev S64 : Shape := ⟨1, ![64]⟩
abbrev S32x2x32768 : Shape := ⟨3, ![32, 2, 32768]⟩
abbrev S32768 : Shape := ⟨1, ![32768]⟩
abbrev S1x1x32768 : Shape := ⟨3, ![1, 1, 32768]⟩
abbrev S2 : Shape := ⟨1, ![2]⟩
abbrev S32x2x256x128 : Shape := ⟨4, ![32, 2, 256, 128]⟩
abbrev S1x1x128 : Shape := ⟨3, ![1, 1, 128]⟩
abbrev S2x256x128 : Shape := ⟨3, ![2, 256, 128]⟩
abbrev S1x256x128 : Shape := ⟨3, ![1, 256, 128]⟩
abbrev S256x128 : Shape := ⟨2, ![256, 128]⟩
abbrev S256x127 : Shape := ⟨2, ![256, 127]⟩
abbrev S256x2 : Shape := ⟨2, ![256, 2]⟩
abbrev S256x126 : Shape := ⟨2, ![256, 126]⟩
abbrev S256x4 : Shape := ⟨2, ![256, 4]⟩
abbrev S256x124 : Shape := ⟨2, ![256, 124]⟩
abbrev S256x8 : Shape := ⟨2, ![256, 8]⟩
abbrev S256x120 : Shape := ⟨2, ![256, 120]⟩
abbrev S256x16 : Shape := ⟨2, ![256, 16]⟩
abbrev S256x112 : Shape := ⟨2, ![256, 112]⟩
abbrev S256x32 : Shape := ⟨2, ![256, 32]⟩
abbrev S256x96 : Shape := ⟨2, ![256, 96]⟩
abbrev S256x64 : Shape := ⟨2, ![256, 64]⟩
abbrev S255x1 : Shape := ⟨2, ![255, 1]⟩
abbrev S254x1 : Shape := ⟨2, ![254, 1]⟩
abbrev S252x1 : Shape := ⟨2, ![252, 1]⟩
abbrev S248x1 : Shape := ⟨2, ![248, 1]⟩
abbrev S240x1 : Shape := ⟨2, ![240, 1]⟩
abbrev S224x1 : Shape := ⟨2, ![224, 1]⟩
abbrev S192x1 : Shape := ⟨2, ![192, 1]⟩

abbrev nBuf : Table → Nat
  | .hbm => 31
  | .local .tc .vmem => 6
  | .local .scVector .vmem => 8
  | _ => 0

abbrev bufTy : (tb : Table) → Fin (nBuf tb) → BufTy
  | .hbm, ⟨0, _⟩ => ⟨S4096x4096, .i32⟩
  | .hbm, ⟨1, _⟩ => ⟨S_, .f32⟩
  | .hbm, ⟨2, _⟩ => ⟨S_, .f32⟩
  | .hbm, ⟨3, _⟩ => ⟨S32x65536, .i32⟩
  | .hbm, ⟨4, _⟩ => ⟨S32x512x128, .i32⟩
  | .hbm, ⟨5, _⟩ => ⟨S1x128, .i32⟩
  | .hbm, ⟨6, _⟩ => ⟨S1x4, .i32⟩
  | .hbm, ⟨7, _⟩ => ⟨S4, .i32⟩
  | .hbm, ⟨8, _⟩ => ⟨S4x16, .i32⟩
  | .hbm, ⟨9, _⟩ => ⟨S64, .i32⟩
  | .hbm, ⟨10, _⟩ => ⟨S32x2x32768, .i32⟩
  | .hbm, ⟨11, _⟩ => ⟨S_, .f32⟩
  | .hbm, ⟨12, _⟩ => ⟨S1x128, .f32⟩
  | .hbm, ⟨13, _⟩ => ⟨S_, .i32⟩
  | .hbm, ⟨14, _⟩ => ⟨S1, .i32⟩
  | .hbm, ⟨15, _⟩ => ⟨S_, .i32⟩
  | .hbm, ⟨16, _⟩ => ⟨S1, .i32⟩
  | .hbm, ⟨17, _⟩ => ⟨S2, .i32⟩
  | .hbm, ⟨18, _⟩ => ⟨S1x128, .f32⟩
  | .hbm, ⟨19, _⟩ => ⟨S_, .i32⟩
  | .hbm, ⟨20, _⟩ => ⟨S1, .i32⟩
  | .hbm, ⟨21, _⟩ => ⟨S_, .i32⟩
  | .hbm, ⟨22, _⟩ => ⟨S1, .i32⟩
  | .hbm, ⟨23, _⟩ => ⟨S2, .i32⟩
  | .hbm, ⟨24, _⟩ => ⟨S1x128, .f32⟩
  | .hbm, ⟨25, _⟩ => ⟨S32x2x256x128, .i32⟩
  | .hbm, ⟨26, _⟩ => ⟨S1x128, .f32⟩
  | .hbm, ⟨27, _⟩ => ⟨S1x1, .f32⟩
  | .hbm, ⟨28, _⟩ => ⟨S_, .f32⟩
  | .hbm, ⟨29, _⟩ => ⟨S1x1, .f32⟩
  | .hbm, ⟨30, _⟩ => ⟨S_, .f32⟩
  | .local .tc .vmem, ⟨0, _⟩ => ⟨S32x512x128, .i32⟩
  | .local .tc .vmem, ⟨1, _⟩ => ⟨S1x128, .i32⟩
  | .local .tc .vmem, ⟨2, _⟩ => ⟨S32x2x256x128, .i32⟩
  | .local .tc .vmem, ⟨3, _⟩ => ⟨S1x128, .i32⟩
  | .local .tc .vmem, ⟨4, _⟩ => ⟨S1x128, .f32⟩
  | .local .tc .vmem, ⟨5, _⟩ => ⟨S1x128, .f32⟩
  | .local .scVector .vmem, ⟨0, _⟩ => ⟨S4x4096, .i32⟩
  | .local .scVector .vmem, ⟨1, _⟩ => ⟨S4x4096, .i32⟩
  | .local .scVector .vmem, ⟨2, _⟩ => ⟨S65536, .i32⟩
  | .local .scVector .vmem, ⟨3, _⟩ => ⟨S4x4096, .i32⟩
  | .local .scVector .vmem, ⟨4, _⟩ => ⟨S4x4096, .i32⟩
  | .local .scVector .vmem, ⟨5, _⟩ => ⟨S32768, .i32⟩
  | .local .scVector .vmem, ⟨6, _⟩ => ⟨S32768, .i32⟩
  | .local .scVector .vmem, ⟨7, _⟩ => ⟨S64, .i32⟩
  | _, _ => ⟨S4096x4096, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 14 → Bool
  | ⟨0, _⟩ => false
  | ⟨1, _⟩ => false
  | ⟨2, _⟩ => false
  | ⟨3, _⟩ => true
  | ⟨4, _⟩ => true
  | ⟨5, _⟩ => false
  | ⟨6, _⟩ => false
  | ⟨7, _⟩ => false
  | ⟨8, _⟩ => false
  | ⟨9, _⟩ => false
  | ⟨10, _⟩ => true
  | ⟨11, _⟩ => true
  | ⟨12, _⟩ => true
  | ⟨13, _⟩ => true
  | _ => false

abbrev sig : RefSig :=
  ofTables nBuf rfl bufTy 4 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_c : Ref sig .tc := ⟨.hbm, 13, rfl⟩
abbrev main_v9 : Ref sig .tc := ⟨.hbm, 14, rfl⟩
abbrev main_c_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c_1 : Ref sig .tc := ⟨.hbm, 19, rfl⟩
abbrev main_v13 : Ref sig .tc := ⟨.hbm, 20, rfl⟩
abbrev main_c_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_arg0_scv : Ref sig .scVector := ⟨.hbm, 0, rfl⟩
abbrev main_v0_scv : Ref sig .scVector := ⟨.hbm, 3, rfl⟩
abbrev main_v6_scv : Ref sig .scVector := ⟨.hbm, 9, rfl⟩
abbrev main_v7_scv : Ref sig .scVector := ⟨.hbm, 10, rfl⟩
abbrev cc1_stg0_0 : Ref sig .tc := ⟨.vmem, 0, rfl⟩
abbrev cc1_stg1_0 : Ref sig .tc := ⟨.vmem, 1, rfl⟩
abbrev cc3_stg0_0 : Ref sig .tc := ⟨.vmem, 2, rfl⟩
abbrev cc3_stg1_0 : Ref sig .tc := ⟨.vmem, 3, rfl⟩
abbrev cc3_stg2_0 : Ref sig .tc := ⟨.vmem, 4, rfl⟩
abbrev cc3_stg3_0 : Ref sig .tc := ⟨.vmem, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc2_scratch0 : Ref sig .scVector := ⟨.vmem, 3, rfl⟩
abbrev cc2_scratch1 : Ref sig .scVector := ⟨.vmem, 4, rfl⟩
abbrev cc2_scratch2 : Ref sig .scVector := ⟨.vmem, 5, rfl⟩
abbrev cc2_scratch3 : Ref sig .scVector := ⟨.vmem, 6, rfl⟩
abbrev cc2_scratch4 : Ref sig .scVector := ⟨.vmem, 7, rfl⟩
abbrev cc1_sem0_0 : DmaSem sig := 3
abbrev cc1_sem1_0 : DmaSem sig := 4
abbrev cc3_sem0_0 : DmaSem sig := 10
abbrev cc3_sem1_0 : DmaSem sig := 11
abbrev cc3_sem2_0 : DmaSem sig := 12
abbrev cc3_sem3_0 : DmaSem sig := 13
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c4096_i32 : BitVec 32 := 4096#32
  let v7 : BitVec 32 := Scalar.addi c0_i32_0 c4096_i32
  let c1_i32_1 : BitVec 32 := 1#32
  ⟨c0_i32_0, v7, c1_i32_1⟩
def k0_off1 (k0_t1 : Fin k0_t1_loop.trips) : Fin 1 → Nat :=
  let c0_i32_11 : BitVec 32 := 0#32
  let c0_i32_0 : BitVec 32 := 0#32
  let c1_i32_1 : BitVec 32 := 1#32
  let arg9 : BitVec 32 := Scf.iv c0_i32_0 c1_i32_1 k0_t1
  let c1_i32_10 : BitVec 32 := 1#32
  let v13 : BitVec 32 := Scalar.muli arg9 c1_i32_10
  let v14 : BitVec 32 := Scalar.addi c0_i32_11 v13
  let c16_i32_12 : BitVec 32 := 16#32
  let v15 : BitVec 32 := Scalar.muli v14 c16_i32_12
  let v16 : Index := Scalar.indexCast v15
  ![v16.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v8 : BitVec 32 := Scalar.muli v1 c128_i32
  let c0_i32_3 : BitVec 32 := 0#32
  let v9 : BitVec 32 := Scalar.addi v8 c0_i32_3
  let c0_i32_4 : BitVec 32 := 0#32
  ![v9.toNat, 0]
@[reducible] def k0_t2_loop : Scf.Loop 32 :=
  let c0_i32_6 : BitVec 32 := 0#32
  let c16_i32_7 : BitVec 32 := 16#32
  let v12 : BitVec 32 := Scalar.addi c0_i32_6 c16_i32_7
  let c1_i32_8 : BitVec 32 := 1#32
  ⟨c0_i32_6, v12, c1_i32_8⟩
def k0_off3 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v8 : BitVec 32 := Scalar.muli v1 c128_i32
  let c0_i32_11 : BitVec 32 := 0#32
  let c0_i32_6 : BitVec 32 := 0#32
  let c1_i32_8 : BitVec 32 := 1#32
  let arg9 : BitVec 32 := Scf.iv c0_i32_6 c1_i32_8 k0_t2
  let c2_i32_10 : BitVec 32 := 2#32
  let v13 : BitVec 32 := Scalar.muli arg9 c2_i32_10
  let v14 : BitVec 32 := Scalar.addi c0_i32_11 v13
  let c1_i32_12 : BitVec 32 := 1#32
  let v15 : BitVec 32 := Scalar.addi v14 c1_i32_12
  let c4_i32 : BitVec 32 := 4#32
  let v16 : BitVec 32 := Scalar.muli v15 c4_i32
  let v17 : BitVec 32 := Scalar.addi v8 v16
  let c0_i32_13 : BitVec 32 := 0#32
  ![v17.toNat, 0]
def k0_off4 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v8 : BitVec 32 := Scalar.muli v1 c128_i32
  let c0_i32_11 : BitVec 32 := 0#32
  let c0_i32_6 : BitVec 32 := 0#32
  let c1_i32_8 : BitVec 32 := 1#32
  let arg9 : BitVec 32 := Scf.iv c0_i32_6 c1_i32_8 k0_t2
  let c2_i32_10 : BitVec 32 := 2#32
  let v13 : BitVec 32 := Scalar.muli arg9 c2_i32_10
  let v14 : BitVec 32 := Scalar.addi c0_i32_11 v13
  let c4_i32_15 : BitVec 32 := 4#32
  let v20 : BitVec 32 := Scalar.muli v14 c4_i32_15
  let v21 : BitVec 32 := Scalar.addi v8 v20
  let c0_i32_16 : BitVec 32 := 0#32
  ![v21.toNat, 0]
@[reducible] def k0_t3_loop : Scf.Loop 32 :=
  let c0_i32_18 : BitVec 32 := 0#32
  let c256_i32 : BitVec 32 := 256#32
  let v24 : BitVec 32 := Scalar.addi c0_i32_18 c256_i32
  let c1_i32_19 : BitVec 32 := 1#32
  ⟨c0_i32_18, v24, c1_i32_19⟩
def k0_off5 (k0_t3 : Fin k0_t3_loop.trips) : Fin 2 → Nat :=
  let c0_i32_58 : BitVec 32 := 0#32
  let v44 : Index := Scalar.indexCast c0_i32_58
  let c0_i32_56 : BitVec 32 := 0#32
  let c0_i32_18 : BitVec 32 := 0#32
  let c1_i32_19 : BitVec 32 := 1#32
  let arg10 : BitVec 32 := Scf.iv c0_i32_18 c1_i32_19 k0_t3
  let c1_i32_55 : BitVec 32 := 1#32
  let v41 : BitVec 32 := Scalar.muli arg10 c1_i32_55
  let v42 : BitVec 32 := Scalar.addi c0_i32_56 v41
  let c16_i32_57 : BitVec 32 := 16#32
  let v43 : BitVec 32 := Scalar.muli v42 c16_i32_57
  let v45 : Index := Scalar.indexCast v43
  ![0, v45.toNat]

def k0_chk1 (v50 : IVec S16 32) : Prop :=
  (∀ a x, ((![v50] : Fin 1 → IVec S16 32) a x).toNat < S65536.size a)
theorem k0_idx1_inb : ∀ (v50 : IVec S16 32) (k0_hw1 : k0_chk1 v50), ∀ a x, ((![v50] : Fin 1 → IVec S16 32) a x).toNat < S65536.size a := fun v50 k0_hw1 => k0_hw1
@[reducible] def k0_t4_loop : Scf.Loop 32 :=
  let c0_i32_21 : BitVec 32 := 0#32
  let c256_i32_22 : BitVec 32 := 256#32
  let v25 : BitVec 32 := Scalar.addi c0_i32_21 c256_i32_22
  let c1_i32_23 : BitVec 32 := 1#32
  ⟨c0_i32_21, v25, c1_i32_23⟩
def k0_off6 (k0_t4 : Fin k0_t4_loop.trips) : Fin 2 → Nat :=
  let c1_i32_58 : BitVec 32 := 1#32
  let v44 : Index := Scalar.indexCast c1_i32_58
  let c0_i32_56 : BitVec 32 := 0#32
  let c0_i32_21 : BitVec 32 := 0#32
  let c1_i32_23 : BitVec 32 := 1#32
  let arg10 : BitVec 32 := Scf.iv c0_i32_21 c1_i32_23 k0_t4
  let c1_i32_55 : BitVec 32 := 1#32
  let v41 : BitVec 32 := Scalar.muli arg10 c1_i32_55
  let v42 : BitVec 32 := Scalar.addi c0_i32_56 v41
  let c16_i32_57 : BitVec 32 := 16#32
  let v43 : BitVec 32 := Scalar.muli v42 c16_i32_57
  let v45 : Index := Scalar.indexCast v43
  ![1, v45.toNat]

def k0_chk2 (v50 : IVec S16 32) : Prop :=
  (∀ a x, ((![v50] : Fin 1 → IVec S16 32) a x).toNat < S65536.size a)
theorem k0_idx2_inb : ∀ (v50 : IVec S16 32) (k0_hw2 : k0_chk2 v50), ∀ a x, ((![v50] : Fin 1 → IVec S16 32) a x).toNat < S65536.size a := fun v50 k0_hw2 => k0_hw2
@[reducible] def k0_t5_loop : Scf.Loop 32 :=
  let c0_i32_25 : BitVec 32 := 0#32
  let c256_i32_26 : BitVec 32 := 256#32
  let v26 : BitVec 32 := Scalar.addi c0_i32_25 c256_i32_26
  let c1_i32_27 : BitVec 32 := 1#32
  ⟨c0_i32_25, v26, c1_i32_27⟩
def k0_off7 (k0_t5 : Fin k0_t5_loop.trips) : Fin 2 → Nat :=
  let c2_i32_58 : BitVec 32 := 2#32
  let v44 : Index := Scalar.indexCast c2_i32_58
  let c0_i32_56 : BitVec 32 := 0#32
  let c0_i32_25 : BitVec 32 := 0#32
  let c1_i32_27 : BitVec 32 := 1#32
  let arg10 : BitVec 32 := Scf.iv c0_i32_25 c1_i32_27 k0_t5
  let c1_i32_55 : BitVec 32 := 1#32
  let v41 : BitVec 32 := Scalar.muli arg10 c1_i32_55
  let v42 : BitVec 32 := Scalar.addi c0_i32_56 v41
  let c16_i32_57 : BitVec 32 := 16#32
  let v43 : BitVec 32 := Scalar.muli v42 c16_i32_57
  let v45 : Index := Scalar.indexCast v43
  ![2, v45.toNat]

def k0_chk3 (v50 : IVec S16 32) : Prop :=
  (∀ a x, ((![v50] : Fin 1 → IVec S16 32) a x).toNat < S65536.size a)
theorem k0_idx3_inb : ∀ (v50 : IVec S16 32) (k0_hw3 : k0_chk3 v50), ∀ a x, ((![v50] : Fin 1 → IVec S16 32) a x).toNat < S65536.size a := fun v50 k0_hw3 => k0_hw3
@[reducible] def k0_t6_loop : Scf.Loop 32 :=
  let c0_i32_29 : BitVec 32 := 0#32
  let c256_i32_30 : BitVec 32 := 256#32
  let v27 : BitVec 32 := Scalar.addi c0_i32_29 c256_i32_30
  let c1_i32_31 : BitVec 32 := 1#32
  ⟨c0_i32_29, v27, c1_i32_31⟩
def k0_off8 (k0_t6 : Fin k0_t6_loop.trips) : Fin 2 → Nat :=
  let c3_i32 : BitVec 32 := 3#32
  let v44 : Index := Scalar.indexCast c3_i32
  let c0_i32_56 : BitVec 32 := 0#32
  let c0_i32_29 : BitVec 32 := 0#32
  let c1_i32_31 : BitVec 32 := 1#32
  let arg10 : BitVec 32 := Scf.iv c0_i32_29 c1_i32_31 k0_t6
  let c1_i32_55 : BitVec 32 := 1#32
  let v41 : BitVec 32 := Scalar.muli arg10 c1_i32_55
  let v42 : BitVec 32 := Scalar.addi c0_i32_56 v41
  let c16_i32_57 : BitVec 32 := 16#32
  let v43 : BitVec 32 := Scalar.muli v42 c16_i32_57
  let v45 : Index := Scalar.indexCast v43
  ![3, v45.toNat]

def k0_chk4 (v50 : IVec S16 32) : Prop :=
  (∀ a x, ((![v50] : Fin 1 → IVec S16 32) a x).toNat < S65536.size a)
theorem k0_idx4_inb : ∀ (v50 : IVec S16 32) (k0_hw4 : k0_chk4 v50), ∀ a x, ((![v50] : Fin 1 → IVec S16 32) a x).toNat < S65536.size a := fun v50 k0_hw4 => k0_hw4
def k0_cond1 (k0_t2 : Fin k0_t2_loop.trips) : BitVec 1 :=
  let c0_i32_11 : BitVec 32 := 0#32
  let c0_i32_6 : BitVec 32 := 0#32
  let c1_i32_8 : BitVec 32 := 1#32
  let arg9 : BitVec 32 := Scf.iv c0_i32_6 c1_i32_8 k0_t2
  let c2_i32_10 : BitVec 32 := 2#32
  let v13 : BitVec 32 := Scalar.muli arg9 c2_i32_10
  let v14 : BitVec 32 := Scalar.addi c0_i32_11 v13
  let c2_i32_33 : BitVec 32 := 2#32
  let v28 : BitVec 32 := Scalar.addi v14 c2_i32_33
  let c32_i32 : BitVec 32 := 32#32
  let v29 : BitVec 1 := Scalar.cmpi .slt v28 c32_i32
  let v30 : BitVec 32 := Scalar.extui v29
  let c0_i32_34 : BitVec 32 := 0#32
  let v31 : BitVec 1 := Scalar.cmpi .ne v30 c0_i32_34
  v31

def k0_off9 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v8 : BitVec 32 := Scalar.muli v1 c128_i32
  let c0_i32_11 : BitVec 32 := 0#32
  let c0_i32_6 : BitVec 32 := 0#32
  let c1_i32_8 : BitVec 32 := 1#32
  let arg9 : BitVec 32 := Scf.iv c0_i32_6 c1_i32_8 k0_t2
  let c2_i32_10 : BitVec 32 := 2#32
  let v13 : BitVec 32 := Scalar.muli arg9 c2_i32_10
  let v14 : BitVec 32 := Scalar.addi c0_i32_11 v13
  let c2_i32_55 : BitVec 32 := 2#32
  let v41 : BitVec 32 := Scalar.addi v14 c2_i32_55
  let c4_i32_56 : BitVec 32 := 4#32
  let v42 : BitVec 32 := Scalar.muli v41 c4_i32_56
  let v43 : BitVec 32 := Scalar.addi v8 v42
  let c0_i32_57 : BitVec 32 := 0#32
  ![v43.toNat, 0]
@[reducible] def k0_t7_loop : Scf.Loop 32 :=
  let c0_i32_39 : BitVec 32 := 0#32
  let c256_i32_40 : BitVec 32 := 256#32
  let v37 : BitVec 32 := Scalar.addi c0_i32_39 c256_i32_40
  let c1_i32_41 : BitVec 32 := 1#32
  ⟨c0_i32_39, v37, c1_i32_41⟩
def k0_off10 (k0_t7 : Fin k0_t7_loop.trips) : Fin 2 → Nat :=
  let c0_i32_58 : BitVec 32 := 0#32
  let v44 : Index := Scalar.indexCast c0_i32_58
  let c0_i32_56 : BitVec 32 := 0#32
  let c0_i32_39 : BitVec 32 := 0#32
  let c1_i32_41 : BitVec 32 := 1#32
  let arg10 : BitVec 32 := Scf.iv c0_i32_39 c1_i32_41 k0_t7
  let c1_i32_55 : BitVec 32 := 1#32
  let v41 : BitVec 32 := Scalar.muli arg10 c1_i32_55
  let v42 : BitVec 32 := Scalar.addi c0_i32_56 v41
  let c16_i32_57 : BitVec 32 := 16#32
  let v43 : BitVec 32 := Scalar.muli v42 c16_i32_57
  let v45 : Index := Scalar.indexCast v43
  ![0, v45.toNat]

def k0_chk5 (v50 : IVec S16 32) : Prop :=
  (∀ a x, ((![v50] : Fin 1 → IVec S16 32) a x).toNat < S65536.size a)
theorem k0_idx5_inb : ∀ (v50 : IVec S16 32) (k0_hw5 : k0_chk5 v50), ∀ a x, ((![v50] : Fin 1 → IVec S16 32) a x).toNat < S65536.size a := fun v50 k0_hw5 => k0_hw5
@[reducible] def k0_t8_loop : Scf.Loop 32 :=
  let c0_i32_43 : BitVec 32 := 0#32
  let c256_i32_44 : BitVec 32 := 256#32
  let v38 : BitVec 32 := Scalar.addi c0_i32_43 c256_i32_44
  let c1_i32_45 : BitVec 32 := 1#32
  ⟨c0_i32_43, v38, c1_i32_45⟩
def k0_off11 (k0_t8 : Fin k0_t8_loop.trips) : Fin 2 → Nat :=
  let c1_i32_58 : BitVec 32 := 1#32
  let v44 : Index := Scalar.indexCast c1_i32_58
  let c0_i32_56 : BitVec 32 := 0#32
  let c0_i32_43 : BitVec 32 := 0#32
  let c1_i32_45 : BitVec 32 := 1#32
  let arg10 : BitVec 32 := Scf.iv c0_i32_43 c1_i32_45 k0_t8
  let c1_i32_55 : BitVec 32 := 1#32
  let v41 : BitVec 32 := Scalar.muli arg10 c1_i32_55
  let v42 : BitVec 32 := Scalar.addi c0_i32_56 v41
  let c16_i32_57 : BitVec 32 := 16#32
  let v43 : BitVec 32 := Scalar.muli v42 c16_i32_57
  let v45 : Index := Scalar.indexCast v43
  ![1, v45.toNat]

def k0_chk6 (v50 : IVec S16 32) : Prop :=
  (∀ a x, ((![v50] : Fin 1 → IVec S16 32) a x).toNat < S65536.size a)
theorem k0_idx6_inb : ∀ (v50 : IVec S16 32) (k0_hw6 : k0_chk6 v50), ∀ a x, ((![v50] : Fin 1 → IVec S16 32) a x).toNat < S65536.size a := fun v50 k0_hw6 => k0_hw6
@[reducible] def k0_t9_loop : Scf.Loop 32 :=
  let c0_i32_47 : BitVec 32 := 0#32
  let c256_i32_48 : BitVec 32 := 256#32
  let v39 : BitVec 32 := Scalar.addi c0_i32_47 c256_i32_48
  let c1_i32_49 : BitVec 32 := 1#32
  ⟨c0_i32_47, v39, c1_i32_49⟩
def k0_off12 (k0_t9 : Fin k0_t9_loop.trips) : Fin 2 → Nat :=
  let c2_i32_58 : BitVec 32 := 2#32
  let v44 : Index := Scalar.indexCast c2_i32_58
  let c0_i32_56 : BitVec 32 := 0#32
  let c0_i32_47 : BitVec 32 := 0#32
  let c1_i32_49 : BitVec 32 := 1#32
  let arg10 : BitVec 32 := Scf.iv c0_i32_47 c1_i32_49 k0_t9
  let c1_i32_55 : BitVec 32 := 1#32
  let v41 : BitVec 32 := Scalar.muli arg10 c1_i32_55
  let v42 : BitVec 32 := Scalar.addi c0_i32_56 v41
  let c16_i32_57 : BitVec 32 := 16#32
  let v43 : BitVec 32 := Scalar.muli v42 c16_i32_57
  let v45 : Index := Scalar.indexCast v43
  ![2, v45.toNat]

def k0_chk7 (v50 : IVec S16 32) : Prop :=
  (∀ a x, ((![v50] : Fin 1 → IVec S16 32) a x).toNat < S65536.size a)
theorem k0_idx7_inb : ∀ (v50 : IVec S16 32) (k0_hw7 : k0_chk7 v50), ∀ a x, ((![v50] : Fin 1 → IVec S16 32) a x).toNat < S65536.size a := fun v50 k0_hw7 => k0_hw7
@[reducible] def k0_t10_loop : Scf.Loop 32 :=
  let c0_i32_51 : BitVec 32 := 0#32
  let c256_i32_52 : BitVec 32 := 256#32
  let v40 : BitVec 32 := Scalar.addi c0_i32_51 c256_i32_52
  let c1_i32_53 : BitVec 32 := 1#32
  ⟨c0_i32_51, v40, c1_i32_53⟩
def k0_off13 (k0_t10 : Fin k0_t10_loop.trips) : Fin 2 → Nat :=
  let c3_i32 : BitVec 32 := 3#32
  let v44 : Index := Scalar.indexCast c3_i32
  let c0_i32_56 : BitVec 32 := 0#32
  let c0_i32_51 : BitVec 32 := 0#32
  let c1_i32_53 : BitVec 32 := 1#32
  let arg10 : BitVec 32 := Scf.iv c0_i32_51 c1_i32_53 k0_t10
  let c1_i32_55 : BitVec 32 := 1#32
  let v41 : BitVec 32 := Scalar.muli arg10 c1_i32_55
  let v42 : BitVec 32 := Scalar.addi c0_i32_56 v41
  let c16_i32_57 : BitVec 32 := 16#32
  let v43 : BitVec 32 := Scalar.muli v42 c16_i32_57
  let v45 : Index := Scalar.indexCast v43
  ![3, v45.toNat]

def k0_chk8 (v50 : IVec S16 32) : Prop :=
  (∀ a x, ((![v50] : Fin 1 → IVec S16 32) a x).toNat < S65536.size a)
theorem k0_idx8_inb : ∀ (v50 : IVec S16 32) (k0_hw8 : k0_chk8 v50), ∀ a x, ((![v50] : Fin 1 → IVec S16 32) a x).toNat < S65536.size a := fun v50 k0_hw8 => k0_hw8
def k0_off14 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_10_r0 : BitVec 32 := 0#32
  ![v1.toNat, 0]
abbrev grid1 : Pipeline.Grid := .none

abbrev stage1_0 : Fin 1 → Memref sig .tc .vmem S32x512x128 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1x128 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev grid2 : Pipeline.Grid := ⟨2, ![2, 16], ![false, false]⟩

@[reducible] def k2_t1_loop : Scf.Loop 32 :=
  let c0_i32_1 : BitVec 32 := 0#32
  let c2048_i32 : BitVec 32 := 2048#32
  let v14 : BitVec 32 := Scalar.addi c0_i32_1 c2048_i32
  let c1_i32_2 : BitVec 32 := 1#32
  ⟨c0_i32_1, v14, c1_i32_2⟩
def k2_off1 (k2_t1 : Fin k2_t1_loop.trips) : Fin 1 → Nat :=
  let c0_i32_14 : BitVec 32 := 0#32
  let c0_i32_1 : BitVec 32 := 0#32
  let c1_i32_2 : BitVec 32 := 1#32
  let arg12 : BitVec 32 := Scf.iv c0_i32_1 c1_i32_2 k2_t1
  let c1_i32_13 : BitVec 32 := 1#32
  let v20 : BitVec 32 := Scalar.muli arg12 c1_i32_13
  let v21 : BitVec 32 := Scalar.addi c0_i32_14 v20
  let c16_i32_15 : BitVec 32 := 16#32
  let v22 : BitVec 32 := Scalar.muli v21 c16_i32_15
  let v23 : Index := Scalar.indexCast v22
  ![v23.toNat]
def k2_off2 (i : grid2.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v15 : BitVec 32 := Scalar.muli v1 c128_i32
  let c0_i32_4 : BitVec 32 := 0#32
  let v16 : BitVec 32 := Scalar.addi v15 c0_i32_4
  let c0_i32_5 : BitVec 32 := 0#32
  ![v16.toNat, 0]
@[reducible] def k2_t2_loop : Scf.Loop 32 :=
  let c0_i32_7 : BitVec 32 := 0#32
  let c16_i32_8 : BitVec 32 := 16#32
  let v19 : BitVec 32 := Scalar.addi c0_i32_7 c16_i32_8
  let c1_i32_9 : BitVec 32 := 1#32
  ⟨c0_i32_7, v19, c1_i32_9⟩
def k2_off3 (i : grid2.Coords) (k2_t2 : Fin k2_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v15 : BitVec 32 := Scalar.muli v1 c128_i32
  let c0_i32_14 : BitVec 32 := 0#32
  let c0_i32_7 : BitVec 32 := 0#32
  let c1_i32_9 : BitVec 32 := 1#32
  let arg12 : BitVec 32 := Scf.iv c0_i32_7 c1_i32_9 k2_t2
  let c2_i32_13 : BitVec 32 := 2#32
  let v20 : BitVec 32 := Scalar.muli arg12 c2_i32_13
  let v21 : BitVec 32 := Scalar.addi c0_i32_14 v20
  let c1_i32_15 : BitVec 32 := 1#32
  let v22 : BitVec 32 := Scalar.addi v21 c1_i32_15
  let c4_i32 : BitVec 32 := 4#32
  let v23 : BitVec 32 := Scalar.muli v22 c4_i32
  let v24 : BitVec 32 := Scalar.addi v15 v23
  let c0_i32_16 : BitVec 32 := 0#32
  ![v24.toNat, 0]
def k2_off4 (i : grid2.Coords) (k2_t2 : Fin k2_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v15 : BitVec 32 := Scalar.muli v1 c128_i32
  let c0_i32_14 : BitVec 32 := 0#32
  let c0_i32_7 : BitVec 32 := 0#32
  let c1_i32_9 : BitVec 32 := 1#32
  let arg12 : BitVec 32 := Scf.iv c0_i32_7 c1_i32_9 k2_t2
  let c2_i32_13 : BitVec 32 := 2#32
  let v20 : BitVec 32 := Scalar.muli arg12 c2_i32_13
  let v21 : BitVec 32 := Scalar.addi c0_i32_14 v20
  let c4_i32_18 : BitVec 32 := 4#32
  let v27 : BitVec 32 := Scalar.muli v21 c4_i32_18
  let v28 : BitVec 32 := Scalar.addi v15 v27
  let c0_i32_19 : BitVec 32 := 0#32
  ![v28.toNat, 0]
@[reducible] def k2_t3_loop : Scf.Loop 32 :=
  let c0_i32_21 : BitVec 32 := 0#32
  let c256_i32 : BitVec 32 := 256#32
  let v31 : BitVec 32 := Scalar.addi c0_i32_21 c256_i32
  let c1_i32_22 : BitVec 32 := 1#32
  ⟨c0_i32_21, v31, c1_i32_22⟩
def k2_off5 (k2_t3 : Fin k2_t3_loop.trips) : Fin 2 → Nat :=
  let c0_i32_61 : BitVec 32 := 0#32
  let v51 : Index := Scalar.indexCast c0_i32_61
  let c0_i32_59 : BitVec 32 := 0#32
  let c0_i32_21 : BitVec 32 := 0#32
  let c1_i32_22 : BitVec 32 := 1#32
  let arg13 : BitVec 32 := Scf.iv c0_i32_21 c1_i32_22 k2_t3
  let c1_i32_58 : BitVec 32 := 1#32
  let v48 : BitVec 32 := Scalar.muli arg13 c1_i32_58
  let v49 : BitVec 32 := Scalar.addi c0_i32_59 v48
  let c16_i32_60 : BitVec 32 := 16#32
  let v50 : BitVec 32 := Scalar.muli v49 c16_i32_60
  let v52 : Index := Scalar.indexCast v50
  ![0, v52.toNat]

def k2_chk1 (v63 : IVec S16 32) : Prop :=
  (∀ a x, ((![v63] : Fin 1 → IVec S16 32) a x).toNat < S32768.size a)
theorem k2_idx1_inb : ∀ (v63 : IVec S16 32) (k2_hw1 : k2_chk1 v63), ∀ a x, ((![v63] : Fin 1 → IVec S16 32) a x).toNat < S32768.size a := fun v63 k2_hw1 => k2_hw1

def k2_chk2 (v68 : IVec S16 32) : Prop :=
  (∀ a x, ((![v68] : Fin 1 → IVec S16 32) a x).toNat < S32768.size a)
theorem k2_idx2_inb : ∀ (v68 : IVec S16 32) (k2_hw2 : k2_chk2 v68), ∀ a x, ((![v68] : Fin 1 → IVec S16 32) a x).toNat < S32768.size a := fun v68 k2_hw2 => k2_hw2
@[reducible] def k2_t4_loop : Scf.Loop 32 :=
  let c0_i32_24 : BitVec 32 := 0#32
  let c256_i32_25 : BitVec 32 := 256#32
  let v32 : BitVec 32 := Scalar.addi c0_i32_24 c256_i32_25
  let c1_i32_26 : BitVec 32 := 1#32
  ⟨c0_i32_24, v32, c1_i32_26⟩
def k2_off6 (k2_t4 : Fin k2_t4_loop.trips) : Fin 2 → Nat :=
  let c1_i32_61 : BitVec 32 := 1#32
  let v51 : Index := Scalar.indexCast c1_i32_61
  let c0_i32_59 : BitVec 32 := 0#32
  let c0_i32_24 : BitVec 32 := 0#32
  let c1_i32_26 : BitVec 32 := 1#32
  let arg13 : BitVec 32 := Scf.iv c0_i32_24 c1_i32_26 k2_t4
  let c1_i32_58 : BitVec 32 := 1#32
  let v48 : BitVec 32 := Scalar.muli arg13 c1_i32_58
  let v49 : BitVec 32 := Scalar.addi c0_i32_59 v48
  let c16_i32_60 : BitVec 32 := 16#32
  let v50 : BitVec 32 := Scalar.muli v49 c16_i32_60
  let v52 : Index := Scalar.indexCast v50
  ![1, v52.toNat]

def k2_chk3 (v63 : IVec S16 32) : Prop :=
  (∀ a x, ((![v63] : Fin 1 → IVec S16 32) a x).toNat < S32768.size a)
theorem k2_idx3_inb : ∀ (v63 : IVec S16 32) (k2_hw3 : k2_chk3 v63), ∀ a x, ((![v63] : Fin 1 → IVec S16 32) a x).toNat < S32768.size a := fun v63 k2_hw3 => k2_hw3

def k2_chk4 (v68 : IVec S16 32) : Prop :=
  (∀ a x, ((![v68] : Fin 1 → IVec S16 32) a x).toNat < S32768.size a)
theorem k2_idx4_inb : ∀ (v68 : IVec S16 32) (k2_hw4 : k2_chk4 v68), ∀ a x, ((![v68] : Fin 1 → IVec S16 32) a x).toNat < S32768.size a := fun v68 k2_hw4 => k2_hw4
@[reducible] def k2_t5_loop : Scf.Loop 32 :=
  let c0_i32_28 : BitVec 32 := 0#32
  let c256_i32_29 : BitVec 32 := 256#32
  let v33 : BitVec 32 := Scalar.addi c0_i32_28 c256_i32_29
  let c1_i32_30 : BitVec 32 := 1#32
  ⟨c0_i32_28, v33, c1_i32_30⟩
def k2_off7 (k2_t5 : Fin k2_t5_loop.trips) : Fin 2 → Nat :=
  let c2_i32_61 : BitVec 32 := 2#32
  let v51 : Index := Scalar.indexCast c2_i32_61
  let c0_i32_59 : BitVec 32 := 0#32
  let c0_i32_28 : BitVec 32 := 0#32
  let c1_i32_30 : BitVec 32 := 1#32
  let arg13 : BitVec 32 := Scf.iv c0_i32_28 c1_i32_30 k2_t5
  let c1_i32_58 : BitVec 32 := 1#32
  let v48 : BitVec 32 := Scalar.muli arg13 c1_i32_58
  let v49 : BitVec 32 := Scalar.addi c0_i32_59 v48
  let c16_i32_60 : BitVec 32 := 16#32
  let v50 : BitVec 32 := Scalar.muli v49 c16_i32_60
  let v52 : Index := Scalar.indexCast v50
  ![2, v52.toNat]

def k2_chk5 (v63 : IVec S16 32) : Prop :=
  (∀ a x, ((![v63] : Fin 1 → IVec S16 32) a x).toNat < S32768.size a)
theorem k2_idx5_inb : ∀ (v63 : IVec S16 32) (k2_hw5 : k2_chk5 v63), ∀ a x, ((![v63] : Fin 1 → IVec S16 32) a x).toNat < S32768.size a := fun v63 k2_hw5 => k2_hw5

def k2_chk6 (v68 : IVec S16 32) : Prop :=
  (∀ a x, ((![v68] : Fin 1 → IVec S16 32) a x).toNat < S32768.size a)
theorem k2_idx6_inb : ∀ (v68 : IVec S16 32) (k2_hw6 : k2_chk6 v68), ∀ a x, ((![v68] : Fin 1 → IVec S16 32) a x).toNat < S32768.size a := fun v68 k2_hw6 => k2_hw6
@[reducible] def k2_t6_loop : Scf.Loop 32 :=
  let c0_i32_32 : BitVec 32 := 0#32
  let c256_i32_33 : BitVec 32 := 256#32
  let v34 : BitVec 32 := Scalar.addi c0_i32_32 c256_i32_33
  let c1_i32_34 : BitVec 32 := 1#32
  ⟨c0_i32_32, v34, c1_i32_34⟩
def k2_off8 (k2_t6 : Fin k2_t6_loop.trips) : Fin 2 → Nat :=
  let c3_i32 : BitVec 32 := 3#32
  let v51 : Index := Scalar.indexCast c3_i32
  let c0_i32_59 : BitVec 32 := 0#32
  let c0_i32_32 : BitVec 32 := 0#32
  let c1_i32_34 : BitVec 32 := 1#32
  let arg13 : BitVec 32 := Scf.iv c0_i32_32 c1_i32_34 k2_t6
  let c1_i32_58 : BitVec 32 := 1#32
  let v48 : BitVec 32 := Scalar.muli arg13 c1_i32_58
  let v49 : BitVec 32 := Scalar.addi c0_i32_59 v48
  let c16_i32_60 : BitVec 32 := 16#32
  let v50 : BitVec 32 := Scalar.muli v49 c16_i32_60
  let v52 : Index := Scalar.indexCast v50
  ![3, v52.toNat]

def k2_chk7 (v63 : IVec S16 32) : Prop :=
  (∀ a x, ((![v63] : Fin 1 → IVec S16 32) a x).toNat < S32768.size a)
theorem k2_idx7_inb : ∀ (v63 : IVec S16 32) (k2_hw7 : k2_chk7 v63), ∀ a x, ((![v63] : Fin 1 → IVec S16 32) a x).toNat < S32768.size a := fun v63 k2_hw7 => k2_hw7

def k2_chk8 (v68 : IVec S16 32) : Prop :=
  (∀ a x, ((![v68] : Fin 1 → IVec S16 32) a x).toNat < S32768.size a)
theorem k2_idx8_inb : ∀ (v68 : IVec S16 32) (k2_hw8 : k2_chk8 v68), ∀ a x, ((![v68] : Fin 1 → IVec S16 32) a x).toNat < S32768.size a := fun v68 k2_hw8 => k2_hw8
def k2_cond1 (k2_t2 : Fin k2_t2_loop.trips) : BitVec 1 :=
  let c0_i32_14 : BitVec 32 := 0#32
  let c0_i32_7 : BitVec 32 := 0#32
  let c1_i32_9 : BitVec 32 := 1#32
  let arg12 : BitVec 32 := Scf.iv c0_i32_7 c1_i32_9 k2_t2
  let c2_i32_13 : BitVec 32 := 2#32
  let v20 : BitVec 32 := Scalar.muli arg12 c2_i32_13
  let v21 : BitVec 32 := Scalar.addi c0_i32_14 v20
  let c2_i32_36 : BitVec 32 := 2#32
  let v35 : BitVec 32 := Scalar.addi v21 c2_i32_36
  let c32_i32 : BitVec 32 := 32#32
  let v36 : BitVec 1 := Scalar.cmpi .slt v35 c32_i32
  let v37 : BitVec 32 := Scalar.extui v36
  let c0_i32_37 : BitVec 32 := 0#32
  let v38 : BitVec 1 := Scalar.cmpi .ne v37 c0_i32_37
  v38

def k2_off9 (i : grid2.Coords) (k2_t2 : Fin k2_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v15 : BitVec 32 := Scalar.muli v1 c128_i32
  let c0_i32_14 : BitVec 32 := 0#32
  let c0_i32_7 : BitVec 32 := 0#32
  let c1_i32_9 : BitVec 32 := 1#32
  let arg12 : BitVec 32 := Scf.iv c0_i32_7 c1_i32_9 k2_t2
  let c2_i32_13 : BitVec 32 := 2#32
  let v20 : BitVec 32 := Scalar.muli arg12 c2_i32_13
  let v21 : BitVec 32 := Scalar.addi c0_i32_14 v20
  let c2_i32_58 : BitVec 32 := 2#32
  let v48 : BitVec 32 := Scalar.addi v21 c2_i32_58
  let c4_i32_59 : BitVec 32 := 4#32
  let v49 : BitVec 32 := Scalar.muli v48 c4_i32_59
  let v50 : BitVec 32 := Scalar.addi v15 v49
  let c0_i32_60 : BitVec 32 := 0#32
  ![v50.toNat, 0]
@[reducible] def k2_t7_loop : Scf.Loop 32 :=
  let c0_i32_42 : BitVec 32 := 0#32
  let c256_i32_43 : BitVec 32 := 256#32
  let v44 : BitVec 32 := Scalar.addi c0_i32_42 c256_i32_43
  let c1_i32_44 : BitVec 32 := 1#32
  ⟨c0_i32_42, v44, c1_i32_44⟩
def k2_off10 (k2_t7 : Fin k2_t7_loop.trips) : Fin 2 → Nat :=
  let c0_i32_61 : BitVec 32 := 0#32
  let v51 : Index := Scalar.indexCast c0_i32_61
  let c0_i32_59 : BitVec 32 := 0#32
  let c0_i32_42 : BitVec 32 := 0#32
  let c1_i32_44 : BitVec 32 := 1#32
  let arg13 : BitVec 32 := Scf.iv c0_i32_42 c1_i32_44 k2_t7
  let c1_i32_58 : BitVec 32 := 1#32
  let v48 : BitVec 32 := Scalar.muli arg13 c1_i32_58
  let v49 : BitVec 32 := Scalar.addi c0_i32_59 v48
  let c16_i32_60 : BitVec 32 := 16#32
  let v50 : BitVec 32 := Scalar.muli v49 c16_i32_60
  let v52 : Index := Scalar.indexCast v50
  ![0, v52.toNat]

def k2_chk9 (v63 : IVec S16 32) : Prop :=
  (∀ a x, ((![v63] : Fin 1 → IVec S16 32) a x).toNat < S32768.size a)
theorem k2_idx9_inb : ∀ (v63 : IVec S16 32) (k2_hw9 : k2_chk9 v63), ∀ a x, ((![v63] : Fin 1 → IVec S16 32) a x).toNat < S32768.size a := fun v63 k2_hw9 => k2_hw9

def k2_chk10 (v68 : IVec S16 32) : Prop :=
  (∀ a x, ((![v68] : Fin 1 → IVec S16 32) a x).toNat < S32768.size a)
theorem k2_idx10_inb : ∀ (v68 : IVec S16 32) (k2_hw10 : k2_chk10 v68), ∀ a x, ((![v68] : Fin 1 → IVec S16 32) a x).toNat < S32768.size a := fun v68 k2_hw10 => k2_hw10
@[reducible] def k2_t8_loop : Scf.Loop 32 :=
  let c0_i32_46 : BitVec 32 := 0#32
  let c256_i32_47 : BitVec 32 := 256#32
  let v45 : BitVec 32 := Scalar.addi c0_i32_46 c256_i32_47
  let c1_i32_48 : BitVec 32 := 1#32
  ⟨c0_i32_46, v45, c1_i32_48⟩
def k2_off11 (k2_t8 : Fin k2_t8_loop.trips) : Fin 2 → Nat :=
  let c1_i32_61 : BitVec 32 := 1#32
  let v51 : Index := Scalar.indexCast c1_i32_61
  let c0_i32_59 : BitVec 32 := 0#32
  let c0_i32_46 : BitVec 32 := 0#32
  let c1_i32_48 : BitVec 32 := 1#32
  let arg13 : BitVec 32 := Scf.iv c0_i32_46 c1_i32_48 k2_t8
  let c1_i32_58 : BitVec 32 := 1#32
  let v48 : BitVec 32 := Scalar.muli arg13 c1_i32_58
  let v49 : BitVec 32 := Scalar.addi c0_i32_59 v48
  let c16_i32_60 : BitVec 32 := 16#32
  let v50 : BitVec 32 := Scalar.muli v49 c16_i32_60
  let v52 : Index := Scalar.indexCast v50
  ![1, v52.toNat]

def k2_chk11 (v63 : IVec S16 32) : Prop :=
  (∀ a x, ((![v63] : Fin 1 → IVec S16 32) a x).toNat < S32768.size a)
theorem k2_idx11_inb : ∀ (v63 : IVec S16 32) (k2_hw11 : k2_chk11 v63), ∀ a x, ((![v63] : Fin 1 → IVec S16 32) a x).toNat < S32768.size a := fun v63 k2_hw11 => k2_hw11

def k2_chk12 (v68 : IVec S16 32) : Prop :=
  (∀ a x, ((![v68] : Fin 1 → IVec S16 32) a x).toNat < S32768.size a)
theorem k2_idx12_inb : ∀ (v68 : IVec S16 32) (k2_hw12 : k2_chk12 v68), ∀ a x, ((![v68] : Fin 1 → IVec S16 32) a x).toNat < S32768.size a := fun v68 k2_hw12 => k2_hw12
@[reducible] def k2_t9_loop : Scf.Loop 32 :=
  let c0_i32_50 : BitVec 32 := 0#32
  let c256_i32_51 : BitVec 32 := 256#32
  let v46 : BitVec 32 := Scalar.addi c0_i32_50 c256_i32_51
  let c1_i32_52 : BitVec 32 := 1#32
  ⟨c0_i32_50, v46, c1_i32_52⟩
def k2_off12 (k2_t9 : Fin k2_t9_loop.trips) : Fin 2 → Nat :=
  let c2_i32_61 : BitVec 32 := 2#32
  let v51 : Index := Scalar.indexCast c2_i32_61
  let c0_i32_59 : BitVec 32 := 0#32
  let c0_i32_50 : BitVec 32 := 0#32
  let c1_i32_52 : BitVec 32 := 1#32
  let arg13 : BitVec 32 := Scf.iv c0_i32_50 c1_i32_52 k2_t9
  let c1_i32_58 : BitVec 32 := 1#32
  let v48 : BitVec 32 := Scalar.muli arg13 c1_i32_58
  let v49 : BitVec 32 := Scalar.addi c0_i32_59 v48
  let c16_i32_60 : BitVec 32 := 16#32
  let v50 : BitVec 32 := Scalar.muli v49 c16_i32_60
  let v52 : Index := Scalar.indexCast v50
  ![2, v52.toNat]

def k2_chk13 (v63 : IVec S16 32) : Prop :=
  (∀ a x, ((![v63] : Fin 1 → IVec S16 32) a x).toNat < S32768.size a)
theorem k2_idx13_inb : ∀ (v63 : IVec S16 32) (k2_hw13 : k2_chk13 v63), ∀ a x, ((![v63] : Fin 1 → IVec S16 32) a x).toNat < S32768.size a := fun v63 k2_hw13 => k2_hw13

def k2_chk14 (v68 : IVec S16 32) : Prop :=
  (∀ a x, ((![v68] : Fin 1 → IVec S16 32) a x).toNat < S32768.size a)
theorem k2_idx14_inb : ∀ (v68 : IVec S16 32) (k2_hw14 : k2_chk14 v68), ∀ a x, ((![v68] : Fin 1 → IVec S16 32) a x).toNat < S32768.size a := fun v68 k2_hw14 => k2_hw14
@[reducible] def k2_t10_loop : Scf.Loop 32 :=
  let c0_i32_54 : BitVec 32 := 0#32
  let c256_i32_55 : BitVec 32 := 256#32
  let v47 : BitVec 32 := Scalar.addi c0_i32_54 c256_i32_55
  let c1_i32_56 : BitVec 32 := 1#32
  ⟨c0_i32_54, v47, c1_i32_56⟩
def k2_off13 (k2_t10 : Fin k2_t10_loop.trips) : Fin 2 → Nat :=
  let c3_i32 : BitVec 32 := 3#32
  let v51 : Index := Scalar.indexCast c3_i32
  let c0_i32_59 : BitVec 32 := 0#32
  let c0_i32_54 : BitVec 32 := 0#32
  let c1_i32_56 : BitVec 32 := 1#32
  let arg13 : BitVec 32 := Scf.iv c0_i32_54 c1_i32_56 k2_t10
  let c1_i32_58 : BitVec 32 := 1#32
  let v48 : BitVec 32 := Scalar.muli arg13 c1_i32_58
  let v49 : BitVec 32 := Scalar.addi c0_i32_59 v48
  let c16_i32_60 : BitVec 32 := 16#32
  let v50 : BitVec 32 := Scalar.muli v49 c16_i32_60
  let v52 : Index := Scalar.indexCast v50
  ![3, v52.toNat]

def k2_chk15 (v63 : IVec S16 32) : Prop :=
  (∀ a x, ((![v63] : Fin 1 → IVec S16 32) a x).toNat < S32768.size a)
theorem k2_idx15_inb : ∀ (v63 : IVec S16 32) (k2_hw15 : k2_chk15 v63), ∀ a x, ((![v63] : Fin 1 → IVec S16 32) a x).toNat < S32768.size a := fun v63 k2_hw15 => k2_hw15

def k2_chk16 (v68 : IVec S16 32) : Prop :=
  (∀ a x, ((![v68] : Fin 1 → IVec S16 32) a x).toNat < S32768.size a)
theorem k2_idx16_inb : ∀ (v68 : IVec S16 32) (k2_hw16 : k2_chk16 v68), ∀ a x, ((![v68] : Fin 1 → IVec S16 32) a x).toNat < S32768.size a := fun v68 k2_hw16 => k2_hw16
def k2_off14 (i : grid2.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_11 : BitVec 32 := 0#32
  let c0_i32_13_r1 : BitVec 32 := 0#32
  ![v1.toNat, 0, 0]
def k2_off15 (i : grid2.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_12 : BitVec 32 := 1#32
  let c0_i32_13_r2 : BitVec 32 := 0#32
  ![v1.toNat, 1, 0]
abbrev grid3 : Pipeline.Grid := .none

abbrev stage3_0 : Fin 1 → Memref sig .tc .vmem S32x2x256x128 .i32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))

abbrev stage3_1 : Fin 1 → Memref sig .tc .vmem S1x128 .i32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))

abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ReferenceIdeal.lean ====
abbrev S4096x4096 : Shape := ⟨2, ![4096, 4096]⟩
abbrev S_ : Shape := ⟨0, ![]⟩
abbrev S16777216 : Shape := ⟨1, ![16777216]⟩
abbrev S1 : Shape := ⟨1, ![1]⟩

abbrev nBuf : Space → Nat
  | .hbm => 45
  | .vmem => 0
  | .smem => 0
  | _ => 0

abbrev bufTy : (tb : Table) → Fin (tcTables nBuf tb) → BufTy
  | .hbm, ⟨0, _⟩ => ⟨S4096x4096, .i32⟩
  | .hbm, ⟨1, _⟩ => ⟨S_, .f32⟩
  | .hbm, ⟨2, _⟩ => ⟨S_, .f32⟩
  | .hbm, ⟨3, _⟩ => ⟨S16777216, .i32⟩
  | .hbm, ⟨4, _⟩ => ⟨S_, .i32⟩
  | .hbm, ⟨5, _⟩ => ⟨S16777216, .i32⟩
  | .hbm, ⟨6, _⟩ => ⟨S16777216, .i1⟩
  | .hbm, ⟨7, _⟩ => ⟨S_, .i32⟩
  | .hbm, ⟨8, _⟩ => ⟨S16777216, .i32⟩
  | .hbm, ⟨9, _⟩ => ⟨S16777216, .i32⟩
  | .hbm, ⟨10, _⟩ => ⟨S_, .i32⟩
  | .hbm, ⟨11, _⟩ => ⟨S16777216, .i32⟩
  | .hbm, ⟨12, _⟩ => ⟨S16777216, .i32⟩
  | .hbm, ⟨13, _⟩ => ⟨S16777216, .i32⟩
  | .hbm, ⟨14, _⟩ => ⟨S16777216, .f32⟩
  | .hbm, ⟨15, _⟩ => ⟨S16777216, .f32⟩
  | .hbm, ⟨16, _⟩ => ⟨S1, .f32⟩
  | .hbm, ⟨17, _⟩ => ⟨S_, .f32⟩
  | .hbm, ⟨18, _⟩ => ⟨S1, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S1, .f32⟩
  | .hbm, ⟨25, _⟩ => ⟨S_, .f32⟩
  | .hbm, ⟨26, _⟩ => ⟨S1, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | _, _ => ⟨S4096x4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_c_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩

abbrev nD : Nat := 1
abbrev τ : Topo := Topo.v7x

variable {F : FTy → Type} [FloatOps F]
-- ==== Proof.Counting.lean ====
/-
  How a histogram grows by one vector of lanes: the indexed store that adds, read as a count.

  A histogram over the first `n` words of a stream is, at bin `b`, the number of positions below `n` that are counted
  (`p`) and whose bin (`g`) is `b`, as a 32-bit word. One indexed store of sixteen ones takes the histogram of the first
  `n` words to that of the first `n + 16`.
-/
module

public import Idealize.ShloMosaic.PureOps
public import Mathlib.Order.Interval.Finset.Nat
public import Mathlib.Data.Nat.Count

@[expose] public section

namespace Cert.Proof

open Idealize.ShloMosaic

variable {F : FTy → Type} [FloatOps F]

/-- The number of positions below `n` that are counted and fall in bin `b`. -/
def tally (p : ℕ → Bool) (g : ℕ → ℕ) (n b : ℕ) : ℕ := Nat.count (fun k => p k = true ∧ g k = b) n

theorem tally_zero (p : ℕ → Bool) (g : ℕ → ℕ) (b : ℕ) : tally p g 0 b = 0 := Nat.count_zero _

/-- The tally of `n + k` positions: that of the first `n`, and that of the `k` after them. -/
theorem tally_add (p : ℕ → Bool) (g : ℕ → ℕ) (n k b : ℕ) :
    tally p g (n + k) b = tally p g n b + tally (fun i => p (n + i)) (fun i => g (n + i)) k b := Nat.count_add _ _ _

theorem tally_congr {p p' : ℕ → Bool} {g g' : ℕ → ℕ} {n : ℕ} (b : ℕ) (hp : ∀ k < n, p k = p' k) (hg : ∀ k < n, g k = g' k) :
    tally p g n b = tally p' g' n b := by
  unfold tally
  induction n with
  | zero => rw [Nat.count_zero, Nat.count_zero]
  | succ n ih =>
    rw [Nat.count_succ, Nat.count_succ, ih (fun k hk => hp k (by omega)) (fun k hk => hg k (by omega)), hp n (by omega), hg n (by omega)]

/-- A count over a list of lanes is the count over their numbers. -/
theorem countP_finRange (n : ℕ) (q : ℕ → Bool) : (List.finRange n).countP (fun k => q k.val) = Nat.count (fun k => q k = true) n := by
  have h : (List.finRange n).countP (fun k => q k.val) = (List.range n).countP q := by
    rw [← List.map_coe_finRange_eq_range, List.countP_map]; rfl
  rw [h]
  induction n with
  | zero => rfl
  | succ n ih =>
    rw [List.range_succ, List.countP_append, Nat.count_succ, ih (by
      rw [← List.map_coe_finRange_eq_range, List.countP_map]; rfl)]
    by_cases hq : q n = true <;> simp [hq]

/-- The adding indexed store of ones: every element grows by the number of set lanes that name it. -/
theorem storeIdx_ones {N : Fin 1 → ℕ} {d : Fin 1 → ℕ} (f : Vec F ⟨1, N⟩ .i32) (ix : IVec ⟨1, d⟩ 32) (v : Vec F ⟨1, d⟩ .i32) (hv : ∀ x, v x = 1#32)
    (mask : IVec ⟨1, d⟩ 1) (h : ∀ a x, ((![ix] : Fin 1 → IVec ⟨1, d⟩ 32) a x).toNat < (⟨1, N⟩ : Shape).size a) (j : (⟨1, N⟩ : Shape).Idx) :
    storeIdx (F := F) (e := .i32) f ![ix] v mask true h j
      = f j + BitVec.ofNat 32 ((List.finRange (d 0)).countP fun k => decide (mask (Shape.ofLane k) = 1 ∧ (ix (Shape.ofLane k)).toNat = (j 0).val)) := by
  unfold storeIdx
  generalize List.finRange (d 0) = l
  induction l generalizing f with
  | nil => exact (BitVec.add_zero _).symm
  | cons k l ih =>
    rw [List.foldl_cons, ih, List.countP_cons]
    have hidx : (∀ a, (j a).val = (idxAt ![ix] h (Shape.ofLane k) a).val) ↔ (ix (Shape.ofLane k)).toNat = (j 0).val :=
      ⟨fun e => (e 0).symm, fun e a => by rw [Fin.eq_zero a]; exact e.symm⟩
    by_cases hm : mask (Shape.ofLane k) = 1
    · by_cases hj : (ix (Shape.ofLane k)).toNat = (j 0).val
      · have hji : j = idxAt ![ix] h (Shape.ofLane k) := funext fun a => Fin.ext (hidx.mpr hj a)
        simp only [hm, if_true, hidx.mpr hj, hj, and_self, decide_true]
        rw [if_pos (fun a => trivial), ← hji, Elt.idxAdd_i32, hv, BitVec.add_assoc]
        congr 1
        rw [BitVec.ofNat_add, BitVec.add_comm]
      · simp only [hm, if_true, hj, and_false, decide_false]
        rw [if_neg (fun e => hj (hidx.mp e))]
        simp
    · have hm' : ¬ mask (Shape.ofLane k) = 1#1 := hm
      simp [hm']

/-- One vector of sixteen lanes: the histogram of the first `n` positions becomes that of the first `n + 16`, given that
    lane `k` is set exactly when position `n + k` is counted and then names that position's bin. -/
theorem storeIdx_tally {N : Fin 1 → ℕ} (p : ℕ → Bool) (g : ℕ → ℕ) (n : ℕ) (f : Vec F ⟨1, N⟩ .i32)
    (hf : ∀ j, f j = BitVec.ofNat 32 (tally p g n (j 0).val)) (ix : IVec ⟨1, ![16]⟩ 32) (v : Vec F ⟨1, ![16]⟩ .i32) (hv : ∀ x, v x = 1#32)
    (mask : IVec ⟨1, ![16]⟩ 1) (h : ∀ a x, ((![ix] : Fin 1 → IVec ⟨1, ![16]⟩ 32) a x).toNat < (⟨1, N⟩ : Shape).size a)
    (hm : ∀ x : (⟨1, ![16]⟩ : Shape).Idx, mask x = 1 ↔ p (n + (x 0).val) = true)
    (hix : ∀ x : (⟨1, ![16]⟩ : Shape).Idx, p (n + (x 0).val) = true → (ix x).toNat = g (n + (x 0).val)) (j : (⟨1, N⟩ : Shape).Idx) :
    storeIdx (F := F) (e := .i32) f ![ix] v mask true h j = BitVec.ofNat 32 (tally p g (n + 16) (j 0).val) := by
  rw [storeIdx_ones f ix v hv mask h j, hf, tally_add, BitVec.ofNat_add]
  congr 2
  have hl : (fun k : Fin (![16] 0) => decide (mask (Shape.ofLane k) = 1 ∧ (ix (Shape.ofLane k)).toNat = (j 0).val))
      = fun k : Fin (![16] 0) => (fun i => decide (p (n + i) = true ∧ g (n + i) = (j 0).val)) k.val := funext fun k => by
    have hm' := hm (Shape.ofLane k); have hix' := hix (Shape.ofLane k)
    have e : ((Shape.ofLane k : (⟨1, ![16]⟩ : Shape).Idx) 0).val = k.val := rfl
    rw [e] at hm' hix'
    exact decide_eq_decide.mpr ⟨fun ⟨a, b⟩ => ⟨hm'.mp a, (hix' (hm'.mp a)).symm.trans b⟩, fun ⟨a, b⟩ => ⟨hm'.mpr a, (hix' a).trans b⟩⟩
  rw [hl, countP_finRange (![16] 0) (fun i => decide (p (n + i) = true ∧ g (n + i) = (j 0).val))]
  simp only [decide_eq_true_eq]
  rfl

end Cert.Proof
-- ==== Proof.Words.lean ====
/-
  The words the kernel counts, as a stream, and what each histogram is of it.

  The array of 4096 rows of 4096 words is read row by row; tile `t` of the thirty-two reads rows `128 t … 128 t + 127`,
  positions `524288 t …` of the stream. A word's key is the word with its sign bit flipped when it is non-negative and
  all its bits flipped when it is negative, so that keys are in the order of the floats.
-/
module

public import Idealize.ShloMosaic.PureOps
public import proofs.«01_k».proof.Proof.Counting

@[expose] public section

namespace Cert.Proof

open Idealize.ShloMosaic

/-- The shape of the input. -/
abbrev SX : Shape := ⟨2, ![4096, 4096]⟩

/-- Row `r`, column `c` of the input, as an index (numbers past the ends wrap). -/
def rc (r c : ℕ) : SX.Idx := fun
  | 0 => ⟨r % 4096, Nat.mod_lt _ (by decide)⟩
  | 1 => ⟨c % 4096, Nat.mod_lt _ (by decide)⟩

/-- The input's words in the order they lie, row after row. -/
def flat (x : SX.Idx → BitVec 32) (n : ℕ) : BitVec 32 := x (rc (n / 4096) n)

/-- An element of the input is the word of the stream at its row times 4096 plus its column. -/
theorem flat_rc (x : SX.Idx → BitVec 32) (r c : ℕ) (hr : r < 4096) (hc : c < 4096) : flat x (r * 4096 + c) = x (rc r c) := by
  unfold flat
  congr 1
  funext a
  match a with
  | 0 => exact Fin.ext (show (r * 4096 + c) / 4096 % 4096 = r % 4096 by omega)
  | 1 => exact Fin.ext (show (r * 4096 + c) % 4096 = c % 4096 by omega)

theorem rc_self (j : SX.Idx) : rc (j 0).val (j 1).val = j := by
  funext a
  match a with
  | 0 => exact Fin.ext (Nat.mod_eq_of_lt (j 0).isLt)
  | 1 => exact Fin.ext (Nat.mod_eq_of_lt (j 1).isLt)

/-- The stream of one tile: the words from position `524288 t` on. -/
def tileStream (x : SX.Idx → BitVec 32) (t : ℕ) (n : ℕ) : BitVec 32 := flat x (t * 524288 + n)

/-- A word's key: in the order of the floats, as unsigned words. -/
def key (w : BitVec 32) : BitVec 32 := w ^^^ ((w.sshiftRight 31) ||| 0x80000000#32)

/-- The top sixteen bits of a word's key. -/
def hi16 (w : BitVec 32) : BitVec 32 := key w >>> 16

/-- The fourteen bits of a word's key below those. -/
def low14 (w : BitVec 32) : BitVec 32 := (key w >>> 2) &&& 0x3FFF#32

/-- Every word is counted. -/
def always (_ : ℕ) : Bool := true

/-- The first histogram's bin of the word at position `n`. -/
def binHi (X : ℕ → BitVec 32) (n : ℕ) : ℕ := (hi16 (X n)).toNat

theorem binHi_lt (X : ℕ → BitVec 32) (n : ℕ) : binHi X n < 65536 := by
  unfold binHi hi16
  rw [BitVec.toNat_ushiftRight, Nat.shiftRight_eq_div_pow]
  have := (key (X n)).isLt
  omega

/-- Whether the second histogram for the prefixes `p0` and `p1` counts the word at position `n`. -/
def inPair (p0 p1 : BitVec 32) (X : ℕ → BitVec 32) (n : ℕ) : Bool := decide (hi16 (X n) = p0) || decide (hi16 (X n) = p1)

/-- Its bin there: the fourteen bits, in the upper half when its prefix is `p1`. -/
def binLow (p1 : BitVec 32) (X : ℕ → BitVec 32) (n : ℕ) : ℕ :=
  (if hi16 (X n) = p1 then low14 (X n) ||| 0x4000#32 else low14 (X n)).toNat

theorem binLow_lt (p1 : BitVec 32) (X : ℕ → BitVec 32) (n : ℕ) : binLow p1 X n < 32768 := by
  unfold binLow low14
  generalize key (X n) = k
  have h : ∀ y : BitVec 32, (y &&& 0x3FFF#32).toNat < 16384 := fun y => by
    rw [BitVec.toNat_and]; exact lt_of_le_of_lt Nat.and_le_right (by decide)
  split
  · rw [BitVec.toNat_or]
    exact Nat.or_lt_two_pow (n := 15) (lt_trans (h _) (by decide)) (by decide)
  · exact lt_trans (h _) (by decide)

end Cert.Proof

end
-- ==== Proof.Setup.lean ====
/-
  The program as the launch theorem for programs with SparseCore calls sees it, the ghost state of the proof, and the
  steps both SparseCore bodies are made of: a transfer issued and waited for, an addition of sixteen ones to a histogram.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Pipeline.Regions
public import Idealize.ShloMosaic.Lib.Tactic
public import Idealize.ShloMosaic.Lib.Transfers
public import Idealize.ShloMosaic.Lib.WritesUnit
public import proofs.«01_k».proof.Proof.Gen.KernelIdeal
public import proofs.«01_k».proof.Proof.Gen.KernelIdeal.Skeleton
public import proofs.«01_k».proof.Proof.Gen.KernelIdeal.Launch
public import proofs.«01_k».proof.Proof.Words

@[expose] public section

noncomputable section

namespace Cert.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Tactic

variable {F : FTy → Type}

/-! ## The program -/

abbrev ΛP : Labels := Pipeline.Sig Λ₀ (Fin 2) fun p => (pcfgs (F := F) p).Adm
abbrev K : SparseCore.Cfg τ sig (ΛP (F := F)) 2 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds, the two TensorCore pipelines' rounds, the transfers' counters -/

abbrev UH : Type := URounds (GSem nD τ sig) ℕ
abbrev UP : Type := URounds (GSem nD τ sig) Unit
abbrev UU : Type := UH × (UP × Counters)

/-- The algebra every assertion of the proof is over. -/
abbrev Mach (F : FTy → Type) : Type := MT nD τ sig (HIx 2) (Elt F) ℕ UU ℕ

abbrev EH : Emb UH (Mach F) := embL
/-- The pipelines' rounds: the left factor of the right factor. -/
def EP : Emb UP (Mach F) := (Emb.inl : Emb UP (UP × Counters)).trans embR

instance EP_landsIn : (EP : Emb UP (Mach F)).LandsIn (upEmb : UEmb _ (Mach F)) := by unfold EP; infer_instance

/-! ## What a thread owes, with the waits it made forgotten -/

/-- The thread owes `O`, and has made the waits of `W` and others at the index of no call. -/
def Owes (thr : Thread nD τ) (O : CellTallies nD τ sig (HIx 2)) (W : Waits sig (HIx 2)) : sProp (Mach F) :=
  iprop(∃ W', ⌜∀ p ∈ W', p ∈ W ∨ p.2 = none⌝ ∗ owes thr O W')

theorem Owes.intro (thr : Thread nD τ) (O : CellTallies nD τ sig (HIx 2)) (W : Waits sig (HIx 2)) :
    (owes thr O W : sProp (Mach F)) ⊢ Owes thr O W := by
  unfold Owes
  iintro H
  iexists W
  isplitr
  · ipureintro; exact fun p hp => .inl hp
  · iexact H

/-! ## A transfer in flight -/

/-- A transfer in flight on cell `sm` of thread `thr`, crediting `N`, after which `A` holds. -/
def Fetch (thr : Thread nD τ) (sm : SemLoc sig) (N : ℕ) (A : sProp (Mach F)) : sProp (Mach F) :=
  iprop(∃ B, Flight countersEmb thr sm none N B ∗ (B -∗ A))

variable [FloatOps F]

section Steps

variable (thr : Thread nD τ) {Q : PUnit → sProp (Mach F)}

/-- Issue: a share of the source's array, the destination's elements and the cell at zero become a transfer after which
    the destination holds what the source's view reads, the source's share as it was. -/
theorem fetch_issue {sp sp' : Space} {s : Shape} {e : EltTy}
    {src : Memref sig thr.2.kind sp s e} {dst : Memref sig thr.2.kind sp' s e} {sm : SemLoc sig}
    {hsrc : src.view.WordExact} {hdst : dst.view.WordExact} {hsem : DmaTarget.Typed (nD := nD) sp sm (.here dst)}
    {α : Type} {Q : α → sProp (Mach F)}
    {k : PUnit → Prog (TpuEff nD τ sig (Elt F) Λ₀ thr.2) α} {q : PosShare TreeShare} {fs : Buf (Elt F) (src.view.loc thr)}
    {Ss : Finset (Idx (src.view.loc thr))} {fd : Buf (Elt F) (dst.view.loc thr)} (hSs : src.view.set ⊆ Ss)
    (N : ℕ) (hN : dst.view.amount sm = N) (hN0 : 0 < N) :
    iprop((src.view.loc thr ↦[Ss]{q} fs) ∗ (dst.view.loc thr ↦[dst.view.set]{fullShare} fd) ∗ semVal (thr, sm) 0)
      ⊢ iprop((Fetch thr sm N iprop((dst.view.loc thr ↦[dst.view.set]{fullShare} (dst.view.write (Elt F) fd (src.view.read (Elt F) fs) Finset.univ))
                ∗ (src.view.loc thr ↦[Ss]{q} fs))
              -∗ wp frame (wpE (defs₀ (F := F)) 𝒱₀ thr none) Set.univ (k ⟨⟩) Q)
          -∗ wp frame (wpE (defs₀ (F := F)) 𝒱₀ thr none) Set.univ (.op (.enqueueDmaAs src (.here dst) .same sm hsrc hdst hsem) k) Q) := by
  iintro ⟨Hs, Hd, Hv⟩ Hk
  ihave Hs' := ((pointsTo_split_subset hSs).1) $$ Hs
  icases Hs' with ⟨Hs, Hrest⟩
  iapply (Transfers.wp_dmaLocal countersEmb 𝒱₀ thr none (none : HIx 2) N hN hN0 (Finset.Subset.refl _)) $$ [Hs Hd Hv]
  · isplitl [Hs]; · iexact Hs
    isplitl [Hd] <;> iassumption
  iintro HF
  iapply Hk
  unfold Fetch
  iexists _
  isplitl [HF]; · iexact HF
  iintro ⟨Hd, Hs⟩
  isplitl [Hd]; · iexact Hd
  iapply (pointsTo_split_subset hSs).2
  isplitl [Hs] <;> iassumption

/-- Wait: the transfer's promise, the cell back at zero. -/
theorem fetch_wait {sp sp' : Space} {s s' : Shape} {e e' : EltTy} {κ' : Kind} {sem : DmaSem sig}
    {srcw : Memref sig thr.2.kind sp' s' e'} {dstw : Memref sig κ' sp s e} {hsrc : srcw.view.WordExact} {hdst : dstw.view.WordExact}
    {α : Type} {Q : α → sProp (Mach F)}
    {k : PUnit → Prog (TpuEff nD τ sig (Elt F) Λ₀ thr.2) α} {N : ℕ} (hN : dstw.view.dmaCredit = N) {A : sProp (Mach F)}
    {O : CellTallies nD τ sig (HIx 2)} {W : Waits sig (HIx 2)} (hO : ∀ g, O g none = 0) :
    iprop(levAts (K (F := F)).L (K (F := F)).lev ∗ Fetch thr (.dma sem) N A ∗ Owes thr O W)
      ⊢ iprop((iprop(A ∗ semVal (thr, .dma sem) 0 ∗ Owes thr O W) -∗ wp frame (wpE (defs₀ (F := F)) 𝒱₀ thr none) Set.univ (k ⟨⟩) Q)
          -∗ wp frame (wpE (defs₀ (F := F)) 𝒱₀ thr none) Set.univ (.op (.waitDma2 sem srcw dstw hsrc hdst) k) Q) := by
  unfold Fetch Owes
  iintro ⟨#Hlv, ⟨%B, HF, HBA⟩, ⟨%W', %hW', HO⟩⟩ Hk
  iapply (Transfers.wp_waitLocalO countersEmb 𝒱₀ thr none (none : HIx 2) hN) $$ [HF HO]
  · isplitl [HF]; · iexact HF
    isplitl [HO]; · iexact HO
    iapply ((K (F := F)).mayWait_none (SemLoc.dma sem) hO); iexact Hlv
  iintro ⟨HB, Hv, HO⟩
  iapply Hk
  isplitl [HB HBA]
  · iapply HBA; iexact HB
  isplitl [Hv]; · iexact Hv
  iexists (insert (SemLoc.dma sem, none) W')
  isplitr
  · ipureintro
    intro p hp
    rcases Finset.mem_insert.mp hp with rfl | hp
    · exact .inr rfl
    · exact hW' p hp
  iexact HO

/-! ## A histogram in a scratch buffer -/

theorem whole_emb {s : Shape} (j : s.Idx) : (Rect.whole s).emb j = j :=
  funext fun a => Fin.ext (show 0 + 1 * (j a).val = (j a).val by omega)

theorem read_access_whole {κ : Kind} {sp : Space} {s : Shape} {e : EltTy} (m : Memref sig κ sp s e) (f : m.view.ty.Contents (Elt F)) :
    (m.access (.whole s)).read (Elt F) f = m.view.read (Elt F) f :=
  funext fun j => (show (m.access (.whole s)).read (Elt F) f j = m.view.read (Elt F) f ((Rect.whole s).emb j) from rfl).trans
    (congrArg _ (whole_emb j))

theorem set_access_whole' {κ : Kind} {sp : Space} {s : Shape} {e : EltTy} (m : Memref sig κ sp s e) :
    (m.access (.whole s)).set = m.view.set := by
  show (m.view.slice (Rect.whole s)).set = _
  rw [View.set_slice, Rect.set_whole]
  rfl

/-- The scratch `h` of `N` words holds the tally of the first `n` positions. -/
def HistIs {N : Fin 1 → ℕ} (h : Memref sig thr.2.kind .vmem ⟨1, N⟩ .i32) (p : ℕ → Bool) (g : ℕ → ℕ) (n : ℕ) : sProp (Mach F) :=
  iprop(∃ f, ⌜∀ j, h.view.read (Elt F) f j = BitVec.ofNat 32 (tally p g n (j 0).val)⌝
    ∗ h.view.loc thr ↦[h.view.set]{fullShare} f)

/-- One addition of sixteen ones, masked, takes the histogram of `n` positions to that of `n + 16`. -/
theorem hist_step {N : Fin 1 → ℕ} {h : Memref sig thr.2.kind .vmem ⟨1, N⟩ .i32} (p : ℕ → Bool) (g : ℕ → ℕ) (n : ℕ)
    {ix : IVec ⟨1, ![16]⟩ 32} {v : Vec F ⟨1, ![16]⟩ .i32} (hv : ∀ x, v x = 1#32) {mask : IVec ⟨1, ![16]⟩ 1}
    {hb : ∀ a x, ((![ix] : Fin 1 → IVec ⟨1, ![16]⟩ 32) a x).toNat < (⟨1, N⟩ : Shape).size a}
    (hm : ∀ x, mask x = 1 ↔ p (n + (x 0).val) = true) (hix : ∀ x, p (n + (x 0).val) = true → (ix x).toNat = g (n + (x 0).val))
    {hs : (h.access (.whole _)).Stores Finset.univ} {α : Type} {Q : α → sProp (Mach F)}
    {k : PUnit → Prog (TpuEff nD τ sig (Elt F) Λ₀ thr.2) α} :
    HistIs thr h p g n
      ⊢ iprop((HistIs thr h p g (n + 16) -∗ wp frame (wpE (defs₀ (F := F)) 𝒱₀ thr none) Set.univ (k ⟨⟩) Q)
          -∗ wp frame (wpE (defs₀ (F := F)) 𝒱₀ thr none) Set.univ (SparseCore.vectorStoreIdx h ![ix] v mask true hb hs >>= k) Q) := by
  unfold HistIs
  rw [← set_access_whole' h]
  iintro ⟨%f, %hf, H⟩ Hk
  iapply (SparseCore.wp_vectorStoreIdx 𝒱₀ thr none Set.univ (base := h)) $$ H
  iintro H
  iapply Hk
  iexists _
  isplitr
  swap
  · iexact H
  ipureintro
  intro j
  rw [← read_access_whole, View.read_write_univ]
  exact storeIdx_tally p g n _ (fun j => by rw [read_access_whole]; exact hf j) ix v hv mask hb hm hix j

/-- The scratch's elements below `n` are zero. -/
def ZeroBelow {N : Fin 1 → ℕ} (h : Memref sig thr.2.kind .vmem ⟨1, N⟩ .i32) (n : ℕ) : sProp (Mach F) :=
  iprop(∃ f, ⌜∀ j, (j 0).val < n → h.view.read (Elt F) f j = 0#32⌝ ∗ h.view.loc thr ↦[h.view.set]{fullShare} f)

/-- Any contents have no element below 0. -/
theorem ZeroBelow.intro {N : Fin 1 → ℕ} (h : Memref sig thr.2.kind .vmem ⟨1, N⟩ .i32) (f : Buf (Elt F) (h.view.loc thr)) :
    (h.view.loc thr ↦[h.view.set]{fullShare} f : sProp (Mach F)) ⊢ ZeroBelow thr h 0 := by
  unfold ZeroBelow
  iintro H
  iexists f
  isplitr
  · ipureintro; exact fun j hj => absurd hj (Nat.not_lt_zero _)
  · iexact H

/-- All zero is the histogram of no position. -/
theorem ZeroBelow.hist {N : Fin 1 → ℕ} (h : Memref sig thr.2.kind .vmem ⟨1, N⟩ .i32) {n : ℕ} (hn : N 0 ≤ n) (p : ℕ → Bool) (g : ℕ → ℕ) :
    (ZeroBelow thr h n : sProp (Mach F)) ⊢ HistIs thr h p g 0 := by
  unfold ZeroBelow HistIs
  iintro ⟨%f, %hf, H⟩
  iexists f
  isplitr
  · ipureintro
    intro j
    rw [tally_zero]
    exact hf j (lt_of_lt_of_le (j 0).isLt hn)
  · iexact H

/-- A load and a store of sixteen zeros at element `n` take "zero below `n`" to "zero below `n + 16`". -/
theorem zero_step {N : Fin 1 → ℕ} {h : Memref sig thr.2.kind .vmem ⟨1, N⟩ .i32} {off : Fin 1 → ℕ} (n : ℕ) (hoff : off = ![n])
    {inb : ∀ a, off a + (![16] : Fin 1 → ℕ) a ≤ (⟨1, N⟩ : Shape).size a} {w : Vec F ⟨1, ![16]⟩ .i32} (hw : ∀ x, w x = 0#32)
    {hl : h.view.LoadsAt (Rect.unit (s := ⟨1, N⟩) off ![16] inb).toLoadRect}
    {hx : (h.access (Rect.unit (s := ⟨1, N⟩) off ![16] inb)).Stores Finset.univ}
    {hm : (Finset.univ : Finset (Rect.unit (s := ⟨1, N⟩) off ![16] inb).shape.Idx) = Finset.univ ∨ ∀ a, (Rect.unit (s := ⟨1, N⟩) off ![16] inb).stride a = 1}
    {α : Type} {Q : α → sProp (Mach F)} {k : PUnit → Prog (TpuEff nD τ sig (Elt F) Λ₀ thr.2) α} :
    ZeroBelow thr h n
      ⊢ iprop((ZeroBelow thr h (n + 16) -∗ wp frame (wpE (defs₀ (F := F)) 𝒱₀ thr none) Set.univ (k ⟨⟩) Q)
          -∗ wp frame (wpE (defs₀ (F := F)) 𝒱₀ thr none) Set.univ
            (.op (.load h (Rect.unit (s := ⟨1, N⟩) off ![16] inb).toLoadRect hl) fun _ =>
              .op (.store h (Rect.unit (s := ⟨1, N⟩) off ![16] inb) w Finset.univ hx hm) k) Q) := by
  unfold ZeroBelow
  iintro ⟨%f, %hf, H⟩ Hk
  iapply (wp_load 𝒱₀ thr none Set.univ (m := h) (View.setOn_subset_set _ _)) $$ H
  iintro H
  iapply (wp_store 𝒱₀ thr none Set.univ (m := h) (r := Rect.unit (s := ⟨1, N⟩) off ![16] inb) (Mk := Finset.univ) (S := h.view.set) (Memref.setOn_access_subset _ _ _)) $$ H
  iintro H
  iapply Hk
  iexists _
  isplitr
  swap
  · iexact H
  ipureintro
  intro j hj
  have e := View.read_writes_cons_unit h.view f (size := ![16]) inb w [] j hoff
  simp only [View.writes_cons, View.writes_nil] at e
  refine Eq.trans e ?_
  split
  · exact hw _
  · rename_i hn
    refine hf j (lt_of_not_ge fun hge => hn fun a => ?_)
    obtain rfl : a = 0 := Subsingleton.elim _ _
    exact ⟨hge, hj⟩

/-! ## Four rows of the input in a buffer -/

/-- The buffer `b` holds the stream's words from position `n` on. -/
def ChunkIs (b : Memref sig thr.2.kind .vmem ⟨2, ![4, 4096]⟩ .i32) (X : ℕ → BitVec 32) (n : ℕ) : sProp (Mach F) :=
  iprop(∃ f, ⌜∀ j, b.view.read (Elt F) f j = X (n + ((j 0).val * 4096 + (j 1).val))⌝
    ∗ b.view.loc thr ↦[b.view.set]{fullShare} f)

/-- The sixteen words a load of the buffer reads at row `r`, column `c`. -/
theorem chunk_load {b : Memref sig thr.2.kind .vmem ⟨2, ![4, 4096]⟩ .i32} {X : ℕ → BitVec 32} {n : ℕ} (r c : ℕ) {off : Fin 2 → ℕ} (hoff : off = ![r, c])
    {inb : ∀ a, off a + (![1, 16] : Fin 2 → ℕ) a ≤ (⟨2, ![4, 4096]⟩ : Shape).size a}
    {hl : b.view.LoadsAt (Rect.unit (s := ⟨2, ![4, 4096]⟩) off ![1, 16] inb).toLoadRect}
    {α : Type} {Q : α → sProp (Mach F)} {k : (Vec F ⟨2, ![1, 16]⟩ .i32) → Prog (TpuEff nD τ sig (Elt F) Λ₀ thr.2) α} :
    ChunkIs thr b X n
      ⊢ iprop((∀ v : Vec F ⟨2, ![1, 16]⟩ .i32, ⌜∀ x, v x = X (n + (r * 4096 + c) + (x 1).val)⌝ -∗ ChunkIs thr b X n
              -∗ wp frame (wpE (defs₀ (F := F)) 𝒱₀ thr none) Set.univ (k v) Q)
          -∗ wp frame (wpE (defs₀ (F := F)) 𝒱₀ thr none) Set.univ
            (.op (.load b (Rect.unit (s := ⟨2, ![4, 4096]⟩) off ![1, 16] inb).toLoadRect hl) k) Q) := by
  unfold ChunkIs
  iintro ⟨%f, %hf, H⟩ Hk
  iapply (wp_load 𝒱₀ thr none Set.univ (m := b) (View.setOn_subset_set _ _)) $$ H
  iintro H
  ispecialize Hk $$ %_
  iapply Hk $$ []
  · ipureintro
    intro x
    subst hoff
    rw [View.readAt_apply]
    refine (hf _).trans (congrArg X ?_)
    have h0 : (x 0).val = 0 := by have := (x 0).isLt; simp only [Matrix.cons_val_zero] at this; omega
    show n + ((r + 1 * (x 0).val) * 4096 + (c + 1 * (x 1).val)) = _
    rw [h0]; omega
  · iexists f
    isplitr
    · ipureintro; exact hf
    · iexact H

end Steps

end Cert.Proof

end
-- ==== Proof.Tiles.lean ====
/-
  What both SparseCore bodies do with the shared arrays: four rows of the input fetched into a buffer, and a scratch
  buffer written out.
-/
module

public import proofs.«01_k».proof.Proof.Setup

@[expose] public section

noncomputable section

namespace Cert.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Tactic

variable {F : FTy → Type} [FloatOps F]

/-- The input, on device `d`. -/
abbrev xLoc (d : Dev nD) : Loc nD τ sig := (SparseCore.T d).loc main_arg0
abbrev xMem : Memref sig .scVector .hbm S4096x4096 .i32 := Memref.whole main_arg0_scv

/-- A transfer into the whole of buffer `b` credits this much. -/
abbrev credit {κ : Kind} {sp : Space} {s : Shape} {e : EltTy} (b : Memref sig κ sp s e) : ℕ := b.view.dmaCredit

section

variable (d : Dev nD) (c : Fin τ.nSC) (s : Fin τ.nSub)

/-- A step proved alone, then what follows it. -/
theorem wp_then {thr : Thread nD τ} {α β : Type} {A : sProp (Mach F)} {p : Prog (TpuEff nD τ sig (Elt F) Λ₀ thr.2) α} {Q : α → sProp (Mach F)}
    {k : α → Prog (TpuEff nD τ sig (Elt F) Λ₀ thr.2) β} {Q' : β → sProp (Mach F)}
    (h : A ⊢ wp frame (wpE (defs₀ (F := F)) 𝒱₀ thr none) Set.univ p Q) :
    A ⊢ iprop((∀ a, Q a -∗ wp frame (wpE (defs₀ (F := F)) 𝒱₀ thr none) Set.univ (k a) Q')
      -∗ wp frame (wpE (defs₀ (F := F)) 𝒱₀ thr none) Set.univ (p >>= k) Q') := by
  rw [wp_bind]
  exact h.trans (wp_wand frame _ _)

/-- A buffer at some contents. -/
def AnyBuf {sp : Space} {sh : Shape} {e : EltTy} (b : Memref sig .scVector sp sh e) : sProp (Mach F) :=
  iprop(∃ f, b.view.loc (V d c s) ↦[b.view.set]{fullShare} f)

theorem ChunkIs.any {b : Memref sig .scVector .vmem ⟨2, ![4, 4096]⟩ .i32} {X : ℕ → BitVec 32} {n : ℕ} :
    (ChunkIs (V d c s) b X n : sProp (Mach F)) ⊢ AnyBuf d c s b := by
  unfold ChunkIs AnyBuf
  iintro ⟨%f, -, H⟩
  iexists f
  iexact H

theorem HistIs.any {N : Fin 1 → ℕ} {b : Memref sig .scVector .vmem ⟨1, N⟩ .i32} {p : ℕ → Bool} {g : ℕ → ℕ} {n : ℕ} :
    (HistIs (V d c s) b p g n : sProp (Mach F)) ⊢ AnyBuf d c s b := by
  unfold HistIs AnyBuf
  iintro ⟨%f, -, H⟩
  iexists f
  iexact H

open SparseCore.Cfg (ownCells ownRefs ownSems0 ownBufs mem_ownCells mem_ownRefs_of_owner)

/-- A cell of the tile. -/
def cellOf : SemLoc sig ↪ GSem nD τ sig := ⟨fun sm => (V d c s, sm), fun _ _ e => (Prod.mk.inj e).2⟩
/-- A buffer of the tile. -/
def bufOf : Ref sig .scVector ↪ DevRef τ sig := ⟨fun r => (Proc.scVector c s).devRef r, fun _ _ e => Proc.devRef_injective (Proc.scVector c s) e⟩

/-- The tile's semaphores at zero: some of them, named, and the rest. -/
theorem sems_take (A : Finset (SemLoc sig)) (hA : ∀ sm ∈ A, sm.isScoped .scVector = true) :
    (ownSems0 (V d c s) : sProp (Mach F)) = iprop((bigSep A fun sm => semVal (V d c s, sm) 0)
      ∗ bigSep (ownCells (V d c s) \ A.map (cellOf d c s)) fun g => semVal g 0) := by
  unfold SparseCore.Cfg.ownSems0
  rw [SparseCore.bigSep_sdiff_split' (t := A.map (cellOf d c s)), BI.bigSep_map]
  · rfl
  · intro g hg
    obtain ⟨sm, hsm, rfl⟩ := Finset.mem_map.mp hg
    exact mem_ownCells.mpr ⟨rfl, hA sm hsm⟩

/-- The tile's buffers at some contents: some of them, named, and the rest. -/
theorem bufs_take (A : Finset (Ref sig .scVector)) (hA : ∀ r ∈ A, ((Proc.scVector c s).devRef (sig := sig) r).owner = .proc (.scVector c s)) :
    (ownBufs (V d c s) : sProp (Mach F)) = iprop((bigSep A fun r => iprop(∃ f, (V d c s).loc r ↦{fullShare} f))
      ∗ bigSep (ownRefs (.scVector c s) \ A.map (bufOf c s)) fun b => iprop(∃ f, ((d, b) : Loc nD τ sig) ↦{fullShare} f)) := by
  unfold SparseCore.Cfg.ownBufs
  rw [show ((V d c s).2 : Proc τ) = .scVector c s from rfl, SparseCore.bigSep_sdiff_split' (t := A.map (bufOf c s)), BI.bigSep_map]
  · rfl
  · intro b hb
    obtain ⟨r, hr, rfl⟩ := Finset.mem_map.mp hb
    exact mem_ownRefs_of_owner (hA r hr)

/-- A whole buffer at some contents, as its memref's. -/
theorem anyBuf_whole (r : Ref sig .scVector) :
    (AnyBuf d c s (Memref.whole r) : sProp (Mach F)) = iprop(∃ f, (V d c s).loc r ↦{fullShare} f) := by
  unfold AnyBuf
  simp only [Memref.view_whole, View.set_whole]

/-- The fetch of rows `r0 … r0 + 3` into buffer `b`, issued: when it lands the buffer holds the stream from there on. -/
theorem chunk_fetch {b : Memref sig .scVector .vmem ⟨2, ![4, 4096]⟩ .i32} {off : Fin 2 → ℕ} (r0 : ℕ) (hoff : off = ![r0, 0])
    {inb : ∀ a, off a + S4x4096.size a ≤ S4096x4096.size a} {hst : ∀ a, (Rect.unit (s := S4096x4096) off S4x4096.size inb).stride a = 1}
    (x : Buf (Elt F) (xLoc d)) (q : PosShare TreeShare) (X : ℕ → BitVec 32) (n : ℕ) (hX : ∀ k < 16384, X (n + k) = flat x (r0 * 4096 + k))
    {sm : DmaSem sig} {hsrc : (xMem.slice (Rect.unit (s := S4096x4096) off S4x4096.size inb) hst).view.WordExact} {hdst : b.view.WordExact}
    {hsem : DmaTarget.Typed (nD := nD) (p := (V d c s).2) .hbm (.dma sm) (.here b)}
    {α : Type} {Q : α → sProp (Mach F)} {k : PUnit → Prog (TpuEff nD τ sig (Elt F) Λ₀ (V d c s).2) α} :
    iprop((xLoc d ↦{q} x) ∗ AnyBuf d c s b ∗ semVal (V d c s, .dma sm) 0)
      ⊢ iprop((Fetch (V d c s) (.dma sm) (credit b) iprop(ChunkIs (V d c s) b X n ∗ (xLoc d ↦{q} x))
              -∗ wp frame (wpE (defs₀ (F := F)) 𝒱₀ (V d c s) none) Set.univ (k ⟨⟩) Q)
          -∗ wp frame (wpE (defs₀ (F := F)) 𝒱₀ (V d c s) none) Set.univ
            (.op (.enqueueDmaAs (xMem.slice (Rect.unit (s := S4096x4096) off S4x4096.size inb) hst) (.here b) .same (.dma sm) hsrc hdst hsem) k) Q) := by
  subst hoff
  unfold AnyBuf
  iintro ⟨Hx, ⟨%fd, Hb⟩, Hv⟩ Hk
  iapply (fetch_issue (V d c s) (src := xMem.slice (Rect.unit (s := S4096x4096) _ S4x4096.size inb) hst) (dst := b) (fs := x)
    (Ss := Finset.univ) (Finset.subset_univ _) (credit b) rfl (View.dmaCredit_pos _ (by decide))) $$ [Hx Hb Hv]
  · isplitl [Hx]; · iexact Hx
    isplitl [Hb] <;> iassumption
  iintro HF
  iapply Hk
  unfold Fetch
  icases HF with ⟨%B, HF, HB⟩
  iexists B
  isplitl [HF]; · iexact HF
  iintro H
  ihave H' := HB $$ H
  icases H' with ⟨Hb, Hx⟩
  isplitl [Hb]
  · unfold ChunkIs
    iexists _
    isplitr
    swap
    · iexact Hb
    ipureintro
    intro j
    rw [View.read_write_univ]
    have hr : r0 + 4 ≤ 4096 := inb 0
    have h0 : (j 0).val < 4 := (j 0).isLt
    have h1 : (j 1).val < 4096 := (j 1).isLt
    rw [hX _ (by omega), show r0 * 4096 + ((j 0).val * 4096 + (j 1).val) = (r0 + (j 0).val) * 4096 + (j 1).val by omega,
      flat_rc _ _ _ (by omega) h1]
    refine ((View.read_apply _ _).trans (cast_eq _ _)).trans (congrArg x ?_)
    funext a
    match a with
    | 0 => exact Fin.ext (show r0 + 1 * (j 0).val = (r0 + (j 0).val) % 4096 by omega)
    | 1 => exact Fin.ext (show 0 + 1 * (j 1).val = (j 1).val % 4096 by omega)
  · iexact Hx

/-- A scratch histogram written to the view `v` of an array, issued: when it lands the array's elements under the view are
    those of `G`, as long as `G` has the tallies there. -/
theorem hist_out {N : Fin 1 → ℕ} {h : Memref sig .scVector .vmem ⟨1, N⟩ .i32} {dst : Memref sig .scVector .hbm ⟨1, N⟩ .i32}
    {p : ℕ → Bool} {g : ℕ → ℕ} {n : ℕ} (G : Buf (Elt F) (dst.view.loc (V d c s)))
    (hG : ∀ y, dst.view.read (Elt F) G y = BitVec.ofNat 32 (tally p g n (y 0).val)) (hpos : 0 < (⟨1, N⟩ : Shape).numel)
    {fd : Buf (Elt F) (dst.view.loc (V d c s))}
    {sm : DmaSem sig} {hsrc : h.view.WordExact} {hdst : dst.view.WordExact} {hsem : DmaTarget.Typed (nD := nD) (p := (V d c s).2) .vmem (.dma sm) (.here dst)}
    {α : Type} {Q : α → sProp (Mach F)} {k : PUnit → Prog (TpuEff nD τ sig (Elt F) Λ₀ (V d c s).2) α} :
    iprop(HistIs (V d c s) h p g n ∗ (dst.view.loc (V d c s) ↦[dst.view.set]{fullShare} fd) ∗ semVal (V d c s, .dma sm) 0)
      ⊢ iprop((Fetch (V d c s) (.dma sm) (credit dst) iprop((dst.view.loc (V d c s) ↦[dst.view.set]{fullShare} G) ∗ AnyBuf d c s h)
              -∗ wp frame (wpE (defs₀ (F := F)) 𝒱₀ (V d c s) none) Set.univ (k ⟨⟩) Q)
          -∗ wp frame (wpE (defs₀ (F := F)) 𝒱₀ (V d c s) none) Set.univ
            (.op (.enqueueDmaAs h (.here dst) .same (.dma sm) hsrc hdst hsem) k) Q) := by
  unfold HistIs AnyBuf
  iintro ⟨⟨%f, %hf, Hh⟩, Hd, Hv⟩ Hk
  iapply (fetch_issue (V d c s) (src := h) (dst := dst) (fs := f) (Ss := h.view.set) (Finset.Subset.refl _) (credit dst) rfl
    (View.dmaCredit_pos _ hpos)) $$ [Hh Hd Hv]
  · isplitl [Hh]; · iexact Hh
    isplitl [Hd] <;> iassumption
  iintro HF
  iapply Hk
  unfold Fetch
  icases HF with ⟨%B, HF, HB⟩
  iexists B
  isplitl [HF]; · iexact HF
  iintro H
  ihave H' := HB $$ H
  icases H' with ⟨Hd, Hh⟩
  have hc : ∀ i ∈ dst.view.set, dst.view.write (Elt F) fd (h.view.read (Elt F) f) Finset.univ i = G i := by
    intro i hi
    obtain ⟨y, -, rfl⟩ := Finset.mem_map.mp hi
    have e1 := congrFun (View.read_write_univ (v := dst.view) fd (h.view.read (Elt F) f)) y
    rw [hf, ← hG, View.read_apply, View.read_apply] at e1
    exact (cast_bijective _).1 e1
  isplitl [Hd]
  · iapply (Entails.of_eq (pointsTo_congr hc)); iexact Hd
  · iexists f
    iexact Hh

end

/-! ## The input's words and the tiles -/

/-- The tile on SparseCore `c`, subcore `j` is number `2 j + c`. -/
def tileNo (c j : ℕ) : ℕ := 2 * j + c

/-- Rows `128 t + r …` of the input are positions `4096 r …` of tile `t`'s stream. -/
theorem tileStream_row (x : SX.Idx → BitVec 32) (t r : ℕ) (k : ℕ) : tileStream x t (r * 4096 + k) = flat x ((128 * t + r) * 4096 + k) := by
  unfold tileStream
  exact congrArg (flat x) (by omega)

/-- A comparison for equality gives one where equal. -/
theorem cmp_eq (a b : BitVec 32) : IntOp.cmpi .eq a b = 1#1 ↔ a = b := by
  show BitVec.ofBool (a == b) = 1#1 ↔ a = b
  rw [← beq_iff_eq (a := a)]
  cases (a == b) <;> decide

/-- An or of bits is one where either is. -/
theorem or_one : ∀ a b : BitVec 1, IntOp.ori a b = 1#1 ↔ a = 1#1 ∨ b = 1#1 := by decide

/-- A vector's words, cast from a row of sixteen. -/
theorem cast_row (v : Vec F S1x16 .i32) (x : S16.Idx) (y : S1x16.Idx) (hy : (y 1).val = (x 0).val) :
    (shapeCast S16 v shapeCasts_S1x16_S16 : Vec F S16 .i32) x = v y := by
  refine congrArg v (Shape.reshapeEquiv_eq_of_rowMajor _ ?_)
  rw [Shape.rowMajor_val_two, Shape.rowMajor_val_one]
  have : (y 0).val < 1 := (y 0).isLt
  show (y 0).val * 16 + (y 1).val = (x 0).val
  omega

/-- The payload every loop of the first body computes from sixteen words: their keys' top halves. -/
theorem pay_hi (v : Vec F S1x16 .i32) (x : S16.Idx) (y : S1x16.Idx) (hy : (y 1).val = (x 0).val) :
    shrui (xori (shapeCast S16 v shapeCasts_S1x16_S16 : Vec F S16 .i32)
      (ori (shrsi (shapeCast S16 v shapeCasts_S1x16_S16 : Vec F S16 .i32) (broadcast S16 31#32)) (broadcast S16 2147483648#32))) (broadcast S16 16#32) x
      = hi16 (v y) := by
  have e : (shapeCast S16 v shapeCasts_S1x16_S16 : Vec F S16 .i32) x = v y := cast_row v x y hy
  show IntOp.shrui .vector (IntOp.xori ((shapeCast S16 v shapeCasts_S1x16_S16 : Vec F S16 .i32) x) (IntOp.ori (IntOp.shrsi .vector ((shapeCast S16 v shapeCasts_S1x16_S16 : Vec F S16 .i32) x) 31#32) 2147483648#32)) 16#32 = _
  rw [e]
  rfl

end Cert.Proof

end
-- ==== Proof.Pass1.lean ====
/-
  The first SparseCore body, run once at a symbolic tile: the tile's scratch is zeroed, its 128 rows come four at a time
  into two buffers in turn, each vector of sixteen words adds sixteen ones to the scratch histogram of the words' top
  sixteen key bits, and the histogram goes out to the tile's row of the result.
-/
module

public import proofs.«01_k».proof.Proof.Tiles

@[expose] public section

noncomputable section

namespace Cert.Proof.Pass1

open Cert.KernelIdeal Cert.KernelIdeal.Gen Cert.Proof

open Idealize.ShloMosaic
open Idealize.ShloMosaic.SparseCore (S V T)
open Idealize.ShloMosaic.SparseCore.Cfg (HIx ownCells ownRefs ownSems0 ownBufs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Tactic

variable {F : FTy → Type} [FloatOps F]

abbrev oMem : Memref sig .scVector .hbm S32x65536 .i32 := Memref.whole main_v0_scv
/-- The result array, on device `d`. -/
abbrev oLoc (d : Dev nD) : Loc nD τ sig := (SparseCore.T d).loc main_v0
abbrev bA : Memref sig .scVector .vmem S4x4096 .i32 := Memref.whole cc0_scratch0
abbrev bB : Memref sig .scVector .vmem S4x4096 .i32 := Memref.whole cc0_scratch1
abbrev hS : Memref sig .scVector .vmem S65536 .i32 := Memref.whole cc0_scratch2

/-- The array of the thirty-two histograms: row `t` is the tally of tile `t`'s words by the top half of the key. -/
def hist (x : SX.Idx → BitVec 32) : S32x65536.Idx → BitVec 32 :=
  fun j => BitVec.ofNat 32 (tally always (binHi (tileStream x (j 0).val)) 524288 (j 1).val)

/-- Row `t` of the result array. -/
def rowOf (t : ℕ) : Finset S32x65536.Idx := Finset.univ.filter fun j => (j 0).val = t

variable (d : Dev nD) (i : grid0.Coords)

theorem wid_lt : 2 * (i 1).val + (i 0).val < 32 := by
  have h0 : (i 0).val < 2 := (i 0).isLt
  have h1 : (i 1).val < 16 := (i 1).isLt
  omega

abbrev cV : Fin τ.nSC := (i 0).castLE hcore0
abbrev jV : Fin τ.nSub := (i 1).castLE hsub0
/-- The tile's number. -/
abbrev wid : ℕ := 2 * (i 1).val + (i 0).val

theorem off14_eq : ∀ i : grid0.Coords, k0_off14 i = ![2 * (i 1).val + (i 0).val, 0] := by decide +kernel

/-! ## One vector of one row -/

/-- A step of a row's loop takes the buffer and the histogram of `n + 4096 r + 16 k` words to those of sixteen more. -/
theorem row_step {b : Memref sig .scVector .vmem S4x4096 .i32} {h : Memref sig .scVector .vmem S65536 .i32} (X : ℕ → BitVec 32) (n r k : ℕ)
    {off : Fin 2 → ℕ} (hoff : off = ![r, 16 * k]) {inb : ∀ a, off a + S1x16.size a ≤ S4x4096.size a}
    {hl : b.view.LoadsAt (Rect.unit (s := S4x4096) off S1x16.size inb).toLoadRect}
    {pay : Vec F S1x16 .i32 → IVec S16 32} (hpay : ∀ v (x : S16.Idx) (y : S1x16.Idx), (y 1).val = (x 0).val → pay v x = hi16 (v y))
    {chk : IVec S16 32 → Prop} {dec : ∀ v, Decidable (chk v)} (hchk : ∀ v, (∀ a x, ((![v] : Fin 1 → IVec S16 32) a x).toNat < S65536.size a) → chk v)
    {inb' : ∀ v, chk v → ∀ a x, ((![v] : Fin 1 → IVec S16 32) a x).toNat < S65536.size a}
    {ones : IVec S16 32} (hones : ∀ x, ones x = 1#32) {hs : (h.access (.whole S65536)).Stores Finset.univ} :
    iprop(ChunkIs (V d (cV i) (jV i)) b X n ∗ HistIs (V d (cV i) (jV i)) h always (binHi X) (n + (r * 4096 + 16 * k)))
      ⊢ wp frame (wpE (defs₀ (F := F)) 𝒱₀ (V d (cV i) (jV i)) none) Set.univ
          (.op (.load b (Rect.unit (s := S4x4096) off S1x16.size inb).toLoadRect hl) fun v =>
            .op (.assume (chk (pay v)) (dec (pay v))) fun hw =>
              SparseCore.vectorStoreIdx h ![pay v] ones (fun _ => 1#1) true (inb' (pay v) hw.down) hs >>= fun _ => .ret ⟨⟩)
          fun _ : Unit => iprop(ChunkIs (V d (cV i) (jV i)) b X n ∗ HistIs (V d (cV i) (jV i)) h always (binHi X) (n + (r * 4096 + 16 * (k + 1)))) := by
  iintro ⟨Hb, Hh⟩
  iapply (chunk_load (V d (cV i) (jV i)) (b := b) r (16 * k) hoff) $$ Hb
  iintro %v %hv Hb
  have hix : ∀ x : S16.Idx, pay v x = hi16 (X (n + (r * 4096 + 16 * k) + (x 0).val)) := fun x => by
    have := hpay v x (fun | 0 => ⟨0, Nat.one_pos⟩ | 1 => x 0) rfl
    rw [this, hv]
  have hc : chk (pay v) := hchk _ fun a x => by
    obtain rfl : a = 0 := Subsingleton.elim _ _
    exact lt_of_eq_of_lt (congrArg BitVec.toNat (hix x)) (binHi_lt X _)
  rw [wp_assume_of _ _ _ _ hc]
  iapply (hist_step (V d (cV i) (jV i)) (h := h) always (binHi X) (n + (r * 4096 + 16 * k)) hones (fun x => ⟨fun _ => rfl, fun _ => rfl⟩)
    (fun x _ => congrArg BitVec.toNat (hix x))) $$ Hh
  iintro Hh
  rw [wp_ret]
  imodintro
  isplitl [Hb]; · iexact Hb
  rw [show n + (r * 4096 + 16 * (k + 1)) = n + (r * 4096 + 16 * k) + 16 by omega]
  iexact Hh

/-- A row's loop: 256 steps. -/
theorem row_loop {b : Memref sig .scVector .vmem S4x4096 .i32} {h : Memref sig .scVector .vmem S65536 .i32} (X : ℕ → BitVec 32) (n r : ℕ)
    {l : Scf.Loop 32} (hok : l.OK) (hl : l.trips = 256)
    {body : Fin l.trips → Unit → Prog (TpuEff nD τ sig (Elt F) Λ₀ (V d (cV i) (jV i)).2) Unit}
    (hbody : ∀ k u, iprop(ChunkIs (V d (cV i) (jV i)) b X n ∗ HistIs (V d (cV i) (jV i)) h always (binHi X) (n + (r * 4096 + 16 * k.val)))
      ⊢ wp frame (wpE (defs₀ (F := F)) 𝒱₀ (V d (cV i) (jV i)) none) Set.univ (body k u)
        fun _ => iprop(ChunkIs (V d (cV i) (jV i)) b X n ∗ HistIs (V d (cV i) (jV i)) h always (binHi X) (n + (r * 4096 + 16 * (k.val + 1)))))
    {α : Type} {Q : α → sProp (Mach F)} {kk : Unit → Prog (TpuEff nD τ sig (Elt F) Λ₀ (V d (cV i) (jV i)).2) α} :
    iprop(ChunkIs (V d (cV i) (jV i)) b X n ∗ HistIs (V d (cV i) (jV i)) h always (binHi X) (n + r * 4096))
      ⊢ iprop((iprop(ChunkIs (V d (cV i) (jV i)) b X n ∗ HistIs (V d (cV i) (jV i)) h always (binHi X) (n + (r + 1) * 4096))
            -∗ wp frame (wpE (defs₀ (F := F)) 𝒱₀ (V d (cV i) (jV i)) none) Set.univ (kk ⟨⟩) Q)
          -∗ wp frame (wpE (defs₀ (F := F)) 𝒱₀ (V d (cV i) (jV i)) none) Set.univ (l.for hok ⟨⟩ body >>= kk) Q) := by
  rw [show n + r * 4096 = n + (r * 4096 + 16 * 0) by omega]
  iintro H Hk
  iapply (Scf.wp_for_bind frame (wpE (defs₀ (F := F)) 𝒱₀ (V d (cV i) (jV i)) none) Set.univ l.lb l.ub l.st hok ⟨⟩ body
    (fun k _ => iprop(ChunkIs (V d (cV i) (jV i)) b X n ∗ HistIs (V d (cV i) (jV i)) h always (binHi X) (n + (r * 4096 + 16 * k)))) hbody) $$ H
  iintro %u H
  iapply Hk
  rw [show Scf.trips l.lb l.ub l.st = 256 from hl, show n + (r + 1) * 4096 = n + (r * 4096 + 16 * 256) by omega]
  iexact H

/-! ## The body's loops -/

/-- The histogram array's row of this tile, as the body slices it. -/
abbrev oRow : Memref sig .scVector .hbm S65536 .i32 :=
  (oMem.slice (Rect.unit (s := S32x65536) (k0_off14 i) S1x65536.size (k0_off14_inb i)) (fun _ => rfl)).squeeze S65536 squeezes_S1x65536_S65536

theorem pay2_one (x : S16.Idx) : k0_pay2 x = 1#32 := rfl

/-- Every loop's payload: `pay_hi`. -/
theorem pay_body (v : Vec F S1x16 .i32) (x : S16.Idx) (y : S1x16.Idx) (hy : (y 1).val = (x 0).val) :
    k0_pay10 k0_pay3 k0_pay4 k0_pay5 v x = hi16 (v y) := pay_hi v x y hy

section Body

variable (x : Buf (Elt F) (xLoc d)) (qa qb : PosShare TreeShare)
variable (O : CellTallies nD τ sig (HIx 2)) (W : Waits sig (HIx 2))

/-- The stream of the tile's words. -/
abbrev X : ℕ → BitVec 32 := tileStream x (wid i)

/-- The first buffer before trip `t`: its chunk on the way, or after the last trip free. -/
def stageA (t : ℕ) : sProp (Mach F) :=
  if t < 16 then Fetch (V d (cV i) (jV i)) (.dma cc0_scratch3.sem) (credit bA) iprop(ChunkIs (V d (cV i) (jV i)) bA (X d i x) (t * 32768) ∗ (xLoc d ↦{qa} x))
  else iprop(AnyBuf d (cV i) (jV i) bA ∗ (xLoc d ↦{qa} x) ∗ semVal (V d (cV i) (jV i), .dma cc0_scratch3.sem) 0)

theorem stageA_lt {t : ℕ} (h : t < 16) : stageA d i x qa t
    = Fetch (V d (cV i) (jV i)) (.dma cc0_scratch3.sem) (credit bA) iprop(ChunkIs (V d (cV i) (jV i)) bA (X d i x) (t * 32768) ∗ (xLoc d ↦{qa} x)) := if_pos h
theorem stageA_ge {t : ℕ} (h : ¬ t < 16) : stageA d i x qa t
    = iprop(AnyBuf d (cV i) (jV i) bA ∗ (xLoc d ↦{qa} x) ∗ semVal (V d (cV i) (jV i), .dma cc0_scratch3.sem) 0) := if_neg h

theorem cond1_iff : ∀ t : Fin k0_t2_loop.trips, k0_cond1 t = 1#1 ↔ t.val + 1 < 16 := by decide +kernel
theorem t2_trips : k0_t2_loop.trips = 16 := by decide +kernel

/-- Where a chunk starts in the stream. -/
theorem chunk_stream (r : ℕ) (k : ℕ) : X d i x (r * 4096 + k) = flat x ((256 * (i 1).val + 128 * (i 0).val + r) * 4096 + k) := by
  rw [show 256 * (i 1).val + 128 * (i 0).val = 128 * wid i by show _ = 128 * (2 * (i 1).val + (i 0).val); omega]
  exact tileStream_row x (wid i) r k

/-- The first half of a trip: the second buffer's fetch issued, the first buffer's waited for and counted, the first
    buffer's next fetch issued unless this is the last trip. -/
theorem part1 (hO : ∀ g, O g none = 0) (t : Fin k0_t2_loop.trips) (v8 : BitVec 32) :
    iprop(levAts (K (F := F)).L (K (F := F)).lev ∗ stageA d i x qa t.val ∗ AnyBuf d (cV i) (jV i) bB ∗ (xLoc d ↦{qb} x)
        ∗ semVal (V d (cV i) (jV i), .dma cc0_scratch4.sem) 0 ∗ HistIs (V d (cV i) (jV i)) hS always (binHi (X d i x)) (t.val * 32768)
        ∗ Owes (V d (cV i) (jV i)) O W)
      ⊢ wp frame (wpE (defs₀ (F := F)) 𝒱₀ (V d (cV i) (jV i)) none) Set.univ
          (k0_part1 i xMem (Memref.isWhole_whole _) oMem (Memref.isWhole_whole _) bA (Memref.isWhole_whole _) bB (Memref.isWhole_whole _) hS (Memref.isWhole_whole _)
            cc0_scratch3 cc0_scratch4 cc0_scoped0 k0_pay2 k0_pay3 k0_pay4 k0_pay5 v8 0#32 1#32 t)
          fun _ => iprop(stageA d i x qa (t.val + 1)
            ∗ Fetch (V d (cV i) (jV i)) (.dma cc0_scratch4.sem) (credit bB) iprop(ChunkIs (V d (cV i) (jV i)) bB (X d i x) (t.val * 32768 + 16384) ∗ (xLoc d ↦{qb} x))
            ∗ HistIs (V d (cV i) (jV i)) hS always (binHi (X d i x)) (t.val * 32768 + 16384)
            ∗ Owes (V d (cV i) (jV i)) O W) := by
  have ht : t.val < 16 := lt_of_lt_of_eq t.isLt t2_trips
  rw [k0_part1_eq_skeleton, stageA_lt _ _ _ _ ht]
  unfold k0_part1_skel
  simp only [Prog.lift, Prog.bind_op, Prog.bind_ret, Prog.pure_eq_ret]
  iintro ⟨#Hlv, HA, HB, HxB, HvB, Hh, HO⟩
  iapply (chunk_fetch d (cV i) (jV i) (b := bB) _ (k0_off3_eq i t) x qb (X d i x) (t.val * 32768 + 16384) (fun k _ => by
    rw [show t.val * 32768 + 16384 + k = (8 * t.val + 4) * 4096 + k by omega, chunk_stream]
    exact congrArg (flat x) (by omega))) $$ [HxB HB HvB]
  · isplitl [HxB]; · iexact HxB
    isplitl [HB] <;> iassumption
  iintro HB
  iapply (fetch_wait (V d (cV i) (jV i)) (N := credit bA) rfl hO) $$ [HA HO]
  · isplitr; · iexact Hlv
    isplitl [HA] <;> iassumption
  iintro ⟨⟨HA, HxA⟩, HvA, HO⟩
  ihave H := (show iprop(ChunkIs (V d (cV i) (jV i)) bA (X d i x) (t.val * 32768) ∗ HistIs (V d (cV i) (jV i)) hS always (binHi (X d i x)) (t.val * 32768))
    ⊢ iprop(ChunkIs (V d (cV i) (jV i)) bA (X d i x) (t.val * 32768) ∗ HistIs (V d (cV i) (jV i)) hS always (binHi (X d i x)) (t.val * 32768 + 0 * 4096)) from
      by rw [Nat.zero_mul, Nat.add_zero]) $$ [HA Hh]
  · isplitl [HA] <;> iassumption
  iapply (row_loop d i (X d i x) (t.val * 32768) 0 k0_t3_ok (by decide +kernel) (fun k u =>
    row_step d i (X d i x) (t.val * 32768) 0 k.val (k0_off5_eq k) pay_body (fun _ h => h) pay2_one)) $$ H
  iintro H
  iapply (row_loop d i (X d i x) (t.val * 32768) 1 k0_t4_ok (by decide +kernel) (fun k u =>
    row_step d i (X d i x) (t.val * 32768) 1 k.val (k0_off6_eq k) pay_body (fun _ h => h) pay2_one)) $$ H
  iintro H
  iapply (row_loop d i (X d i x) (t.val * 32768) 2 k0_t5_ok (by decide +kernel) (fun k u =>
    row_step d i (X d i x) (t.val * 32768) 2 k.val (k0_off7_eq k) pay_body (fun _ h => h) pay2_one)) $$ H
  iintro H
  iapply (row_loop d i (X d i x) (t.val * 32768) 3 k0_t6_ok (by decide +kernel) (fun k u =>
    row_step d i (X d i x) (t.val * 32768) 3 k.val (k0_off8_eq k) pay_body (fun _ h => h) pay2_one)) $$ H
  iintro ⟨HA, Hh⟩
  ihave HA := (ChunkIs.any d (cV i) (jV i)) $$ HA
  by_cases hc : k0_cond1 t = 1#1
  · rw [dif_pos hc, stageA_lt _ _ _ _ ((cond1_iff t).mp hc)]
    simp only [Prog.lift, Prog.bind_op, Prog.bind_ret, Prog.pure_eq_ret]
    iapply (chunk_fetch d (cV i) (jV i) (b := bA) _ (k0_off9_eq i t) x qa (X d i x) ((t.val + 1) * 32768) (fun k _ => by
      rw [show (t.val + 1) * 32768 + k = (8 * t.val + 8) * 4096 + k by omega, chunk_stream]
      exact congrArg (flat x) (by omega))) $$ [HxA HA HvA]
    · isplitl [HxA]; · iexact HxA
      isplitl [HA] <;> iassumption
    iintro HA
    rw [wp_ret]; imodintro
    isplitl [HA]; · iexact HA
    isplitl [HB]; · iexact HB
    isplitl [Hh]; · iexact Hh
    iexact HO
  · rw [dif_neg hc, stageA_ge _ _ _ _ (fun h => hc ((cond1_iff t).mpr h))]
    simp only [Prog.lift, Prog.bind_op, Prog.bind_ret, Prog.pure_eq_ret]
    rw [wp_ret]; imodintro
    isplitl [HA HxA HvA]
    · isplitl [HA]; · iexact HA
      isplitl [HxA] <;> iassumption
    isplitl [HB]; · iexact HB
    isplitl [Hh]; · iexact Hh
    iexact HO

/-- A whole trip: both buffers' chunks counted. -/
theorem trip (hO : ∀ g, O g none = 0) (t : Fin k0_t2_loop.trips) (v8 : BitVec 32) (u : Unit) :
    iprop(levAts (K (F := F)).L (K (F := F)).lev ∗ stageA d i x qa t.val ∗ AnyBuf d (cV i) (jV i) bB ∗ (xLoc d ↦{qb} x)
        ∗ semVal (V d (cV i) (jV i), .dma cc0_scratch4.sem) 0 ∗ HistIs (V d (cV i) (jV i)) hS always (binHi (X d i x)) (t.val * 32768)
        ∗ Owes (V d (cV i) (jV i)) O W)
      ⊢ wp frame (wpE (defs₀ (F := F)) 𝒱₀ (V d (cV i) (jV i)) none) Set.univ
          (k0_t2_body i xMem (Memref.isWhole_whole _) oMem (Memref.isWhole_whole _) bA (Memref.isWhole_whole _) bB (Memref.isWhole_whole _) hS (Memref.isWhole_whole _)
            cc0_scratch3 cc0_scratch4 cc0_scoped0 v8 t u)
          fun _ => iprop(levAts (K (F := F)).L (K (F := F)).lev ∗ stageA d i x qa (t.val + 1) ∗ AnyBuf d (cV i) (jV i) bB ∗ (xLoc d ↦{qb} x)
            ∗ semVal (V d (cV i) (jV i), .dma cc0_scratch4.sem) 0 ∗ HistIs (V d (cV i) (jV i)) hS always (binHi (X d i x)) ((t.val + 1) * 32768)
            ∗ Owes (V d (cV i) (jV i)) O W) := by
  unfold k0_t2_body
  iintro ⟨#Hlv, H⟩
  iapply (wp_then (part1 d i x qa qb O W hO t v8)) $$ [H]
  · isplitr; · iexact Hlv
    iexact H
  iintro %_ ⟨HA, HB, Hh, HO⟩
  simp only [Prog.lift, Prog.bind_op, Prog.bind_ret, Prog.pure_eq_ret]
  iapply (fetch_wait (V d (cV i) (jV i)) (N := credit bB) rfl hO) $$ [HB HO]
  · isplitr; · iexact Hlv
    isplitl [HB] <;> iassumption
  iintro ⟨⟨HB, HxB⟩, HvB, HO⟩
  ihave H := (show iprop(ChunkIs (V d (cV i) (jV i)) bB (X d i x) (t.val * 32768 + 16384) ∗ HistIs (V d (cV i) (jV i)) hS always (binHi (X d i x)) (t.val * 32768 + 16384))
    ⊢ iprop(ChunkIs (V d (cV i) (jV i)) bB (X d i x) (t.val * 32768 + 16384) ∗ HistIs (V d (cV i) (jV i)) hS always (binHi (X d i x)) (t.val * 32768 + 16384 + 0 * 4096)) from
      by rw [Nat.zero_mul, Nat.add_zero]) $$ [HB Hh]
  · isplitl [HB] <;> iassumption
  iapply (row_loop d i (X d i x) (t.val * 32768 + 16384) 0 k0_t7_ok (by decide +kernel) (fun k u =>
    row_step d i (X d i x) (t.val * 32768 + 16384) 0 k.val (k0_off10_eq k) pay_body (fun _ h => h) pay2_one)) $$ H
  iintro H
  iapply (row_loop d i (X d i x) (t.val * 32768 + 16384) 1 k0_t8_ok (by decide +kernel) (fun k u =>
    row_step d i (X d i x) (t.val * 32768 + 16384) 1 k.val (k0_off11_eq k) pay_body (fun _ h => h) pay2_one)) $$ H
  iintro H
  iapply (row_loop d i (X d i x) (t.val * 32768 + 16384) 2 k0_t9_ok (by decide +kernel) (fun k u =>
    row_step d i (X d i x) (t.val * 32768 + 16384) 2 k.val (k0_off12_eq k) pay_body (fun _ h => h) pay2_one)) $$ H
  iintro H
  iapply (row_loop d i (X d i x) (t.val * 32768 + 16384) 3 k0_t10_ok (by decide +kernel) (fun k u =>
    row_step d i (X d i x) (t.val * 32768 + 16384) 3 k.val (k0_off13_eq k) pay_body (fun _ h => h) pay2_one)) $$ H
  iintro ⟨HB, Hh⟩
  ihave HB := (ChunkIs.any d (cV i) (jV i)) $$ HB
  rw [wp_ret]; imodintro
  isplitr; · iexact Hlv
  isplitl [HA]; · iexact HA
  isplitl [HB]; · iexact HB
  isplitl [HxB]; · iexact HxB
  isplitl [HvB]; · iexact HvB
  isplitl [Hh]
  · iapply (Entails.of_eq (congrArg (HistIs (V d (cV i) (jV i)) hS always (binHi (X d i x))) (show t.val * 32768 + 16384 + (3 + 1) * 4096 = (t.val + 1) * 32768 by omega))); iexact Hh
  iexact HO

/-- The zeroing loop. -/
theorem zeroing {α : Type} {Q : α → sProp (Mach F)} {kk : Unit → Prog (TpuEff nD τ sig (Elt F) Λ₀ (V d (cV i) (jV i)).2) α} :
    AnyBuf d (cV i) (jV i) hS ⊢ iprop((HistIs (V d (cV i) (jV i)) hS always (binHi (X d i x)) 0
        -∗ wp frame (wpE (defs₀ (F := F)) 𝒱₀ (V d (cV i) (jV i)) none) Set.univ (kk ⟨⟩) Q)
      -∗ wp frame (wpE (defs₀ (F := F)) 𝒱₀ (V d (cV i) (jV i)) none) Set.univ
          (Scf.Loop.for k0_t1_loop k0_t1_ok ⟨⟩ (k0_t1_body i xMem (Memref.isWhole_whole _) oMem (Memref.isWhole_whole _) bA (Memref.isWhole_whole _) bB (Memref.isWhole_whole _)
            hS (Memref.isWhole_whole _) cc0_scratch3 cc0_scratch4 cc0_scoped0) >>= kk) Q) := by
  unfold AnyBuf
  iintro ⟨%f, H⟩ Hk
  ihave H := (ZeroBelow.intro (V d (cV i) (jV i)) hS f) $$ H
  iapply (Scf.wp_for_bind frame (wpE (defs₀ (F := F)) 𝒱₀ (V d (cV i) (jV i)) none) Set.univ k0_t1_loop.lb k0_t1_loop.ub k0_t1_loop.st k0_t1_ok ⟨⟩ _
    (fun k _ => ZeroBelow (V d (cV i) (jV i)) hS (16 * k)) (fun k _ => by
      unfold k0_t1_body
      simp only [Prog.lift, Prog.bind_op, Prog.bind_ret, Prog.pure_eq_ret]
      iintro H
      iapply (zero_step (V d (cV i) (jV i)) (16 * k.val) (k0_off1_eq k) (fun _ => rfl)) $$ H
      iintro H
      rw [wp_ret]; imodintro
      iexact H)) $$ H
  iintro %_ H
  iapply Hk
  iapply (ZeroBelow.hist (V d (cV i) (jV i)) hS (n := 16 * k0_t1_loop.trips) (by decide +kernel)); iexact H

theorem oRow_set : (oRow i).view.set = rowOf (wid i) := by
  rw [show (oRow i).view.set = (oMem.slice (Rect.unit (s := S32x65536) (k0_off14 i) S1x65536.size (k0_off14_inb i)) (fun _ => rfl)).view.set from View.set_reshape _ _]
  show ((View.whole (main_v0_scv : Ref sig .scVector)).slice (Rect.unit (s := S32x65536) (k0_off14 i) S1x65536.size (k0_off14_inb i))).set = _
  rw [View.set_slice]
  refine (Finset.map_refl).trans (Finset.ext fun j => ?_)
  rw [Rect.mem_set_unit, off14_eq, rowOf, Finset.mem_filter]
  constructor
  · intro h
    have := h 0
    refine ⟨Finset.mem_univ _, ?_⟩
    have h1 : wid i ≤ (j 0).val ∧ (j 0).val < wid i + 1 := this
    omega
  · rintro ⟨-, h⟩ a
    match a with
    | 0 => exact (show wid i ≤ (j 0).val ∧ (j 0).val < wid i + 1 by omega)
    | 1 => exact (show 0 ≤ (j 1).val ∧ (j 1).val < 0 + 65536 from ⟨Nat.zero_le _, by rw [Nat.zero_add]; exact (j 1).isLt⟩)

/-- The row's elements of the array of histograms, through the body's view. -/
theorem oRow_read (y : S65536.Idx) : (oRow i).view.read (Elt F) (hist x) y = BitVec.ofNat 32 (tally always (binHi (X d i x)) 524288 (y 0).val) := by
  refine ((View.read_apply _ _).trans (cast_eq _ _)).trans ?_
  have hy : (y 0).val < 65536 := (y 0).isLt
  have e : ∀ h : S65536.numel = S1x65536.numel, Shape.reshapeEquiv h y = (fun | 0 => ⟨0, Nat.one_pos⟩ | 1 => y 0 : S1x65536.Idx) := by
    intro h
    refine Shape.reshapeEquiv_eq_of_rowMajor _ ?_
    rw [Shape.rowMajor_val_two, Shape.rowMajor_val_one]
    show 0 * 65536 + (y 0).val = (y 0).val
    omega
  have e' : ((oRow i).view.emb y : S32x65536.Idx) = (fun | 0 => ⟨wid i, wid_lt i⟩ | 1 => y 0) := by
    funext a
    refine Fin.ext ?_
    show k0_off14 i a + 1 * (Shape.reshapeEquiv (s := S1x65536) (s' := S65536) squeezes_S1x65536_S65536.numel_eq y a).val = _
    rw [e, off14_eq]
    match a with
    | 0 => rfl
    | 1 => exact (show 0 + 1 * (y 0).val = (y 0).val by omega)
  rw [e', hist]

/-- What a tile's handshake carries. -/
theorem row_pts (q : PosShare TreeShare) (f : Buf (Elt F) (oLoc d)) :
    (oLoc d ↦[rowOf (wid i)]{q} f : sProp (Mach F)) = ((oRow i).view.loc (V d (cV i) (jV i)) ↦[(oRow i).view.set]{q} f) := by
  rw [oRow_set]

/-- What tile `t` is handed: a share of the input, and its row of the result. -/
abbrev goP (q : PosShare TreeShare) (t : ℕ) : sProp (Mach F) :=
  iprop((xLoc d ↦{q} x) ∗ (∃ f : Buf (Elt F) (oLoc d), oLoc d ↦[rowOf t]{fullShare} f))
/-- What tile `t` hands back: the share, and its row filled in. -/
abbrev tdP (q : PosShare TreeShare) (t : ℕ) : sProp (Mach F) :=
  iprop((xLoc d ↦{q} x) ∗ (oLoc d ↦[rowOf t]{fullShare} hist x))

/-- The body at tile `i`: its row of the result ends as `hist x`'s. -/
theorem tile_body (hF : (K (F := F)).Facts) (q : PosShare TreeShare) (hO : ∀ g, O g none = 0) :
    iprop(levAts (K (F := F)).L (K (F := F)).lev ∗ goP d x q (wid i)
        ∗ scopedBufs (V d (cV i) (jV i)) ∗ scopedSems0 (V d (cV i) (jV i)) ∗ owes (V d (cV i) (jV i)) O W)
      ⊢ wp frame (wpE (defs₀ (F := F)) 𝒱₀ (V d (cV i) (jV i)) none) Set.univ
          (cc0_sc_hist_pass1 i xMem (Memref.isWhole_whole _) oMem (Memref.isWhole_whole _) bA (Memref.isWhole_whole _) bB (Memref.isWhole_whole _) hS (Memref.isWhole_whole _)
            cc0_scratch3 cc0_scratch4 cc0_scoped0)
          fun _ => iprop(tdP d x q (wid i) ∗ scopedBufs (V d (cV i) (jV i)) ∗ scopedSems0 (V d (cV i) (jV i))
            ∗ ∃ W', ⌜∀ p ∈ W', p ∈ W ∨ p.2 = none⌝ ∗ owes (V d (cV i) (jV i)) O W') := by
  simp only [cc0_sc_hist_pass1_eq_skeleton]; unfold cc0_sc_hist_pass1_skel
  simp only [Prog.lift, Prog.bind_op, Prog.bind_ret, Prog.pure_eq_ret]
  rw [(K (F := F)).scopedBufs_V hF d (cV i) (jV i), SparseCore.Cfg.scopedSems0_V (Val := Elt F) d (cV i) (jV i),
    sems_take d (cV i) (jV i) {.dma cc0_scratch3.sem, .dma cc0_scratch4.sem, .dma cc0_scoped0.sem} (by decide +kernel),
    bufs_take d (cV i) (jV i) {cc0_scratch0, cc0_scratch1, cc0_scratch2} (fun r hr => by
      simp only [Finset.mem_insert, Finset.mem_singleton] at hr
      rcases hr with rfl | rfl | rfl <;> rfl)]
  rw [SparseCore.bigSep_insert' (by decide +kernel), SparseCore.bigSep_insert' (by decide +kernel), bigSep_singleton,
    SparseCore.bigSep_insert' (by decide +kernel), SparseCore.bigSep_insert' (by decide +kernel), bigSep_singleton,
    ← anyBuf_whole, ← anyBuf_whole, ← anyBuf_whole]
  iintro ⟨#Hlv, ⟨Hx, ⟨%fo, Ho⟩⟩, ⟨⟨HA, HB, Hh⟩, Hbufs⟩, ⟨⟨HvA, HvB, HvO⟩, Hsems⟩, HO⟩
  ihave HO := (Owes.intro (V d (cV i) (jV i)) O W) $$ HO
  iapply (zeroing d i x) $$ Hh
  iintro Hh
  simp only [Prog.lift, Prog.bind_op, Prog.bind_ret, Prog.pure_eq_ret]
  ihave Hx := ((pointsTo_share (PosShare.mem_left_op_right q)).1) $$ Hx
  icases Hx with ⟨HxA, HxB⟩
  iapply (chunk_fetch d (cV i) (jV i) (b := bA) _ (k0_off2_eq i) x q.left (X d i x) (0 * 32768) (fun k _ => by
    rw [show 0 * 32768 + k = 0 * 4096 + k by omega, chunk_stream]
    exact congrArg (flat x) (by omega))) $$ [HxA HA HvA]
  · isplitl [HxA]; · iexact HxA
    isplitl [HA] <;> iassumption
  iintro HA
  iapply (Scf.wp_for_bind frame (wpE (defs₀ (F := F)) 𝒱₀ (V d (cV i) (jV i)) none) Set.univ k0_t2_loop.lb k0_t2_loop.ub k0_t2_loop.st k0_t2_ok ⟨⟩ _
    (fun t _ => iprop(levAts (K (F := F)).L (K (F := F)).lev ∗ stageA d i x q.left t ∗ AnyBuf d (cV i) (jV i) bB ∗ (xLoc d ↦{q.right} x)
      ∗ semVal (V d (cV i) (jV i), .dma cc0_scratch4.sem) 0 ∗ HistIs (V d (cV i) (jV i)) hS always (binHi (X d i x)) (t * 32768)
      ∗ Owes (V d (cV i) (jV i)) O W))
    (fun t u => trip d i x q.left q.right O W hO t _ u)) $$ [HA HB HxB HvB Hh HO]
  · isplitr; · iexact Hlv
    rw [stageA_lt _ _ _ _ (by norm_num : 0 < 16), Nat.zero_mul]
    isplitl [HA]; · iexact HA
    isplitl [HB]; · iexact HB
    isplitl [HxB]; · iexact HxB
    isplitl [HvB]; · iexact HvB
    isplitl [Hh]; · iexact Hh
    iexact HO
  iintro %_ ⟨-, HA, HB, HxB, HvB, Hh, HO⟩
  ihave HA := (Entails.of_eq (stageA_ge d i x q.left (t := Scf.trips k0_t2_loop.lb k0_t2_loop.ub k0_t2_loop.st) (by rw [show Scf.trips k0_t2_loop.lb k0_t2_loop.ub k0_t2_loop.st = 16 from t2_trips]; norm_num))) $$ HA
  ihave Hh := (Entails.of_eq (congrArg (HistIs (V d (cV i) (jV i)) hS always (binHi (X d i x))) (show Scf.trips k0_t2_loop.lb k0_t2_loop.ub k0_t2_loop.st * 32768 = 524288 by
    rw [show Scf.trips k0_t2_loop.lb k0_t2_loop.ub k0_t2_loop.st = 16 from t2_trips]))) $$ Hh
  icases HA with ⟨HA, HxA, HvA⟩
  simp only [Prog.lift, Prog.bind_op, Prog.bind_ret, Prog.pure_eq_ret]
  iapply (hist_out d (cV i) (jV i) (dst := oRow i) (h := hS) (hist x) (oRow_read d i x) (by decide)) $$ [Hh Ho HvO]
  · isplitl [Hh]; · iexact Hh
    isplitl [Ho]
    · iapply (Entails.of_eq (row_pts d i fullShare fo)); iexact Ho
    · iexact HvO
  iintro HF
  iapply (fetch_wait (V d (cV i) (jV i)) (N := credit (oRow i)) rfl hO) $$ [HF HO]
  · isplitr; · iexact Hlv
    isplitl [HF] <;> iassumption
  iintro ⟨⟨Ho, Hh⟩, HvO, HO⟩
  rw [wp_ret]; imodintro
  isplitl [HxA HxB Ho]
  · isplitl [HxA HxB]
    · iapply ((pointsTo_share (PosShare.mem_left_op_right q)).2)
      isplitl [HxA] <;> iassumption
    · iapply (Entails.of_eq (row_pts d i fullShare (hist x)).symm); iexact Ho
  isplitl [HA HB Hh Hbufs]
  · isplitl [HA HB Hh]
    · isplitl [HA]; · iexact HA
      isplitl [HB] <;> iassumption
    · iexact Hbufs
  isplitl [HvA HvB HvO Hsems]
  · isplitl [HvA HvB HvO]
    · isplitl [HvA]; · iexact HvA
      isplitl [HvB] <;> iassumption
    · iexact Hsems
  unfold Owes
  iexact HO

end Body

end Cert.Proof.Pass1

end
-- ==== Proof.Pass2.lean ====
/-
  The second SparseCore body, run once at a symbolic tile: the four bucket numbers are fetched, two scratch histograms
  zeroed, the tile's 128 rows come four at a time into two buffers in turn, each vector of sixteen words adds ones under a
  mask to both histograms, and they go out to the tile's two rows of the result.
-/
module

public import proofs.«01_k».proof.Proof.Tiles

@[expose] public section

noncomputable section

namespace Cert.Proof.Pass2

open Cert.KernelIdeal Cert.KernelIdeal.Gen Cert.Proof

open Idealize.ShloMosaic
open Idealize.ShloMosaic.SparseCore (S V T)
open Idealize.ShloMosaic.SparseCore.Cfg (HIx ownCells ownRefs ownSems0 ownBufs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Tactic

variable {F : FTy → Type} [FloatOps F]

abbrev mMem : Memref sig .scVector .hbm S64 .i32 := Memref.whole main_v6_scv
abbrev oMem : Memref sig .scVector .hbm S32x2x32768 .i32 := Memref.whole main_v7_scv
/-- The array of the four bucket numbers, each sixteen times, on device `d`. -/
abbrev mLoc (d : Dev nD) : Loc nD τ sig := (SparseCore.T d).loc main_v6
/-- The result array, on device `d`. -/
abbrev oLoc (d : Dev nD) : Loc nD τ sig := (SparseCore.T d).loc main_v7
abbrev bA : Memref sig .scVector .vmem S4x4096 .i32 := Memref.whole cc2_scratch0
abbrev bB : Memref sig .scVector .vmem S4x4096 .i32 := Memref.whole cc2_scratch1
abbrev hA : Memref sig .scVector .vmem S32768 .i32 := Memref.whole cc2_scratch2
abbrev hB : Memref sig .scVector .vmem S32768 .i32 := Memref.whole cc2_scratch3
abbrev bM : Memref sig .scVector .vmem S64 .i32 := Memref.whole cc2_scratch4

/-- The array of the thirty-two pairs of histograms: `(t, h)` is the tally, by fourteen more key bits, of tile `t`'s words
    whose top half is `P (2 h)` or `P (2 h + 1)`, the latter's in the upper half of the bins. -/
def hist (P : ℕ → BitVec 32) (x : SX.Idx → BitVec 32) : S32x2x32768.Idx → BitVec 32 :=
  fun j => BitVec.ofNat 32 (tally (inPair (P (2 * (j 1).val)) (P (2 * (j 1).val + 1)) (tileStream x (j 0).val))
    (binLow (P (2 * (j 1).val + 1)) (tileStream x (j 0).val)) 524288 (j 2).val)

/-- Row `t` of the result array. -/
def rowOf (t : ℕ) : Finset S32x2x32768.Idx := Finset.univ.filter fun j => (j 0).val = t
/-- Its half `h`. -/
def halfOf (t h : ℕ) : Finset S32x2x32768.Idx := Finset.univ.filter fun j => (j 0).val = t ∧ (j 1).val = h

theorem rowOf_eq (t : ℕ) : rowOf t = halfOf t 0 ∪ halfOf t 1 := by
  ext j
  have : (j 1).val < 2 := (j 1).isLt
  simp only [rowOf, halfOf, Finset.mem_union, Finset.mem_filter, Finset.mem_univ, true_and]
  omega

theorem half_disjoint (t : ℕ) : Disjoint (halfOf t 0) (halfOf t 1) := by
  rw [Finset.disjoint_left]
  intro j h0 h1
  simp only [halfOf, Finset.mem_filter, Finset.mem_univ, true_and] at h0 h1
  omega

variable (d : Dev nD) (i : grid2.Coords)

theorem wid_lt : 2 * (i 1).val + (i 0).val < 32 := by
  have h0 : (i 0).val < 2 := (i 0).isLt
  have h1 : (i 1).val < 16 := (i 1).isLt
  omega

abbrev cV : Fin τ.nSC := (i 0).castLE hcore2
abbrev jV : Fin τ.nSub := (i 1).castLE hsub2
/-- The tile's number: its row of the result. -/
abbrev wid : ℕ := 2 * (i 1).val + (i 0).val

theorem off14_eq : ∀ i : grid2.Coords, k2_off14 i = ![2 * (i 1).val + (i 0).val, 0, 0] := by decide +kernel
theorem off15_eq : ∀ i : grid2.Coords, k2_off15 i = ![2 * (i 1).val + (i 0).val, 1, 0] := by decide +kernel

/-! ## The payloads -/

/-- The bucket a loop adds to: fourteen key bits, in the upper half where the top half is the pair's second. -/
theorem pay_low (q : Vec F S16 .i32) (v : Vec F S1x16 .i32) (x : S16.Idx) (y : S1x16.Idx) (hy : (y 1).val = (x 0).val) :
    k2_pay5 k2_pay39 k2_pay40 k2_pay41 k2_pay42 k2_pay43 k2_pay44 q v x
      = if hi16 (v y) = q x then low14 (v y) ||| 0x4000#32 else low14 (v y) := by
  have e : (shapeCast S16 v shapeCasts_S1x16_S16 : Vec F S16 .i32) x = v y := cast_row v x y hy
  show Scalar.select (IntOp.cmpi .eq (hi16 ((shapeCast S16 v shapeCasts_S1x16_S16 : Vec F S16 .i32) x)) (q x))
    (low14 ((shapeCast S16 v shapeCasts_S1x16_S16 : Vec F S16 .i32) x) ||| 0x4000#32) (low14 ((shapeCast S16 v shapeCasts_S1x16_S16 : Vec F S16 .i32) x)) = _
  rw [e]
  unfold Scalar.select
  exact ite_congr (propext (cmp_eq _ _)) (fun _ => rfl) fun _ => rfl

/-- The mask: the top half is one of the pair. -/
theorem pay_mask (q q' : Vec F S16 .i32) (v : Vec F S1x16 .i32) (x : S16.Idx) (y : S1x16.Idx) (hy : (y 1).val = (x 0).val) :
    k2_pay6 k2_pay39 k2_pay40 k2_pay41 q q' v x = 1 ↔ hi16 (v y) = q x ∨ hi16 (v y) = q' x := by
  have e : (shapeCast S16 v shapeCasts_S1x16_S16 : Vec F S16 .i32) x = v y := cast_row v x y hy
  show IntOp.ori (IntOp.cmpi .eq (hi16 ((shapeCast S16 v shapeCasts_S1x16_S16 : Vec F S16 .i32) x)) (q x))
    (IntOp.cmpi .eq (hi16 ((shapeCast S16 v shapeCasts_S1x16_S16 : Vec F S16 .i32) x)) (q' x)) = 1 ↔ _
  rw [e]
  exact (or_one _ _).trans (or_congr (cmp_eq _ _) (cmp_eq _ _))

/-! ## One vector of one row -/

section Rows

variable (P : ℕ → BitVec 32) (X : ℕ → BitVec 32)

/-- The two scratch histograms over the stream's first `n` words. -/
def Two (n : ℕ) : sProp (Mach F) :=
  iprop(HistIs (V d (cV i) (jV i)) hA (inPair (P 0) (P 1) X) (binLow (P 1) X) n ∗ HistIs (V d (cV i) (jV i)) hB (inPair (P 2) (P 3) X) (binLow (P 3) X) n)

/-- One histogram's step: the bucket's range checked, the ones added under the mask. -/
theorem store_step {h : Memref sig .scVector .vmem S32768 .i32} (q q' : BitVec 32) (n : ℕ) {w m : IVec S16 32 } {mask : IVec S16 1}
    (hw : ∀ x : S16.Idx, w x = if hi16 (X (n + (x 0).val)) = q' then low14 (X (n + (x 0).val)) ||| 0x4000#32 else low14 (X (n + (x 0).val)))
    (hmask : ∀ x : S16.Idx, mask x = 1 ↔ hi16 (X (n + (x 0).val)) = q ∨ hi16 (X (n + (x 0).val)) = q') (hones : ∀ x, m x = 1#32)
    {chk : Prop} {dec : Decidable chk} (hchk : (∀ a x, ((![w] : Fin 1 → IVec S16 32) a x).toNat < S32768.size a) → chk)
    {inb' : chk → ∀ a x, ((![w] : Fin 1 → IVec S16 32) a x).toNat < S32768.size a}
    {hs : (h.access (.whole S32768)).Stores Finset.univ} {α : Type} {Q : α → sProp (Mach F)}
    {k : Prog (TpuEff nD τ sig (Elt F) Λ₀ (V d (cV i) (jV i)).2) α} :
    HistIs (V d (cV i) (jV i)) h (inPair q q' X) (binLow q' X) n
      ⊢ iprop((HistIs (V d (cV i) (jV i)) h (inPair q q' X) (binLow q' X) (n + 16) -∗ wp frame (wpE (defs₀ (F := F)) 𝒱₀ (V d (cV i) (jV i)) none) Set.univ k Q)
        -∗ wp frame (wpE (defs₀ (F := F)) 𝒱₀ (V d (cV i) (jV i)) none) Set.univ
          (.op (.assume chk dec) fun hw => SparseCore.vectorStoreIdx h ![w] m mask true (inb' hw.down) hs >>= fun _ => k) Q) := by
  have hix : ∀ x : S16.Idx, (w x).toNat = binLow q' X (n + (x 0).val) := fun x => congrArg BitVec.toNat (hw x)
  have hc : chk := hchk fun a x => by
    obtain rfl : a = 0 := Subsingleton.elim _ _
    exact lt_of_eq_of_lt (hix x) (binLow_lt q' X _)
  iintro Hh Hk
  rw [wp_assume_of _ _ _ _ hc]
  iapply (hist_step (V d (cV i) (jV i)) (h := h) (inPair q q' X) (binLow q' X) n hones (fun x => by
    rw [hmask x]; simp [inPair]) (fun x _ => hix x)) $$ Hh
  iintro Hh
  iapply Hk
  iexact Hh

/-- A step of a row's loop takes the buffer and the histograms of `n + 4096 r + 16 k` words to those of sixteen more. -/
theorem row_step {b : Memref sig .scVector .vmem S4x4096 .i32} (n r k : ℕ)
    {off : Fin 2 → ℕ} (hoff : off = ![r, 16 * k]) {inb : ∀ a, off a + S1x16.size a ≤ S4x4096.size a}
    {hl : b.view.LoadsAt (Rect.unit (s := S4x4096) off S1x16.size inb).toLoadRect}
    {pay pay' : Vec F S1x16 .i32 → IVec S16 32} {mask mask' : Vec F S1x16 .i32 → IVec S16 1}
    (hpay : ∀ v (x : S16.Idx) (y : S1x16.Idx), (y 1).val = (x 0).val → pay v x = if hi16 (v y) = P 1 then low14 (v y) ||| 0x4000#32 else low14 (v y))
    (hmask : ∀ v (x : S16.Idx) (y : S1x16.Idx), (y 1).val = (x 0).val → (mask v x = 1 ↔ hi16 (v y) = P 0 ∨ hi16 (v y) = P 1))
    (hpay' : ∀ v (x : S16.Idx) (y : S1x16.Idx), (y 1).val = (x 0).val → pay' v x = if hi16 (v y) = P 3 then low14 (v y) ||| 0x4000#32 else low14 (v y))
    (hmask' : ∀ v (x : S16.Idx) (y : S1x16.Idx), (y 1).val = (x 0).val → (mask' v x = 1 ↔ hi16 (v y) = P 2 ∨ hi16 (v y) = P 3))
    {chk chk' : IVec S16 32 → Prop} {dec : ∀ v, Decidable (chk v)} {dec' : ∀ v, Decidable (chk' v)}
    (hchk : ∀ v, (∀ a x, ((![v] : Fin 1 → IVec S16 32) a x).toNat < S32768.size a) → chk v)
    (hchk' : ∀ v, (∀ a x, ((![v] : Fin 1 → IVec S16 32) a x).toNat < S32768.size a) → chk' v)
    {inb1 : ∀ v, chk v → ∀ a x, ((![v] : Fin 1 → IVec S16 32) a x).toNat < S32768.size a}
    {inb2 : ∀ v, chk' v → ∀ a x, ((![v] : Fin 1 → IVec S16 32) a x).toNat < S32768.size a}
    {ones : IVec S16 32} (hones : ∀ x, ones x = 1#32) {hs : (hA.access (.whole S32768)).Stores Finset.univ} {hs' : (hB.access (.whole S32768)).Stores Finset.univ} :
    iprop(ChunkIs (V d (cV i) (jV i)) b X n ∗ Two d i P X (n + (r * 4096 + 16 * k)))
      ⊢ wp frame (wpE (defs₀ (F := F)) 𝒱₀ (V d (cV i) (jV i)) none) Set.univ
          (.op (.load b (Rect.unit (s := S4x4096) off S1x16.size inb).toLoadRect hl) fun v =>
            .op (.assume (chk (pay v)) (dec (pay v))) fun hw =>
              SparseCore.vectorStoreIdx hA ![pay v] ones (mask v) true (inb1 (pay v) hw.down) hs >>= fun _ =>
            .op (.assume (chk' (pay' v)) (dec' (pay' v))) fun hw =>
              SparseCore.vectorStoreIdx hB ![pay' v] ones (mask' v) true (inb2 (pay' v) hw.down) hs' >>= fun _ => .ret ⟨⟩)
          fun _ : Unit => iprop(ChunkIs (V d (cV i) (jV i)) b X n ∗ Two d i P X (n + (r * 4096 + 16 * (k + 1)))) := by
  unfold Two
  iintro ⟨Hb, Ha, Hc⟩
  iapply (chunk_load (V d (cV i) (jV i)) (b := b) r (16 * k) hoff) $$ Hb
  iintro %v %hv Hb
  have hx : ∀ x : S16.Idx, v (fun | 0 => ⟨0, Nat.one_pos⟩ | 1 => x 0 : S1x16.Idx) = X (n + (r * 4096 + 16 * k) + (x 0).val) := fun x => hv _
  iapply (store_step d i X (P 0) (P 1) (n + (r * 4096 + 16 * k)) (fun x => by
      rw [hpay v x (fun | 0 => ⟨0, Nat.one_pos⟩ | 1 => x 0) rfl, hx])
    (fun x => by rw [hmask v x (fun | 0 => ⟨0, Nat.one_pos⟩ | 1 => x 0) rfl, hx]) hones (hchk _)) $$ Ha
  iintro Ha
  iapply (store_step d i X (P 2) (P 3) (n + (r * 4096 + 16 * k)) (fun x => by
      rw [hpay' v x (fun | 0 => ⟨0, Nat.one_pos⟩ | 1 => x 0) rfl, hx])
    (fun x => by rw [hmask' v x (fun | 0 => ⟨0, Nat.one_pos⟩ | 1 => x 0) rfl, hx]) hones (hchk' _)) $$ Hc
  iintro Hc
  rw [wp_ret]
  imodintro
  isplitl [Hb]; · iexact Hb
  rw [show n + (r * 4096 + 16 * (k + 1)) = n + (r * 4096 + 16 * k) + 16 by omega]
  isplitl [Ha] <;> iassumption

/-- A row's loop: 256 steps. -/
theorem row_loop {b : Memref sig .scVector .vmem S4x4096 .i32} (n r : ℕ)
    {l : Scf.Loop 32} (hok : l.OK) (hl : l.trips = 256)
    {body : Fin l.trips → Unit → Prog (TpuEff nD τ sig (Elt F) Λ₀ (V d (cV i) (jV i)).2) Unit}
    (hbody : ∀ k u, iprop(ChunkIs (V d (cV i) (jV i)) b X n ∗ Two d i P X (n + (r * 4096 + 16 * k.val)))
      ⊢ wp frame (wpE (defs₀ (F := F)) 𝒱₀ (V d (cV i) (jV i)) none) Set.univ (body k u)
        fun _ => iprop(ChunkIs (V d (cV i) (jV i)) b X n ∗ Two d i P X (n + (r * 4096 + 16 * (k.val + 1)))))
    {α : Type} {Q : α → sProp (Mach F)} {kk : Unit → Prog (TpuEff nD τ sig (Elt F) Λ₀ (V d (cV i) (jV i)).2) α} :
    iprop(ChunkIs (V d (cV i) (jV i)) b X n ∗ Two d i P X (n + r * 4096))
      ⊢ iprop((iprop(ChunkIs (V d (cV i) (jV i)) b X n ∗ Two d i P X (n + (r + 1) * 4096))
            -∗ wp frame (wpE (defs₀ (F := F)) 𝒱₀ (V d (cV i) (jV i)) none) Set.univ (kk ⟨⟩) Q)
          -∗ wp frame (wpE (defs₀ (F := F)) 𝒱₀ (V d (cV i) (jV i)) none) Set.univ (l.for hok ⟨⟩ body >>= kk) Q) := by
  rw [show n + r * 4096 = n + (r * 4096 + 16 * 0) by omega]
  iintro H Hk
  iapply (Scf.wp_for_bind frame (wpE (defs₀ (F := F)) 𝒱₀ (V d (cV i) (jV i)) none) Set.univ l.lb l.ub l.st hok ⟨⟩ body
    (fun k _ => iprop(ChunkIs (V d (cV i) (jV i)) b X n ∗ Two d i P X (n + (r * 4096 + 16 * k)))) hbody) $$ H
  iintro %u H
  iapply Hk
  rw [show Scf.trips l.lb l.ub l.st = 256 from hl, show n + (r + 1) * 4096 = n + (r * 4096 + 16 * 256) by omega]
  iexact H

end Rows

/-- `pay_low` at a vector of sixteen copies of a bucket. -/
theorem low {q : Vec F S16 .i32} {p : BitVec 32} (h : ∀ x, q x = p) (v : Vec F S1x16 .i32) (x : S16.Idx) (y : S1x16.Idx) (hy : (y 1).val = (x 0).val) :
    k2_pay5 k2_pay39 k2_pay40 k2_pay41 k2_pay42 k2_pay43 k2_pay44 q v x = if hi16 (v y) = p then low14 (v y) ||| 0x4000#32 else low14 (v y) := by
  rw [pay_low q v x y hy, h]

/-- `pay_mask` at two vectors of sixteen copies of a bucket. -/
theorem pair {q q' : Vec F S16 .i32} {p p' : BitVec 32} (h : ∀ x, q x = p) (h' : ∀ x, q' x = p') (v : Vec F S1x16 .i32) (x : S16.Idx) (y : S1x16.Idx)
    (hy : (y 1).val = (x 0).val) : k2_pay6 k2_pay39 k2_pay40 k2_pay41 q q' v x = 1 ↔ hi16 (v y) = p ∨ hi16 (v y) = p' := by
  rw [pay_mask q q' v x y hy, h, h']

theorem pay38_one (x : S16.Idx) : k2_pay38 x = 1#32 := rfl

section Body

variable (x : Buf (Elt F) (xLoc d)) (qa qb : PosShare TreeShare)
variable (O : CellTallies nD τ sig (HIx 2)) (W : Waits sig (HIx 2)) (P : ℕ → BitVec 32) {v10 v11 v12 v13 : Vec F S16 .i32}

/-- The stream of the tile's words. -/
abbrev X : ℕ → BitVec 32 := tileStream x (wid i)

/-- The first buffer before trip `t`: its chunk on the way, or after the last trip free. -/
def stageA (t : ℕ) : sProp (Mach F) :=
  if t < 16 then Fetch (V d (cV i) (jV i)) (.dma cc2_scratch5.sem) (credit bA) iprop(ChunkIs (V d (cV i) (jV i)) bA (X d i x) (t * 32768) ∗ (xLoc d ↦{qa} x))
  else iprop(AnyBuf d (cV i) (jV i) bA ∗ (xLoc d ↦{qa} x) ∗ semVal (V d (cV i) (jV i), .dma cc2_scratch5.sem) 0)

theorem stageA_lt {t : ℕ} (h : t < 16) : stageA d i x qa t
    = Fetch (V d (cV i) (jV i)) (.dma cc2_scratch5.sem) (credit bA) iprop(ChunkIs (V d (cV i) (jV i)) bA (X d i x) (t * 32768) ∗ (xLoc d ↦{qa} x)) := if_pos h
theorem stageA_ge {t : ℕ} (h : ¬ t < 16) : stageA d i x qa t
    = iprop(AnyBuf d (cV i) (jV i) bA ∗ (xLoc d ↦{qa} x) ∗ semVal (V d (cV i) (jV i), .dma cc2_scratch5.sem) 0) := if_neg h

theorem cond1_iff : ∀ t : Fin k2_t2_loop.trips, k2_cond1 t = 1#1 ↔ t.val + 1 < 16 := by decide +kernel
theorem t2_trips : k2_t2_loop.trips = 16 := by decide +kernel

/-- Where a chunk starts in the stream. -/
theorem chunk_stream (r : ℕ) (k : ℕ) : X d i x (r * 4096 + k) = flat x ((256 * (i 1).val + 128 * (i 0).val + r) * 4096 + k) := by
  rw [show 256 * (i 1).val + 128 * (i 0).val = 128 * wid i by show _ = 128 * (2 * (i 1).val + (i 0).val); omega]
  exact tileStream_row x (wid i) r k

/-- The first half of a trip: the second buffer's fetch issued, the first buffer's waited for and counted, the first
    buffer's next fetch issued unless this is the last trip. -/
theorem part1 (h0 : ∀ x, v10 x = P 0) (h1 : ∀ x, v11 x = P 1) (h2 : ∀ x, v12 x = P 2) (h3 : ∀ x, v13 x = P 3) (hO : ∀ g, O g none = 0) (t : Fin k2_t2_loop.trips) (v15 : BitVec 32) :
    iprop(levAts (K (F := F)).L (K (F := F)).lev ∗ stageA d i x qa t.val ∗ AnyBuf d (cV i) (jV i) bB ∗ (xLoc d ↦{qb} x)
        ∗ semVal (V d (cV i) (jV i), .dma cc2_scratch6.sem) 0 ∗ Two d i P (X d i x) (t.val * 32768)
        ∗ Owes (V d (cV i) (jV i)) O W)
      ⊢ wp frame (wpE (defs₀ (F := F)) 𝒱₀ (V d (cV i) (jV i)) none) Set.univ
          (k2_part1 i xMem (Memref.isWhole_whole _) mMem (Memref.isWhole_whole _) oMem (Memref.isWhole_whole _) bA (Memref.isWhole_whole _) bB (Memref.isWhole_whole _)
            hA (Memref.isWhole_whole _) hB (Memref.isWhole_whole _) bM (Memref.isWhole_whole _) cc2_scratch5 cc2_scratch6 cc2_scoped0 cc2_scoped1 cc2_scoped2
            k2_pay38 k2_pay39 k2_pay40 k2_pay41 k2_pay42 k2_pay43 k2_pay44 v10 v11 v12 v13 v15 0#32 1#32 t)
          fun _ => iprop(stageA d i x qa (t.val + 1)
            ∗ Fetch (V d (cV i) (jV i)) (.dma cc2_scratch6.sem) (credit bB) iprop(ChunkIs (V d (cV i) (jV i)) bB (X d i x) (t.val * 32768 + 16384) ∗ (xLoc d ↦{qb} x))
            ∗ Two d i P (X d i x) (t.val * 32768 + 16384)
            ∗ Owes (V d (cV i) (jV i)) O W) := by
  have ht : t.val < 16 := lt_of_lt_of_eq t.isLt t2_trips
  rw [k2_part1_eq_skeleton, stageA_lt _ _ _ _ ht]
  unfold k2_part1_skel
  simp only [Prog.lift, Prog.bind_op, Prog.bind_ret, Prog.pure_eq_ret]
  iintro ⟨#Hlv, HA, HB, HxB, HvB, Hh, HO⟩
  iapply (chunk_fetch d (cV i) (jV i) (b := bB) _ (k2_off3_eq i t) x qb (X d i x) (t.val * 32768 + 16384) (fun k _ => by
    rw [show t.val * 32768 + 16384 + k = (8 * t.val + 4) * 4096 + k by omega, chunk_stream]
    exact congrArg (flat x) (by omega))) $$ [HxB HB HvB]
  · isplitl [HxB]; · iexact HxB
    isplitl [HB] <;> iassumption
  iintro HB
  iapply (fetch_wait (V d (cV i) (jV i)) (N := credit bA) rfl hO) $$ [HA HO]
  · isplitr; · iexact Hlv
    isplitl [HA] <;> iassumption
  iintro ⟨⟨HA, HxA⟩, HvA, HO⟩
  ihave H := (show iprop(ChunkIs (V d (cV i) (jV i)) bA (X d i x) (t.val * 32768) ∗ Two d i P (X d i x) (t.val * 32768))
    ⊢ iprop(ChunkIs (V d (cV i) (jV i)) bA (X d i x) (t.val * 32768) ∗ Two d i P (X d i x) (t.val * 32768 + 0 * 4096)) from
      by rw [Nat.zero_mul, Nat.add_zero]) $$ [HA Hh]
  · isplitl [HA] <;> iassumption
  iapply (row_loop d i P (X d i x) (t.val * 32768) 0 k2_t3_ok (by decide +kernel) (fun k u =>
    row_step d i P (X d i x) (t.val * 32768) 0 k.val (k2_off5_eq k) (low h1) (pair h0 h1) (low h3) (pair h2 h3) (fun _ h => h) (fun _ h => h) pay38_one)) $$ H
  iintro H
  iapply (row_loop d i P (X d i x) (t.val * 32768) 1 k2_t4_ok (by decide +kernel) (fun k u =>
    row_step d i P (X d i x) (t.val * 32768) 1 k.val (k2_off6_eq k) (low h1) (pair h0 h1) (low h3) (pair h2 h3) (fun _ h => h) (fun _ h => h) pay38_one)) $$ H
  iintro H
  iapply (row_loop d i P (X d i x) (t.val * 32768) 2 k2_t5_ok (by decide +kernel) (fun k u =>
    row_step d i P (X d i x) (t.val * 32768) 2 k.val (k2_off7_eq k) (low h1) (pair h0 h1) (low h3) (pair h2 h3) (fun _ h => h) (fun _ h => h) pay38_one)) $$ H
  iintro H
  iapply (row_loop d i P (X d i x) (t.val * 32768) 3 k2_t6_ok (by decide +kernel) (fun k u =>
    row_step d i P (X d i x) (t.val * 32768) 3 k.val (k2_off8_eq k) (low h1) (pair h0 h1) (low h3) (pair h2 h3) (fun _ h => h) (fun _ h => h) pay38_one)) $$ H
  iintro ⟨HA, Hh⟩
  ihave HA := (ChunkIs.any d (cV i) (jV i)) $$ HA
  by_cases hc : k2_cond1 t = 1#1
  · rw [dif_pos hc, stageA_lt _ _ _ _ ((cond1_iff t).mp hc)]
    simp only [Prog.lift, Prog.bind_op, Prog.bind_ret, Prog.pure_eq_ret]
    iapply (chunk_fetch d (cV i) (jV i) (b := bA) _ (k2_off9_eq i t) x qa (X d i x) ((t.val + 1) * 32768) (fun k _ => by
      rw [show (t.val + 1) * 32768 + k = (8 * t.val + 8) * 4096 + k by omega, chunk_stream]
      exact congrArg (flat x) (by omega))) $$ [HxA HA HvA]
    · isplitl [HxA]; · iexact HxA
      isplitl [HA] <;> iassumption
    iintro HA
    rw [wp_ret]; imodintro
    isplitl [HA]; · iexact HA
    isplitl [HB]; · iexact HB
    isplitl [Hh]; · iexact Hh
    iexact HO
  · rw [dif_neg hc, stageA_ge _ _ _ _ (fun h => hc ((cond1_iff t).mpr h))]
    simp only [Prog.lift, Prog.bind_op, Prog.bind_ret, Prog.pure_eq_ret]
    rw [wp_ret]; imodintro
    isplitl [HA HxA HvA]
    · isplitl [HA]; · iexact HA
      isplitl [HxA] <;> iassumption
    isplitl [HB]; · iexact HB
    isplitl [Hh]; · iexact Hh
    iexact HO

/-- A whole trip: both buffers' chunks counted. -/
theorem trip (h0 : ∀ x, v10 x = P 0) (h1 : ∀ x, v11 x = P 1) (h2 : ∀ x, v12 x = P 2) (h3 : ∀ x, v13 x = P 3) (hO : ∀ g, O g none = 0) (t : Fin k2_t2_loop.trips) (v15 : BitVec 32) (u : Unit) :
    iprop(levAts (K (F := F)).L (K (F := F)).lev ∗ stageA d i x qa t.val ∗ AnyBuf d (cV i) (jV i) bB ∗ (xLoc d ↦{qb} x)
        ∗ semVal (V d (cV i) (jV i), .dma cc2_scratch6.sem) 0 ∗ Two d i P (X d i x) (t.val * 32768)
        ∗ Owes (V d (cV i) (jV i)) O W)
      ⊢ wp frame (wpE (defs₀ (F := F)) 𝒱₀ (V d (cV i) (jV i)) none) Set.univ
          (k2_t2_body i xMem (Memref.isWhole_whole _) mMem (Memref.isWhole_whole _) oMem (Memref.isWhole_whole _) bA (Memref.isWhole_whole _) bB (Memref.isWhole_whole _)
            hA (Memref.isWhole_whole _) hB (Memref.isWhole_whole _) bM (Memref.isWhole_whole _) cc2_scratch5 cc2_scratch6 cc2_scoped0 cc2_scoped1 cc2_scoped2 v10 v11 v12 v13 v15 t u)
          fun _ => iprop(levAts (K (F := F)).L (K (F := F)).lev ∗ stageA d i x qa (t.val + 1) ∗ AnyBuf d (cV i) (jV i) bB ∗ (xLoc d ↦{qb} x)
            ∗ semVal (V d (cV i) (jV i), .dma cc2_scratch6.sem) 0 ∗ Two d i P (X d i x) ((t.val + 1) * 32768)
            ∗ Owes (V d (cV i) (jV i)) O W) := by
  unfold k2_t2_body
  iintro ⟨#Hlv, H⟩
  iapply (wp_then (part1 d i x qa qb O W P h0 h1 h2 h3 hO t v15)) $$ [H]
  · isplitr; · iexact Hlv
    iexact H
  iintro %_ ⟨HA, HB, Hh, HO⟩
  simp only [Prog.lift, Prog.bind_op, Prog.bind_ret, Prog.pure_eq_ret]
  iapply (fetch_wait (V d (cV i) (jV i)) (N := credit bB) rfl hO) $$ [HB HO]
  · isplitr; · iexact Hlv
    isplitl [HB] <;> iassumption
  iintro ⟨⟨HB, HxB⟩, HvB, HO⟩
  ihave H := (show iprop(ChunkIs (V d (cV i) (jV i)) bB (X d i x) (t.val * 32768 + 16384) ∗ Two d i P (X d i x) (t.val * 32768 + 16384))
    ⊢ iprop(ChunkIs (V d (cV i) (jV i)) bB (X d i x) (t.val * 32768 + 16384) ∗ Two d i P (X d i x) (t.val * 32768 + 16384 + 0 * 4096)) from
      by rw [Nat.zero_mul, Nat.add_zero]) $$ [HB Hh]
  · isplitl [HB] <;> iassumption
  iapply (row_loop d i P (X d i x) (t.val * 32768 + 16384) 0 k2_t7_ok (by decide +kernel) (fun k u =>
    row_step d i P (X d i x) (t.val * 32768 + 16384) 0 k.val (k2_off10_eq k) (low h1) (pair h0 h1) (low h3) (pair h2 h3) (fun _ h => h) (fun _ h => h) pay38_one)) $$ H
  iintro H
  iapply (row_loop d i P (X d i x) (t.val * 32768 + 16384) 1 k2_t8_ok (by decide +kernel) (fun k u =>
    row_step d i P (X d i x) (t.val * 32768 + 16384) 1 k.val (k2_off11_eq k) (low h1) (pair h0 h1) (low h3) (pair h2 h3) (fun _ h => h) (fun _ h => h) pay38_one)) $$ H
  iintro H
  iapply (row_loop d i P (X d i x) (t.val * 32768 + 16384) 2 k2_t9_ok (by decide +kernel) (fun k u =>
    row_step d i P (X d i x) (t.val * 32768 + 16384) 2 k.val (k2_off12_eq k) (low h1) (pair h0 h1) (low h3) (pair h2 h3) (fun _ h => h) (fun _ h => h) pay38_one)) $$ H
  iintro H
  iapply (row_loop d i P (X d i x) (t.val * 32768 + 16384) 3 k2_t10_ok (by decide +kernel) (fun k u =>
    row_step d i P (X d i x) (t.val * 32768 + 16384) 3 k.val (k2_off13_eq k) (low h1) (pair h0 h1) (low h3) (pair h2 h3) (fun _ h => h) (fun _ h => h) pay38_one)) $$ H
  iintro ⟨HB, Hh⟩
  ihave HB := (ChunkIs.any d (cV i) (jV i)) $$ HB
  rw [wp_ret]; imodintro
  isplitr; · iexact Hlv
  isplitl [HA]; · iexact HA
  isplitl [HB]; · iexact HB
  isplitl [HxB]; · iexact HxB
  isplitl [HvB]; · iexact HvB
  isplitl [Hh]
  · iapply (Entails.of_eq (congrArg (Two d i P (X d i x)) (show t.val * 32768 + 16384 + (3 + 1) * 4096 = (t.val + 1) * 32768 by omega))); iexact Hh
  iexact HO

/-- The zeroing loop. -/
theorem zeroing {α : Type} {Q : α → sProp (Mach F)} {kk : Unit → Prog (TpuEff nD τ sig (Elt F) Λ₀ (V d (cV i) (jV i)).2) α} :
    iprop(AnyBuf d (cV i) (jV i) hA ∗ AnyBuf d (cV i) (jV i) hB) ⊢ iprop((Two d i P (X d i x) 0
        -∗ wp frame (wpE (defs₀ (F := F)) 𝒱₀ (V d (cV i) (jV i)) none) Set.univ (kk ⟨⟩) Q)
      -∗ wp frame (wpE (defs₀ (F := F)) 𝒱₀ (V d (cV i) (jV i)) none) Set.univ
          (Scf.Loop.for k2_t1_loop k2_t1_ok ⟨⟩ (k2_t1_body i xMem (Memref.isWhole_whole _) mMem (Memref.isWhole_whole _) oMem (Memref.isWhole_whole _) bA (Memref.isWhole_whole _) bB (Memref.isWhole_whole _)
            hA (Memref.isWhole_whole _) hB (Memref.isWhole_whole _) bM (Memref.isWhole_whole _) cc2_scratch5 cc2_scratch6 cc2_scoped0 cc2_scoped1 cc2_scoped2) >>= kk) Q) := by
  unfold AnyBuf
  iintro ⟨⟨%f, H⟩, %f', H'⟩ Hk
  ihave H := (ZeroBelow.intro (V d (cV i) (jV i)) hA f) $$ H
  ihave H' := (ZeroBelow.intro (V d (cV i) (jV i)) hB f') $$ H'
  iapply (Scf.wp_for_bind frame (wpE (defs₀ (F := F)) 𝒱₀ (V d (cV i) (jV i)) none) Set.univ k2_t1_loop.lb k2_t1_loop.ub k2_t1_loop.st k2_t1_ok ⟨⟩ _
    (fun k _ => iprop(ZeroBelow (V d (cV i) (jV i)) hA (16 * k) ∗ ZeroBelow (V d (cV i) (jV i)) hB (16 * k))) (fun k _ => by
      unfold k2_t1_body
      simp only [Prog.lift, Prog.bind_op, Prog.bind_ret, Prog.pure_eq_ret]
      iintro ⟨H, H'⟩
      iapply (zero_step (V d (cV i) (jV i)) (16 * k.val) (k2_off1_eq k) (fun _ => rfl)) $$ H
      iintro H
      iapply (zero_step (V d (cV i) (jV i)) (16 * k.val) (k2_off1_eq k) (fun _ => rfl)) $$ H'
      iintro H'
      rw [wp_ret]; imodintro
      isplitl [H]; · iexact H
      iexact H')) $$ [H H']
  · isplitl [H]; · iexact H
    iexact H'
  iintro %_ ⟨H, H'⟩
  iapply Hk
  unfold Two
  isplitl [H]
  · iapply (ZeroBelow.hist (V d (cV i) (jV i)) hA (n := 16 * k2_t1_loop.trips) (by decide +kernel)); iexact H
  · iapply (ZeroBelow.hist (V d (cV i) (jV i)) hB (n := 16 * k2_t1_loop.trips) (by decide +kernel)); iexact H'

/-- Half `h` of the result's row of this tile, as the body slices it. -/
abbrev oHalf (off : Fin 3 → ℕ) (inb : ∀ a, off a + S1x1x32768.size a ≤ S32x2x32768.size a) : Memref sig .scVector .hbm S32768 .i32 :=
  (oMem.slice (Rect.unit (s := S32x2x32768) off S1x1x32768.size inb) (fun _ => rfl)).squeeze S32768 squeezes_S1x1x32768_S32768

theorem oHalf_set {off : Fin 3 → ℕ} {inb : ∀ a, off a + S1x1x32768.size a ≤ S32x2x32768.size a} {h : ℕ} (e : off = ![wid i, h, 0]) :
    (oHalf off inb).view.set = halfOf (wid i) h := by
  rw [show (oHalf off inb).view.set = (oMem.slice (Rect.unit (s := S32x2x32768) off S1x1x32768.size inb) (fun _ => rfl)).view.set from View.set_reshape _ _]
  show ((View.whole (main_v7_scv : Ref sig .scVector)).slice (Rect.unit (s := S32x2x32768) off S1x1x32768.size inb)).set = _
  rw [View.set_slice]
  refine (Finset.map_refl).trans (Finset.ext fun j => ?_)
  rw [Rect.mem_set_unit, halfOf, Finset.mem_filter]
  subst e
  constructor
  · intro hj
    have h1 : wid i ≤ (j 0).val ∧ (j 0).val < wid i + 1 := hj 0
    have h2 : h ≤ (j 1).val ∧ (j 1).val < h + 1 := hj 1
    exact ⟨Finset.mem_univ _, by omega, by omega⟩
  · rintro ⟨-, h1, h2⟩ a
    match a with
    | 0 => exact (show wid i ≤ (j 0).val ∧ (j 0).val < wid i + 1 by omega)
    | 1 => exact (show h ≤ (j 1).val ∧ (j 1).val < h + 1 by omega)
    | 2 => exact (show 0 ≤ (j 2).val ∧ (j 2).val < 0 + 32768 from ⟨Nat.zero_le _, by rw [Nat.zero_add]; exact (j 2).isLt⟩)

/-- The half's elements of the array of histograms, through the body's view. -/
theorem oHalf_read {off : Fin 3 → ℕ} {inb : ∀ a, off a + S1x1x32768.size a ≤ S32x2x32768.size a} {h : ℕ} (e : off = ![wid i, h, 0]) (hh : h < 2) (y : S32768.Idx) :
    (oHalf off inb).view.read (Elt F) (hist P x) y
      = BitVec.ofNat 32 (tally (inPair (P (2 * h)) (P (2 * h + 1)) (X d i x)) (binLow (P (2 * h + 1)) (X d i x)) 524288 (y 0).val) := by
  refine ((View.read_apply _ _).trans (cast_eq _ _)).trans ?_
  have e1 : ∀ h : S32768.numel = S1x1x32768.numel, Shape.reshapeEquiv h y = (fun | 0 => ⟨0, Nat.one_pos⟩ | 1 => ⟨0, Nat.one_pos⟩ | 2 => y 0 : S1x1x32768.Idx) := by
    intro h
    refine Shape.reshapeEquiv_eq_of_rowMajor _ ?_
    rw [Shape.rowMajor_val_three, Shape.rowMajor_val_one]
    show (0 * 1 + 0) * 32768 + (y 0).val = (y 0).val
    omega
  have e' : ((oHalf off inb).view.emb y : S32x2x32768.Idx) = (fun | 0 => ⟨wid i, wid_lt i⟩ | 1 => ⟨h, hh⟩ | 2 => y 0) := by
    funext a
    refine Fin.ext ?_
    show off a + 1 * (Shape.reshapeEquiv (s := S1x1x32768) (s' := S32768) squeezes_S1x1x32768_S32768.numel_eq y a).val = _
    rw [e1]
    subst e
    match a with
    | 0 => rfl
    | 1 => rfl
    | 2 => exact (show 0 + 1 * (y 0).val = (y 0).val by omega)
  rw [e', hist]

theorem half_pts {off : Fin 3 → ℕ} {inb : ∀ a, off a + S1x1x32768.size a ≤ S32x2x32768.size a} {h : ℕ} (e : off = ![wid i, h, 0]) (q : PosShare TreeShare) (f : Buf (Elt F) (oLoc d)) :
    (oLoc d ↦[halfOf (wid i) h]{q} f : sProp (Mach F)) = ((oHalf off inb).view.loc (V d (cV i) (jV i)) ↦[(oHalf off inb).view.set]{q} f) := by
  rw [oHalf_set i e]

/-- The scratch holds the four bucket numbers, sixteen times each. -/
def MetaIs : sProp (Mach F) :=
  iprop(∃ f, ⌜∀ j : S64.Idx, bM.view.read (Elt F) f j = P ((j 0).val / 16)⌝ ∗ bM.view.loc (V d (cV i) (jV i)) ↦[bM.view.set]{fullShare} f)

/-- The sixteen copies of bucket number `n`, loaded. -/
theorem meta_load (n : ℕ) {off : Fin 1 → ℕ} (hoff : off = ![16 * n]) {inb : ∀ a, off a + S16.size a ≤ S64.size a}
    {hl : bM.view.LoadsAt (Rect.unit (s := S64) off S16.size inb).toLoadRect} {α : Type} {Q : α → sProp (Mach F)}
    {k : Vec F S16 .i32 → Prog (TpuEff nD τ sig (Elt F) Λ₀ (V d (cV i) (jV i)).2) α} :
    MetaIs d i P ⊢ iprop((∀ v : Vec F S16 .i32, ⌜∀ x, v x = P n⌝ -∗ MetaIs d i P
        -∗ wp frame (wpE (defs₀ (F := F)) 𝒱₀ (V d (cV i) (jV i)) none) Set.univ (k v) Q)
      -∗ wp frame (wpE (defs₀ (F := F)) 𝒱₀ (V d (cV i) (jV i)) none) Set.univ (.op (.load bM (Rect.unit (s := S64) off S16.size inb).toLoadRect hl) k) Q) := by
  unfold MetaIs
  iintro ⟨%f, %hf, H⟩ Hk
  iapply (wp_load 𝒱₀ (V d (cV i) (jV i)) none Set.univ (m := bM) (View.setOn_subset_set _ _)) $$ H
  iintro H
  ispecialize Hk $$ %_
  iapply Hk $$ []
  · ipureintro
    intro x
    subst hoff
    rw [View.readAt_apply]
    refine (hf _).trans (congrArg P ?_)
    have h0 : (x 0).val < 16 := (x 0).isLt
    show (16 * n + 1 * (x 0).val) / 16 = n
    omega
  · iexists f
    isplitr
    · ipureintro; exact hf
    · iexact H

/-- What tile `t` is handed: shares of the input and of the bucket numbers, and its row of the result. -/
abbrev goP (q : PosShare TreeShare) (mb : Buf (Elt F) (mLoc d)) (t : ℕ) : sProp (Mach F) :=
  iprop((xLoc d ↦{q} x) ∗ (mLoc d ↦{q} mb) ∗ (∃ f : Buf (Elt F) (oLoc d), oLoc d ↦[rowOf t]{fullShare} f))
/-- What tile `t` hands back: the shares, and its row filled in. -/
abbrev tdP (q : PosShare TreeShare) (mb : Buf (Elt F) (mLoc d)) (t : ℕ) : sProp (Mach F) :=
  iprop((xLoc d ↦{q} x) ∗ (mLoc d ↦{q} mb) ∗ (oLoc d ↦[rowOf t]{fullShare} hist P x))

/-- The body at tile `i`: its row of the result ends as `hist P x`'s. -/
theorem tile_body (hF : (K (F := F)).Facts) (q : PosShare TreeShare) (mb : Buf (Elt F) (mLoc d)) (hmb : ∀ j : S64.Idx, mb j = P ((j 0).val / 16)) (hO : ∀ g, O g none = 0) :
    iprop(levAts (K (F := F)).L (K (F := F)).lev ∗ goP d x q mb (wid i)
        ∗ scopedBufs (V d (cV i) (jV i)) ∗ scopedSems0 (V d (cV i) (jV i)) ∗ owes (V d (cV i) (jV i)) O W)
      ⊢ wp frame (wpE (defs₀ (F := F)) 𝒱₀ (V d (cV i) (jV i)) none) Set.univ
          (cc2_sc_hist_pass2 i xMem (Memref.isWhole_whole _) mMem (Memref.isWhole_whole _) oMem (Memref.isWhole_whole _) bA (Memref.isWhole_whole _) bB (Memref.isWhole_whole _)
            hA (Memref.isWhole_whole _) hB (Memref.isWhole_whole _) bM (Memref.isWhole_whole _) cc2_scratch5 cc2_scratch6 cc2_scoped0 cc2_scoped1 cc2_scoped2)
          fun _ => iprop(tdP d x P q mb (wid i) ∗ scopedBufs (V d (cV i) (jV i)) ∗ scopedSems0 (V d (cV i) (jV i))
            ∗ ∃ W', ⌜∀ p ∈ W', p ∈ W ∨ p.2 = none⌝ ∗ owes (V d (cV i) (jV i)) O W') := by
  simp only [cc2_sc_hist_pass2_eq_skeleton]; unfold cc2_sc_hist_pass2_skel
  simp only [k2_part2_eq_skeleton]; unfold k2_part2_skel
  simp only [Prog.lift, Prog.bind_op, Prog.bind_ret, Prog.pure_eq_ret, bind_assoc]
  rw [(K (F := F)).scopedBufs_V hF d (cV i) (jV i), SparseCore.Cfg.scopedSems0_V (Val := Elt F) d (cV i) (jV i),
    sems_take d (cV i) (jV i) {.dma cc2_scratch5.sem, .dma cc2_scratch6.sem, .dma cc2_scoped0.sem, .dma cc2_scoped1.sem, .dma cc2_scoped2.sem} (by decide +kernel),
    bufs_take d (cV i) (jV i) {cc2_scratch0, cc2_scratch1, cc2_scratch2, cc2_scratch3, cc2_scratch4} (fun r hr => by
      simp only [Finset.mem_insert, Finset.mem_singleton] at hr
      rcases hr with rfl | rfl | rfl | rfl | rfl <;> rfl)]
  rw [SparseCore.bigSep_insert' (by decide +kernel), SparseCore.bigSep_insert' (by decide +kernel), SparseCore.bigSep_insert' (by decide +kernel), SparseCore.bigSep_insert' (by decide +kernel), bigSep_singleton,
    SparseCore.bigSep_insert' (by decide +kernel), SparseCore.bigSep_insert' (by decide +kernel), SparseCore.bigSep_insert' (by decide +kernel), SparseCore.bigSep_insert' (by decide +kernel), bigSep_singleton,
    ← anyBuf_whole, ← anyBuf_whole, ← anyBuf_whole, ← anyBuf_whole, ← anyBuf_whole]
  iintro ⟨#Hlv, ⟨Hx, Hm, ⟨%fo, Ho⟩⟩, ⟨⟨HA, HB, Ha, Hb, HM⟩, Hbufs⟩, ⟨⟨HvA, HvB, HvM, HvO, HvO'⟩, Hsems⟩, HO⟩
  ihave HO := (Owes.intro (V d (cV i) (jV i)) O W) $$ HO
  ihave HM := (Entails.of_eq (show AnyBuf d (cV i) (jV i) bM = iprop(∃ f, bM.view.loc (V d (cV i) (jV i)) ↦[bM.view.set]{fullShare} f) from rfl)) $$ HM
  icases HM with ⟨%fm, HM⟩
  iapply (fetch_issue (V d (cV i) (jV i)) (src := mMem) (dst := bM) (fs := mb) (Ss := Finset.univ) (Finset.subset_univ _) (credit bM) rfl
    (View.dmaCredit_pos _ (by decide))) $$ [Hm HM HvM]
  · isplitl [Hm]; · iexact Hm
    isplitl [HM] <;> iassumption
  iintro HF
  iapply (fetch_wait (V d (cV i) (jV i)) (N := credit bM) rfl hO) $$ [HF HO]
  · isplitr; · iexact Hlv
    isplitl [HF] <;> iassumption
  iintro ⟨⟨HM, Hm⟩, HvM, HO⟩
  ihave HM := (show _ ⊢ MetaIs d i P from by
    unfold MetaIs
    iintro H
    iexists _
    isplitr
    swap
    · iexact H
    ipureintro
    intro j
    rw [View.read_write_univ]
    exact hmb j) $$ HM
  iapply (meta_load d i P 0 rfl) $$ HM
  iintro %v10 %h0 HM
  iapply (meta_load d i P 1 rfl) $$ HM
  iintro %v11 %h1 HM
  iapply (meta_load d i P 2 rfl) $$ HM
  iintro %v12 %h2 HM
  iapply (meta_load d i P 3 rfl) $$ HM
  iintro %v13 %h3 HM
  iapply (zeroing d i x P) $$ [Ha Hb]
  · isplitl [Ha] <;> iassumption
  iintro Hh
  simp only [Prog.lift, Prog.bind_op, Prog.bind_ret, Prog.pure_eq_ret]
  ihave Hx := ((pointsTo_share (PosShare.mem_left_op_right q)).1) $$ Hx
  icases Hx with ⟨HxA, HxB⟩
  iapply (chunk_fetch d (cV i) (jV i) (b := bA) _ (k2_off2_eq i) x q.left (X d i x) (0 * 32768) (fun k _ => by
    rw [show 0 * 32768 + k = 0 * 4096 + k by omega, chunk_stream]
    exact congrArg (flat x) (by omega))) $$ [HxA HA HvA]
  · isplitl [HxA]; · iexact HxA
    isplitl [HA]; · iexact HA
    iexact HvA
  iintro HA
  iapply (Scf.wp_for_bind frame (wpE (defs₀ (F := F)) 𝒱₀ (V d (cV i) (jV i)) none) Set.univ k2_t2_loop.lb k2_t2_loop.ub k2_t2_loop.st k2_t2_ok ⟨⟩ _
    (fun t _ => iprop(levAts (K (F := F)).L (K (F := F)).lev ∗ stageA d i x q.left t ∗ AnyBuf d (cV i) (jV i) bB ∗ (xLoc d ↦{q.right} x)
      ∗ semVal (V d (cV i) (jV i), .dma cc2_scratch6.sem) 0 ∗ Two d i P (X d i x) (t * 32768)
      ∗ Owes (V d (cV i) (jV i)) O W))
    (fun t u => trip d i x q.left q.right O W P h0 h1 h2 h3 hO t _ u)) $$ [HA HB HxB HvB Hh HO]
  · isplitr; · iexact Hlv
    rw [stageA_lt _ _ _ _ (by norm_num : 0 < 16), Nat.zero_mul]
    isplitl [HA]; · iexact HA
    isplitl [HB]; · iexact HB
    isplitl [HxB]; · iexact HxB
    isplitl [HvB]; · iexact HvB
    isplitl [Hh]; · iexact Hh
    iexact HO
  iintro %_ ⟨-, HA, HB, HxB, HvB, Hh, HO⟩
  ihave HA := (Entails.of_eq (stageA_ge d i x q.left (t := Scf.trips k2_t2_loop.lb k2_t2_loop.ub k2_t2_loop.st) (by rw [show Scf.trips k2_t2_loop.lb k2_t2_loop.ub k2_t2_loop.st = 16 from t2_trips]; norm_num))) $$ HA
  ihave Hh := (Entails.of_eq (congrArg (Two d i P (X d i x)) (show Scf.trips k2_t2_loop.lb k2_t2_loop.ub k2_t2_loop.st * 32768 = 524288 by
    rw [show Scf.trips k2_t2_loop.lb k2_t2_loop.ub k2_t2_loop.st = 16 from t2_trips]))) $$ Hh
  icases HA with ⟨HA, HxA, HvA⟩
  ihave Hh := (Entails.of_eq (show Two d i P (X d i x) 524288 = iprop(HistIs (V d (cV i) (jV i)) hA (inPair (P 0) (P 1) (X d i x)) (binLow (P 1) (X d i x)) 524288 ∗ HistIs (V d (cV i) (jV i)) hB (inPair (P 2) (P 3) (X d i x)) (binLow (P 3) (X d i x)) 524288) from rfl)) $$ Hh
  icases Hh with ⟨Ha, Hb⟩
  ihave Ho := (Entails.of_eq (congrArg (fun S => (oLoc d ↦[S]{fullShare} fo : sProp (Mach F))) (rowOf_eq (wid i)))) $$ Ho
  ihave Ho := ((pointsTo_union (half_disjoint (wid i))).1) $$ Ho
  icases Ho with ⟨Ho, Ho'⟩
  simp only [Prog.lift, Prog.bind_op, Prog.bind_ret, Prog.pure_eq_ret]
  iapply (hist_out d (cV i) (jV i) (dst := oHalf (k2_off14 i) (k2_off14_inb i)) (h := hA) (hist P x) (oHalf_read d i x P (off14_eq i) (by norm_num)) (by decide)) $$ [Ha Ho HvO]
  · isplitl [Ha]; · iexact Ha
    isplitl [Ho]
    · iapply (Entails.of_eq (half_pts d i (off14_eq i) fullShare fo)); iexact Ho
    · iexact HvO
  iintro HF
  iapply (fetch_wait (V d (cV i) (jV i)) (N := credit (oHalf (k2_off14 i) (k2_off14_inb i))) rfl hO) $$ [HF HO]
  · isplitr; · iexact Hlv
    isplitl [HF] <;> iassumption
  iintro ⟨⟨Ho, Ha⟩, HvO, HO⟩
  iapply (hist_out d (cV i) (jV i) (dst := oHalf (k2_off15 i) (k2_off15_inb i)) (h := hB) (hist P x) (oHalf_read d i x P (off15_eq i) (by norm_num)) (by decide)) $$ [Hb Ho' HvO']
  · isplitl [Hb]; · iexact Hb
    isplitl [Ho']
    · iapply (Entails.of_eq (half_pts d i (off15_eq i) fullShare fo)); iexact Ho'
    · iexact HvO'
  iintro HF
  iapply (fetch_wait (V d (cV i) (jV i)) (N := credit (oHalf (k2_off15 i) (k2_off15_inb i))) rfl hO) $$ [HF HO]
  · isplitr; · iexact Hlv
    isplitl [HF] <;> iassumption
  iintro ⟨⟨Ho', Hb⟩, HvO', HO⟩
  ihave HM := (show MetaIs d i P ⊢ AnyBuf d (cV i) (jV i) bM from by
    unfold MetaIs AnyBuf
    iintro ⟨%f, -, H⟩
    iexists f
    iexact H) $$ HM
  rw [wp_ret]; imodintro
  isplitl [HxA HxB Hm Ho Ho']
  · isplitl [HxA HxB]
    · iapply ((pointsTo_share (PosShare.mem_left_op_right q)).2)
      isplitl [HxA] <;> iassumption
    isplitl [Hm]; · iexact Hm
    rw [rowOf_eq]
    iapply ((pointsTo_union (half_disjoint (wid i))).2)
    isplitl [Ho]
    · iapply (Entails.of_eq (half_pts d i (off14_eq i) fullShare (hist P x)).symm); iexact Ho
    · iapply (Entails.of_eq (half_pts d i (off15_eq i) fullShare (hist P x)).symm); iexact Ho'
  isplitl [HA HB Ha Hb HM Hbufs]
  · isplitl [HA HB Ha Hb HM]
    · isplitl [HA]; · iexact HA
      isplitl [HB]; · iexact HB
      isplitl [Ha]; · iexact Ha
      isplitl [Hb]; · iexact Hb
      iexact HM
    · iexact Hbufs
  isplitl [HvA HvB HvM HvO HvO' Hsems]
  · isplitl [HvA HvB HvM HvO HvO']
    · isplitl [HvA]; · iexact HvA
      isplitl [HvB]; · iexact HvB
      isplitl [HvM]; · iexact HvM
      isplitl [HvO] <;> iassumption
    · iexact Hsems
  unfold Owes
  iexact HO

end Body

end Cert.Proof.Pass2

end
-- ==== Proof.Whole.lean ====
/-
  What the two TensorCore regions share: loads and stores of a whole buffer whose rectangle is written out with an
  offset vector of zeros, and what the TensorCore owes the SparseCores while it runs a region.
-/
module

public import proofs.«01_k».proof.Proof.Setup
public import Idealize.ShloMosaic.Lib.Pipeline.RegionsLoop
public import Idealize.ShloMosaic.Lib.Pipeline.ValueKit

@[expose] public section

noncomputable section

namespace Cert.Proof

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

theorem zeros2 : (![0, 0] : Fin 2 → ℕ) = fun _ => 0 := by funext a; fin_cases a <;> rfl
theorem zeros3 : (![0, 0, 0] : Fin 3 → ℕ) = fun _ => 0 := by funext a; fin_cases a <;> rfl
theorem zeros4 : (![0, 0, 0, 0] : Fin 4 → ℕ) = fun _ => 0 := by funext a; fin_cases a <;> rfl

/-- Buffer `M` of the TensorCore of device `c`, whole, at `f`. -/
abbrev pt (c : Dev nD) {sp : Space} {S : Shape} {e : EltTy} (M : Memref sig .tc sp S e) (f : Buf (Elt F) (M.view.loc (c : Thread nD τ))) : sProp (Mach F) :=
  M.view.loc (c : Thread nD τ) ↦{fullShare} f

/-- A load of a whole buffer from offset zero gives what the buffer holds. -/
theorem load_all (c : Dev nD) {cs : CoreSpace} {i : Fin (sig.nNear .tc cs)} {hκ : sig.names .tc cs i = true}
    {off : Fin (sig.tyNear .tc cs i).shape.rank → ℕ} (h : off = fun _ => 0)
    {inb : ∀ a, off a + (sig.tyNear .tc cs i).shape.size a ≤ (sig.tyNear .tc cs i).shape.size a}
    {hl : (Memref.whole ⟨cs, i, hκ⟩ : Memref sig .tc _ _ _).view.LoadsAt (Rect.unit off (sig.tyNear .tc cs i).shape.size inb).toLoadRect}
    {k : (sig.tyNear .tc cs i).Contents (Elt F) → Prog (TpuEff nD τ sig (Elt F) Λ₀ .tc) PUnit}
    {f : (sig.tyNear .tc cs i).Contents (Elt F)} {Q : PUnit → sProp (Mach F)} :
    pt c (Memref.whole ⟨cs, i, hκ⟩) f
      ⊢ iprop((pt c (Memref.whole ⟨cs, i, hκ⟩) f -∗ wp frame (wpE (defs₀ (F := F)) 𝒱₀ (c : Thread nD τ) none) Set.univ (k f) Q)
        -∗ wp frame (wpE (defs₀ (F := F)) 𝒱₀ (c : Thread nD τ) none) Set.univ
            (.op (.load (Memref.whole ⟨cs, i, hκ⟩) (Rect.unit off (sig.tyNear .tc cs i).shape.size inb).toLoadRect hl) k) Q) := by
  subst h
  exact wp_load_whole 𝒱₀ (c : Thread nD τ) none Set.univ

/-- A store over a whole buffer from offset zero leaves the stored value. -/
theorem store_all (c : Dev nD) {cs : CoreSpace} {i : Fin (sig.nNear .tc cs)} {hκ : sig.names .tc cs i = true}
    {off : Fin (sig.tyNear .tc cs i).shape.rank → ℕ} (h : off = fun _ => 0)
    {inb : ∀ a, off a + (sig.tyNear .tc cs i).shape.size a ≤ (sig.tyNear .tc cs i).shape.size a}
    {w : (sig.tyNear .tc cs i).Contents (Elt F)}
    {hx : ((Memref.whole ⟨cs, i, hκ⟩ : Memref sig .tc _ _ _).access (Rect.unit off (sig.tyNear .tc cs i).shape.size inb)).Stores Finset.univ}
    {hm : (Finset.univ : Finset (Rect.unit off (sig.tyNear .tc cs i).shape.size inb).shape.Idx) = Finset.univ
      ∨ ∀ a, (Rect.unit off (sig.tyNear .tc cs i).shape.size inb).stride a = 1}
    {k : PUnit → Prog (TpuEff nD τ sig (Elt F) Λ₀ .tc) PUnit}
    {f : (sig.tyNear .tc cs i).Contents (Elt F)} {Q : PUnit → sProp (Mach F)} :
    pt c (Memref.whole ⟨cs, i, hκ⟩) f
      ⊢ iprop((pt c (Memref.whole ⟨cs, i, hκ⟩) w -∗ wp frame (wpE (defs₀ (F := F)) 𝒱₀ (c : Thread nD τ) none) Set.univ (k ⟨⟩) Q)
        -∗ wp frame (wpE (defs₀ (F := F)) 𝒱₀ (c : Thread nD τ) none) Set.univ
            (.op (.store (Memref.whole ⟨cs, i, hκ⟩) (Rect.unit off (sig.tyNear .tc cs i).shape.size inb) w Finset.univ hx hm) k) Q) := by
  subst h
  exact wp_store_whole 𝒱₀ (c : Thread nD τ) none Set.univ

/-! ## What the TensorCore owes during a region -/

/-- The TensorCore's debts to the SparseCores are all at a call's index. -/
theorem otc_none (n : ℕ) (c : Dev nD) (g : GSem nD τ sig) : (K (F := F)).Otc c n g (none : HIx 2) = 0 := by
  by_contra h
  have h1 := SparseCore.Cfg.lev_of_Otc_pos (Nat.pos_of_ne_zero h)
  rw [SparseCore.Cfg.lev_none] at h1
  omega

/-- The waits of level at most `b`. -/
def early (b : ℕ) (c : Dev nD) : Set (SemLoc sig × HIx 2) :=
  {p | (K (F := F)).lev ((c : Thread nD τ), p.1) p.2 ≤ b}

/-- The TensorCore owes the SparseCores the calls from `n` on, and its waits are of level at most `b`. -/
def owed (n b : ℕ) (c : Dev nD) : sProp (Mach F) :=
  iprop(∃ W, ⌜(K (F := F)).WBelow (c : Thread nD τ) W b⌝ ∗ owes (c : Thread nD τ) ((K (F := F)).Otc c n) W)

/-- Any proof data, for the region not entered. -/
def anyDat {cfg : Pipeline.Cfg sig Λ₀} (c : Dev nD) : Pipeline.Dat τ (Elt F) (HIx 2) ℕ UU ℕ cfg c where
  A _ := fun _ => Classical.arbitrary _
  after _ _ := fun _ => Classical.arbitrary _
  Φ _ := BI.emp
  q _ := fullShare
  owed _ := 0

end Cert.Proof

end
-- ==== Proof.TC1.lean ====
/-
  The first TensorCore kernel (prefix sums of the summed histograms, and the row of bucket numbers and ranks it leaves)
  as a function of the array it reads, and its region of @main.
-/
module

public import proofs.«01_k».proof.Proof.Whole
public import proofs.«01_k».proof.Proof.Gen.KernelIdeal.Points
public import Idealize.ShloMosaic.Lib.Pipeline.Value

@[expose] public section

noncomputable section

namespace Cert.Proof.TC1

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation)

variable {F : FTy → Type} [FloatOps F]

section

variable (v0 : Vec F S32x512x128 .i32)

/-- The summed histogram's prefix sums. -/
def cum : IVec S512x128 32 := k1_pay7 (k1_pay3 (F := F) v0) (k1_pay4 (F := F) v0) (k1_pay5 (F := F) v0) k1_pay6
/-- The lower rank's bucket. -/
def p0lo : BitVec 32 :=
  extractAt ![0, 0, 0] (k1_pay9 (k1_pay3 (F := F) v0) (k1_pay4 (F := F) v0) (k1_pay5 (F := F) v0) k1_pay6) inpos_S1x1x1_p0_0_0
/-- How many words lie in the buckets below it. -/
def belowLo : BitVec 32 :=
  extractAt ![0, 0, 0] (k1_pay10 (k1_pay2 (F := F) v0) (k1_pay3 (F := F) v0) (k1_pay4 (F := F) v0) (k1_pay5 (F := F) v0) k1_pay6) inpos_S1x1x1_p0_0_0
/-- How many words lie in the buckets below the upper rank's. -/
def belowHi : BitVec 32 :=
  extractAt ![0, 0, 0] (k1_pay12 (k1_pay2 (F := F) v0) (cum v0) k1_pay8) inpos_S1x1x1_p0_0_0
/-- The bucket of the rank after the upper one. -/
def p1hi : BitVec 32 :=
  extractAt ![0, 0, 0] (k1_pay13 (cum v0)) inpos_S1x1x1_p0_0_0

/-- The row the kernel stores. -/
def row : IVec S1x128 32 :=
  k1_pay1 (p1hi v0) (Scalar.subi 838860#32 (belowLo v0)) (Scalar.subi 15938354#32 (belowHi v0))
    (iota .tc S1x128 32 [1] iota_S1x128_d1_w32) (k1_pay14 (cum v0) (p0lo v0) k1_pay11) k1_pay15

end

/-- A kernel that reads its first buffer whole and stores a function of it over the whole of its second. -/
theorem run_of (c : Dev nD) (g : Vec F S32x512x128 .i32 → Vec F S1x128 .i32) (f0 : Vec F S32x512x128 .i32) (f1 : Vec F S1x128 .i32)
    (Q : PUnit → sProp (Mach F)) :
    iprop(pt c (stage1_0 0) f0 ∗ pt c (stage1_1 0) f1 ∗ (iprop(pt c (stage1_0 0) f0 ∗ pt c (stage1_1 0) (g f0)) -∗ Q ⟨⟩))
      ⊢ wp frame (wpE (defs₀ (F := F)) 𝒱₀ (c : Thread nD τ) none) Set.univ
          (.op (.load (stage1_0 0) (Rect.unit (s := S32x512x128) ![0, 0, 0] S32x512x128.size inb_S32x512x128_S32x512x128_0_0_0).toLoadRect (View.loadsAt_vmem h_S32x512x128)) fun v =>
            .op (.load (stage1_1 0) (Rect.unit (s := S1x128) ![0, 0] S1x128.size inb_S1x128_S1x128_0_0).toLoadRect (View.loadsAt_vmem h_S1x128)) fun _ =>
            .op (.store (stage1_1 0) (Rect.unit (s := S1x128) ![0, 0] S1x128.size inb_S1x128_S1x128_0_0) (g v) Finset.univ (View.stores_vmem_bits_univ h_S1x128 rfl) (.inl rfl)) fun _ =>
            .ret ⟨⟩) Q := by
  iintro ⟨H0, H1, Hk⟩
  iapply (load_all c (cs := .vmem) (i := (cc1_stg0_0).idx) (hκ := rfl) (f := f0) zeros3) $$ H0
  iintro H0
  iapply (load_all c (cs := .vmem) (i := (cc1_stg1_0).idx) (hκ := rfl) (f := f1) zeros2) $$ H1
  iintro H1
  iapply (store_all c (cs := .vmem) (i := (cc1_stg1_0).idx) (hκ := rfl) (f := f1) zeros2) $$ H1
  iintro H1
  rw [wp_ret]
  imodintro
  iapply Hk
  isplitl [H0]
  · iexact H0
  · iexact H1

/-- The kernel run on its two staging buffers. -/
theorem body_run (c : Dev nD) (f0 : Vec F S32x512x128 .i32) (f1 : Vec F S1x128 .i32) (Q : PUnit → sProp (Mach F)) :
    iprop(pt c (stage1_0 0) f0 ∗ pt c (stage1_1 0) f1
        ∗ (iprop(pt c (stage1_0 0) f0 ∗ pt c (stage1_1 0) (row f0)) -∗ Q ⟨⟩))
      ⊢ wp frame (wpE (defs₀ (F := F)) 𝒱₀ (c : Thread nD τ) none) Set.univ
          (cc1__tc_prefix (stage1_0 0) (hstage1_0 0) (stage1_1 0) (hstage1_1 0)) Q := by
  simp only [cc1__tc_prefix_eq_skeleton]; unfold cc1__tc_prefix_skel
  simp only [k1_part1_eq_skeleton, k1_part2_eq_skeleton, k1_part3_eq_skeleton]
  unfold k1_part1_skel k1_part2_skel k1_part3_skel
  simp only [Prog.lift, Prog.bind_op, Prog.bind_ret, Prog.pure_eq_ret, bind_assoc]
  exact run_of c row f0 f1 Q

/-! ## The region -/

section Region

variable (n b : ℕ) (V : (c : Dev nD) → (b : Ref sig .tc) → Buf (Elt F) ((c : Thread nD τ).loc b))

/-- The proof data of the region entered from `V`: the input's array as staged, the kernel's row of it, the scoped
    buffers of the other region kept, the calls from `n` on owed throughout. -/
def dat (c : Dev nD) : Dat τ (Elt F) (HIx 2) ℕ UU ℕ cfg1 c where
  A w := V c (Pipeline.arrRef spec1 w)
  after w _ := match w with
    | ⟨0, _⟩ => V c main_v1
    | ⟨1, _⟩ => row (F := F) (V c main_v1)
  Φ _ := Pipeline.scopedRest spec1 c
  q _ := fullShare
  owed _ := (K (F := F)).Otc c n
  recorded _ := early (F := F) b c

variable (adm : (p : Fin 2) → (pcfgs (F := F) p).Adm)

/-- The data of both pipelines: this entry's, and any for the other. -/
def dats : (p : Fin 2) → (c : Dev nD) → Dat τ (Elt F) (HIx 2) ℕ UU ℕ (Pipeline.pin (pcfgs (F := F)) adm p) c
  | ⟨0, _⟩ => fun c => dat n b V c
  | ⟨1, _⟩ => fun c => anyDat c

theorem before_in (c : Dev nD) (d : (cfg1.win 0).block.Idx → Elt F (cfg1.win 0).elt) : (dat n b V c).before 0 t1_0 d = V c main_v1 := by
  unfold Dat.before; rw [if_pos (by decide)]
  funext j
  show ((cfg1.win 0).blk t1_0).view.read (Elt F) (V c main_v1) j = _
  blk_simp
  exact congrArg (V c main_v1) (by ext a; fin_cases a <;> (simp [Pipeline.Window.blk]; rfl))

theorem body_obligation (c : Dev nD) : BodyObligation (dat n b V c) (defs₀ (F := F)) 𝒱₀ none Set.univ := fun t => by
  obtain rfl := fin_N1 t
  rw [bigSep_W1, bigSep_W1]
  simp only [owns_whole_eq]
  rw [show (dat n b V c).Φ t1_0.castSucc = Pipeline.scopedRest spec1 c from rfl, show (dat n b V c).Φ t1_0.succ = Pipeline.scopedRest spec1 c from rfl,
    show (dat n b V c).owesAt none t1_0.succ = (dat n b V c).owesAt none t1_0.castSucc from rfl]
  iintro ⟨HΦ, Howes, ⟨%d0, %f0, %hf0, H0⟩, ⟨%d1, %f1, -, H1⟩⟩
  rw [before_in] at hf0
  subst hf0
  iapply (body_run c (V c main_v1) f1 _)
  isplitl [H0]; · iexact H0
  isplitl [H1]; · iexact H1
  iintro ⟨H0, H1⟩
  isplitl [HΦ]; · iexact HΦ
  isplitl [Howes]; · iexact Howes
  isplitl [H0]
  · iexists _; isplitr; swap; (· iexact H0); ipureintro; dsimp only [dat]
  iexists _; isplitr; swap; (· iexact H1); ipureintro; dsimp only [dat]

/-- The output array after the region holds the kernel's row. -/
theorem arr_out (c : Dev nD) : (dat n b V c).arrAt 1 cfg1.N = row (F := F) (V c main_v1) := by
  refine (dat n b V c).arrAt_eq_of_after_last 1 t1_0 (by decide +kernel) _ fun j => ?_
  blk_simp
  rfl

variable (Vp : (c : Dev nD) → (b : Ref sig .tc) → Buf (Elt F) ((c : Thread nD τ).loc b))

set_option backward.isDefEq.respectTransparency.types false in
/-- The region, entered from the unscoped buffers at `V` and left with them at `Vp`, which is `V` with the row at the
    output's array. -/
def reg (hout : ∀ c, Vp c main_v2 = row (F := F) (V c main_v1)) (hne : ∀ c (b : Ref sig .tc), b ≠ main_v2 → Vp c b = V c b) :
    Pipeline.RegionSeg (pcfgs (F := F)) adm (dats n b V adm) none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation n b V c).loose
  hwaits c := Pipeline.cellsWaits_intro _ _ _ _ _ fun w s t => (K (F := F)).mayWait_none _ (fun g => otc_none n c g)
  pre c := iprop(unscopedBufs c (V c) ∗ owed n b c)
  post c := iprop(unscopedBufs c (Vp c) ∗ owed n b c)
  X _ := BI.emp
  Y _ := BI.emp
  Z c := Pipeline.unscopedRest (Ix := HIx 2) (Name := ℕ) (U := UU) (Lvl := ℕ) spec1 c (V c)
  hentry c := by
    rw [Pipeline.ownSems0_none]
    have hsplit := Pipeline.arrays_of_unscopedBufs (p := 0) (pcfgs (F := F)) adm (dats n b V adm) launch1.win launch1.arr_whole c
      ((dats n b V adm 0 c).share_full fun _ => rfl) (V c) fun _ => rfl
    unfold owed
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (dats n b V adm 0 c).Φ 0 = Pipeline.scopedRest spec1 c from rfl]
    iintro ⟨-, -, Hr⟩; iexact Hr
  hout c := by
    rw [Pipeline.ownSems0_none, show (dats n b V adm 0 c).Φ (Fin.last _) = Pipeline.scopedRest spec1 c from rfl]
    iintro Hr
    isplitr; · iempintro
    isplitr; · iempintro
    iexact Hr
  hexit c := by
    have hjoin := Pipeline.unscopedBufs_of_arrays (p := 0) (pcfgs (F := F)) adm (Ix := HIx 2) (Name := ℕ) (U := UU) (Lvl := ℕ) launch1.win launch1.arr_whole c
      (dats n b V adm) ((dats n b V adm 0 c).share_full fun _ => rfl) (V c) (Vp c) ((dats n b V adm 0 c).arrAt · cfg1.N)
      (fun w => by
        fin_cases w
        · exact ((dats n b V adm 0 c).arrAt_in 0 rfl _).trans (hne c main_v1 (by decide)).symm
        · exact (arr_out n b V c).trans (hout c).symm)
      (fun b hb => hne c b fun h => hb (h ▸ Finset.mem_image.mpr ⟨1, Finset.mem_univ _, rfl⟩))
    iintro ⟨Ha, HO, -, Hrest⟩
    imodintro
    isplitl [Ha Hrest]
    · iapply hjoin; isplitl [Ha] <;> iassumption
    unfold owed Pipeline.Dat.owesAt Pipeline.owesWithin
    icases HO with ⟨%W, %hW, HO⟩; iexists W
    isplitr
    · ipureintro
      intro p hp
      rcases hW hp with h | ⟨w, s, h⟩
      · exact h
      · rw [h]; exact Nat.zero_le _
    iexact HO

end Region

end Cert.Proof.TC1

end
-- ==== Proof.TC3.lean ====
/-
  The second TensorCore kernel (the two quantiles picked out of the second pass's histograms, and the row of results)
  as a function of the arrays it reads, and its region of @main.
-/
module

public import proofs.«01_k».proof.Proof.Whole
public import proofs.«01_k».proof.Proof.Gen.KernelIdeal.Points
public import Idealize.ShloMosaic.Lib.Pipeline.Value

@[expose] public section

noncomputable section

namespace Cert.Proof.TC3

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation)

variable {F : FTy → Type} [FloatOps F]

section

variable (hs : Vec F S32x2x256x128 .i32) (mt : Vec F S1x128 .i32) (lh : Vec F S1x128 .f32)

/-- The lane numbers. -/
abbrev lanes : IVec S1x128 32 := iota .tc S1x128 32 [1] iota_S1x128_d1_w32
/-- The two bounds of the lower quantile's search: the prefixes of its two ranks and the rank within their histogram. -/
def lo0 : BitVec 32 := extractAt ![0, 0, 0] (k3_pay6 (F := F) mt) inpos_S1x1x1_p0_0_0
def lo1 : BitVec 32 := extractAt ![0, 0, 0] (k3_pay7 (F := F) mt) inpos_S1x1x1_p0_0_0
def loRank : BitVec 32 := extractAt ![0, 0, 0] (k3_pay8 (k3_pay1 (F := F) mt) lanes) inpos_S1x1x1_p0_0_0
/-- The same of the upper quantile. -/
def hi0 : BitVec 32 := extractAt ![0, 0, 0] (k3_pay15 (k3_pay1 (F := F) mt) lanes) inpos_S1x1x1_p0_0_0
def hi1 : BitVec 32 := extractAt ![0, 0, 0] (k3_pay16 (k3_pay1 (F := F) mt) lanes) inpos_S1x1x1_p0_0_0
def hiRank : BitVec 32 := extractAt ![0, 0, 0] (k3_pay18 (k3_pay1 (F := F) mt) lanes k3_pay17) inpos_S1x1x1_p0_0_0

/-- The histogram of the lower search, its prefix sums. -/
def loCum : IVec S256x128 32 :=
  k3_pay12 (k3_pay9 (k3_pay5 (F := F) hs)) (k3_pay10 (k3_pay5 (F := F) hs)) (k3_pay11 (k3_pay5 (F := F) hs))
/-- The bin the lower rank falls in. -/
def loBin : BitVec 32 :=
  extractAt ![0, 0, 0] (k3_pay13 (loRank (F := F) mt) (k3_pay9 (k3_pay5 (F := F) hs)) (k3_pay10 (k3_pay5 (F := F) hs)) (k3_pay11 (k3_pay5 (F := F) hs)))
    inpos_S1x1x1_p0_0_0
/-- The key of the word at the lower rank. -/
def loKey : BitVec 32 :=
  Scalar.ori (Scalar.shli (Scalar.select (Scalar.cmpi .eq (Scalar.shrui (loBin hs mt) 14#32) 1#32) (lo1 (F := F) mt) (lo0 (F := F) mt)) 16#32)
    (Scalar.shli (Scalar.andi (loBin hs mt) 16383#32) 2#32)
/-- The lower quantile. -/
def loQ : F .f32 :=
  k3_pay14 (F := F) (lo0 (F := F) mt) (lo1 (F := F) mt) (loRank (F := F) mt) (loCum hs) (Scalar.cmpi .slt (loKey hs mt) 0#32)
    (Scalar.andi (loKey hs mt) 2147483647#32) (Scalar.xori (loKey hs mt) 4294967295#32)
/-- The prefix sums of the upper search's histogram. -/
def hiCum : IVec S256x128 32 :=
  k3_pay24 (k3_pay19 (k3_pay5 (F := F) hs)) (k3_pay20 (k3_pay5 (F := F) hs)) (k3_pay21 (k3_pay5 (F := F) hs)) k3_pay22 (k3_pay23 (k3_pay5 (F := F) hs))
/-- The float at the upper rank. -/
def hiAt : F .f32 :=
  k3_pay25 (F := F) (hi0 (F := F) mt) (hi1 (F := F) mt) (hiRank (F := F) mt) (k3_pay19 (k3_pay5 (F := F) hs)) (k3_pay20 (k3_pay5 (F := F) hs))
    (k3_pay21 (k3_pay5 (F := F) hs)) k3_pay22 (k3_pay23 (k3_pay5 (F := F) hs))

/-- The row the kernel stores. -/
def row : FVec F S1x128 .f32 :=
  k3_pay26 lanes (k3_pay3 lh) (k3_pay4 lh) (loQ hs mt) (hi0 (F := F) mt) (hi1 (F := F) mt) (hiRank (F := F) mt) (hiCum hs) (hiAt hs mt) 1#32

end

/-- A kernel that reads its first three buffers whole and stores a function of them over the whole of its fourth. -/
theorem run_of (c : Dev nD) (g : Vec F S32x2x256x128 .i32 → Vec F S1x128 .i32 → Vec F S1x128 .f32 → Vec F S1x128 .f32)
    (f0 : Vec F S32x2x256x128 .i32) (f1 : Vec F S1x128 .i32) (f2 f3 : Vec F S1x128 .f32) (Q : PUnit → sProp (Mach F)) :
    iprop(pt c (stage3_0 0) f0 ∗ pt c (stage3_1 0) f1 ∗ pt c (stage3_2 0) f2 ∗ pt c (stage3_3 0) f3
        ∗ (iprop(pt c (stage3_0 0) f0 ∗ pt c (stage3_1 0) f1 ∗ pt c (stage3_2 0) f2 ∗ pt c (stage3_3 0) (g f0 f1 f2)) -∗ Q ⟨⟩))
      ⊢ wp frame (wpE (defs₀ (F := F)) 𝒱₀ (c : Thread nD τ) none) Set.univ
          (.op (.load (stage3_1 0) (Rect.unit (s := S1x128) ![0, 0] S1x128.size inb_S1x128_S1x128_0_0).toLoadRect (View.loadsAt_vmem h_S1x128)) fun v0 =>
            .op (.load (stage3_2 0) (Rect.unit (s := S1x128) ![0, 0] S1x128.size inb_S1x128_S1x128_0_0).toLoadRect (View.loadsAt_vmem h_S1x128)) fun v3 =>
            .op (.load (stage3_0 0) (Rect.unit (s := S32x2x256x128) ![0, 0, 0, 0] S32x2x256x128.size inb_S32x2x256x128_S32x2x256x128_0_0_0_0).toLoadRect (View.loadsAt_vmem h_S32x2x256x128)) fun v21 =>
            .op (.load (stage3_3 0) (Rect.unit (s := S1x128) ![0, 0] S1x128.size inb_S1x128_S1x128_0_0).toLoadRect (View.loadsAt_vmem h_S1x128)) fun _ =>
            .op (.store (stage3_3 0) (Rect.unit (s := S1x128) ![0, 0] S1x128.size inb_S1x128_S1x128_0_0) (g v21 v0 v3) Finset.univ (View.stores_vmem_bits_univ h_S1x128 rfl) (.inl rfl)) fun _ =>
            .ret ⟨⟩) Q := by
  iintro ⟨H0, H1, H2, H3, Hk⟩
  iapply (load_all c (cs := .vmem) (i := (cc3_stg1_0).idx) (hκ := rfl) (f := f1) zeros2) $$ H1
  iintro H1
  iapply (load_all c (cs := .vmem) (i := (cc3_stg2_0).idx) (hκ := rfl) (f := f2) zeros2) $$ H2
  iintro H2
  iapply (load_all c (cs := .vmem) (i := (cc3_stg0_0).idx) (hκ := rfl) (f := f0) zeros4) $$ H0
  iintro H0
  iapply (load_all c (cs := .vmem) (i := (cc3_stg3_0).idx) (hκ := rfl) (f := f3) zeros2) $$ H3
  iintro H3
  iapply (store_all c (cs := .vmem) (i := (cc3_stg3_0).idx) (hκ := rfl) (f := f3) zeros2) $$ H3
  iintro H3
  rw [wp_ret]
  imodintro
  iapply Hk
  isplitl [H0]; · iexact H0
  isplitl [H1]; · iexact H1
  isplitl [H2]; · iexact H2
  iexact H3

/-- The kernel run on its four staging buffers. -/
theorem body_run (c : Dev nD) (f0 : Vec F S32x2x256x128 .i32) (f1 : Vec F S1x128 .i32) (f2 f3 : Vec F S1x128 .f32) (Q : PUnit → sProp (Mach F)) :
    iprop(pt c (stage3_0 0) f0 ∗ pt c (stage3_1 0) f1 ∗ pt c (stage3_2 0) f2 ∗ pt c (stage3_3 0) f3
        ∗ (iprop(pt c (stage3_0 0) f0 ∗ pt c (stage3_1 0) f1 ∗ pt c (stage3_2 0) f2 ∗ pt c (stage3_3 0) (row f0 f1 f2)) -∗ Q ⟨⟩))
      ⊢ wp frame (wpE (defs₀ (F := F)) 𝒱₀ (c : Thread nD τ) none) Set.univ
          (cc3__tc_final (stage3_0 0) (hstage3_0 0) (stage3_1 0) (hstage3_1 0) (stage3_2 0) (hstage3_2 0) (stage3_3 0) (hstage3_3 0)) Q := by
  simp only [cc3__tc_final_eq_skeleton]; unfold cc3__tc_final_skel
  simp only [k3_part1_eq_skeleton, k3_part2_eq_skeleton, k3_part3_eq_skeleton, k3_part4_eq_skeleton, k3_part5_eq_skeleton,
    k3_part6_eq_skeleton, k3_part7_eq_skeleton]
  unfold k3_part1_skel k3_part2_skel k3_part3_skel k3_part4_skel k3_part5_skel k3_part6_skel k3_part7_skel
  simp only [Prog.lift, Prog.bind_op, Prog.bind_ret, Prog.pure_eq_ret, bind_assoc]
  exact run_of c row f0 f1 f2 f3 Q

/-! ## The region -/

section Region

variable (n b : ℕ) (V : (c : Dev nD) → (b : Ref sig .tc) → Buf (Elt F) ((c : Thread nD τ).loc b))

/-- The proof data of the region entered from `V`: the inputs' arrays as staged, the kernel's row of them, the scoped
    buffers of the other region kept, the calls from `n` on owed throughout. -/
def dat (c : Dev nD) : Dat τ (Elt F) (HIx 2) ℕ UU ℕ cfg3 c where
  A w := V c (Pipeline.arrRef spec3 w)
  after w _ := match w with
    | ⟨0, _⟩ => V c main_v17
    | ⟨1, _⟩ => V c main_v2
    | ⟨2, _⟩ => V c main_v16
    | ⟨3, _⟩ => row (F := F) (V c main_v17) (V c main_v2) (V c main_v16)
  Φ _ := Pipeline.scopedRest spec3 c
  q _ := fullShare
  owed _ := (K (F := F)).Otc c n
  recorded _ := early (F := F) b c

variable (adm : (p : Fin 2) → (pcfgs (F := F) p).Adm)

/-- The data of both pipelines: this entry's, and any for the other. -/
def dats : (p : Fin 2) → (c : Dev nD) → Dat τ (Elt F) (HIx 2) ℕ UU ℕ (Pipeline.pin (pcfgs (F := F)) adm p) c
  | ⟨1, _⟩ => fun c => dat n b V c
  | ⟨0, _⟩ => fun c => anyDat c

theorem before_0 (c : Dev nD) (d : (cfg3.win 0).block.Idx → Elt F (cfg3.win 0).elt) : (dat n b V c).before 0 t3_0 d = V c main_v17 := by
  unfold Dat.before; rw [if_pos (by decide)]
  funext j
  show ((cfg3.win 0).blk t3_0).view.read (Elt F) (V c main_v17) j = _
  blk_simp
  exact congrArg (V c main_v17) (by ext a; fin_cases a <;> (simp [Pipeline.Window.blk]; rfl))

theorem before_1 (c : Dev nD) (d : (cfg3.win 1).block.Idx → Elt F (cfg3.win 1).elt) : (dat n b V c).before 1 t3_0 d = V c main_v2 := by
  unfold Dat.before; rw [if_pos (by decide)]
  funext j
  show ((cfg3.win 1).blk t3_0).view.read (Elt F) (V c main_v2) j = _
  blk_simp
  exact congrArg (V c main_v2) (by ext a; fin_cases a <;> (simp [Pipeline.Window.blk]; rfl))

theorem before_2 (c : Dev nD) (d : (cfg3.win 2).block.Idx → Elt F (cfg3.win 2).elt) : (dat n b V c).before 2 t3_0 d = V c main_v16 := by
  unfold Dat.before; rw [if_pos (by decide)]
  funext j
  show ((cfg3.win 2).blk t3_0).view.read (Elt F) (V c main_v16) j = _
  blk_simp
  exact congrArg (V c main_v16) (by ext a; fin_cases a <;> (simp [Pipeline.Window.blk]; rfl))

theorem body_obligation (c : Dev nD) : BodyObligation (dat n b V c) (defs₀ (F := F)) 𝒱₀ none Set.univ := fun t => by
  obtain rfl := fin_N3 t
  rw [bigSep_W3, bigSep_W3]
  simp only [owns_whole_eq]
  rw [show (dat n b V c).Φ t3_0.castSucc = Pipeline.scopedRest spec3 c from rfl, show (dat n b V c).Φ t3_0.succ = Pipeline.scopedRest spec3 c from rfl,
    show (dat n b V c).owesAt none t3_0.succ = (dat n b V c).owesAt none t3_0.castSucc from rfl]
  iintro ⟨HΦ, Howes, ⟨%d0, %f0, %hf0, H0⟩, ⟨%d1, %f1, %hf1, H1⟩, ⟨%d2, %f2, %hf2, H2⟩, ⟨%d3, %f3, -, H3⟩⟩
  rw [before_0] at hf0
  rw [before_1] at hf1
  rw [before_2] at hf2
  subst hf0 hf1 hf2
  iapply (body_run c (V c main_v17) (V c main_v2) (V c main_v16) f3 _)
  isplitl [H0]; · iexact H0
  isplitl [H1]; · iexact H1
  isplitl [H2]; · iexact H2
  isplitl [H3]; · iexact H3
  iintro ⟨H0, H1, H2, H3⟩
  isplitl [HΦ]; · iexact HΦ
  isplitl [Howes]; · iexact Howes
  isplitl [H0]
  · iexists _; isplitr; swap; (· iexact H0); ipureintro; dsimp only [dat]
  isplitl [H1]
  · iexists _; isplitr; swap; (· iexact H1); ipureintro; dsimp only [dat]
  isplitl [H2]
  · iexists _; isplitr; swap; (· iexact H2); ipureintro; dsimp only [dat]
  iexists _; isplitr; swap; (· iexact H3); ipureintro; dsimp only [dat]

/-- The output array after the region holds the kernel's row. -/
theorem arr_out (c : Dev nD) : (dat n b V c).arrAt 3 cfg3.N = row (F := F) (V c main_v17) (V c main_v2) (V c main_v16) := by
  refine (dat n b V c).arrAt_eq_of_after_last 3 t3_0 (by decide +kernel) _ fun j => ?_
  blk_simp
  rfl

variable (Vp : (c : Dev nD) → (b : Ref sig .tc) → Buf (Elt F) ((c : Thread nD τ).loc b))

set_option backward.isDefEq.respectTransparency.types false in
/-- The region, entered from the unscoped buffers at `V` and left with them at `Vp`, which is `V` with the row at the
    output's array. -/
def reg (hout : ∀ c, Vp c main_v18 = row (F := F) (V c main_v17) (V c main_v2) (V c main_v16)) (hne : ∀ c (b : Ref sig .tc), b ≠ main_v18 → Vp c b = V c b) :
    Pipeline.RegionSeg (pcfgs (F := F)) adm (dats n b V adm) none defs₀ 𝒱₀ (K (F := F)).L (K (F := F)).lev 1 where
  win := launch3.win.to₀
  block_pos := launch3.block_pos
  stage_whole := launch3.stage_whole
  K := PEmpty
  osem k := k.elim
  ho := Pipeline.OwnSemFacts.none _
  hbody c := (body_obligation n b V c).loose
  hwaits c := Pipeline.cellsWaits_intro _ _ _ _ _ fun w s t => (K (F := F)).mayWait_none _ (fun g => otc_none n c g)
  pre c := iprop(unscopedBufs c (V c) ∗ owed n b c)
  post c := iprop(unscopedBufs c (Vp c) ∗ owed n b c)
  X _ := BI.emp
  Y _ := BI.emp
  Z c := Pipeline.unscopedRest (Ix := HIx 2) (Name := ℕ) (U := UU) (Lvl := ℕ) spec3 c (V c)
  hentry c := by
    rw [Pipeline.ownSems0_none]
    have hsplit := Pipeline.arrays_of_unscopedBufs (p := 1) (pcfgs (F := F)) adm (dats n b V adm) launch3.win launch3.arr_whole c
      ((dats n b V adm 1 c).share_full fun _ => rfl) (V c) fun _ => rfl
    unfold owed
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (dats n b V adm 1 c).Φ 0 = Pipeline.scopedRest spec3 c from rfl]
    iintro ⟨-, -, Hr⟩; iexact Hr
  hout c := by
    rw [Pipeline.ownSems0_none, show (dats n b V adm 1 c).Φ (Fin.last _) = Pipeline.scopedRest spec3 c from rfl]
    iintro Hr
    isplitr; · iempintro
    isplitr; · iempintro
    iexact Hr
  hexit c := by
    have hjoin := Pipeline.unscopedBufs_of_arrays (p := 1) (pcfgs (F := F)) adm (Ix := HIx 2) (Name := ℕ) (U := UU) (Lvl := ℕ) launch3.win launch3.arr_whole c
      (dats n b V adm) ((dats n b V adm 1 c).share_full fun _ => rfl) (V c) (Vp c) ((dats n b V adm 1 c).arrAt · cfg3.N)
      (fun w => by
        fin_cases w
        · exact ((dats n b V adm 1 c).arrAt_in 0 rfl _).trans (hne c main_v17 (by decide)).symm
        · exact ((dats n b V adm 1 c).arrAt_in 1 rfl _).trans (hne c main_v2 (by decide)).symm
        · exact ((dats n b V adm 1 c).arrAt_in 2 rfl _).trans (hne c main_v16 (by decide)).symm
        · exact (arr_out n b V c).trans (hout c).symm)
      (fun b hb => hne c b fun h => hb (h ▸ Finset.mem_image.mpr ⟨3, Finset.mem_univ _, rfl⟩))
    iintro ⟨Ha, HO, -, Hrest⟩
    imodintro
    isplitl [Ha Hrest]
    · iapply hjoin; isplitl [Ha] <;> iassumption
    unfold owed Pipeline.Dat.owesAt Pipeline.owesWithin
    icases HO with ⟨%W, %hW, HO⟩; iexists W
    isplitr
    · ipureintro
      intro p hp
      rcases hW hp with h | ⟨w, s, h⟩
      · exact h
      · rw [h]; exact Nat.zero_le _
    iexact HO

end Region

end Cert.Proof.TC3

end
-- ==== Proof.Values.lean ====
/-
  What every buffer of @main holds as the program goes on: after the first SparseCore call, the first TensorCore region,
  the second SparseCore call, the second region, and the host operations between them.
-/
module

public import proofs.«01_k».proof.Proof.Pass1
public import proofs.«01_k».proof.Proof.Pass2
public import proofs.«01_k».proof.Proof.TC1
public import proofs.«01_k».proof.Proof.TC3

@[expose] public section

noncomputable section

namespace Cert.Proof

open Cert.KernelIdeal Cert.KernelIdeal.Gen

open Idealize.ShloMosaic
open Idealize.ShloMosaic.TcCoe
open Idealize.ShloMosaic.SparseCore.Cfg (HIx)
open Idealize.ShloMosaic.StableHlo

variable {F : FTy → Type} [FloatOps F]

/-- An index of a shape of two axes. -/
def ix2' {a b : ℕ} (p q : ℕ) (hp : p < a) (hq : q < b) : (⟨2, ![a, b]⟩ : Shape).Idx := fun | 0 => ⟨p, hp⟩ | 1 => ⟨q, hq⟩

/-! ## The host operations between the calls -/

/-- The first result, reshaped. -/
abbrev ops1 : List (HloOp τ sig (Elt F)) :=
  [StableHlo.reshape main_v0 main_v1 (rfl : (.i32 : EltTy) = .i32) shapeCasts_S32x65536_S32x512x128]

/-- The four bucket numbers, sixteen times each. -/
abbrev ops2 : List (HloOp τ sig (Elt F)) :=
  [StableHlo.unary main_v2 main_v3 ((extractStridedSlice S1x4 ![0, 0] · slices_S1x128_S1x4_0_0) : (⟨S1x128, .i32⟩ : BufTy).Contents (Elt F) → (⟨S1x4, .i32⟩ : BufTy).Contents (Elt F)),
   StableHlo.reshape main_v3 main_v4 (rfl : (.i32 : EltTy) = .i32) shapeCasts_S1x4_S4,
   StableHlo.unary main_v4 main_v5 (broadcastInDim S4x16 ![0] bcast_S4_S4x16_0 : (⟨S4, .i32⟩ : BufTy).Contents (Elt F) → (⟨S4x16, .i32⟩ : BufTy).Contents (Elt F)),
   StableHlo.reshape main_v5 main_v6 (rfl : (.i32 : EltTy) = .i32) shapeCasts_S4x16_S64]

/-- The row that holds `low` and `high`, and the second result reshaped. -/
abbrev ops3 : List (HloOp τ sig (Elt F)) :=
  [StableHlo.nullary main_cst (constant S_ .f32 0x00000000#32),
   StableHlo.unary main_cst main_v8 (broadcastInDim S1x128 ![] bcast_S_S1x128 : (⟨S_, .f32⟩ : BufTy).Contents (Elt F) → (⟨S1x128, .f32⟩ : BufTy).Contents (Elt F)),
   StableHlo.nullary main_c (constantI S_ 32 0#32),
   StableHlo.unary main_c main_v9 (broadcastInDim S1 ![] bcast_S_S1 : (⟨S_, .i32⟩ : BufTy).Contents (Elt F) → (⟨S1, .i32⟩ : BufTy).Contents (Elt F)),
   StableHlo.nullary main_c_0 (constantI S_ 32 0#32),
   StableHlo.unary main_c_0 main_v10 (broadcastInDim S1 ![] bcast_S_S1 : (⟨S_, .i32⟩ : BufTy).Contents (Elt F) → (⟨S1, .i32⟩ : BufTy).Contents (Elt F)),
   StableHlo.binary main_v9 main_v10 main_v11 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
   StableHlo.ternary main_v8 main_v11 main_arg1 main_v12 ((fun x i u => Host.scatter scatter_S1x128_S2_S__n_01_01_0 (fun _ b => b) x i u) : (⟨S1x128, .f32⟩ : BufTy).Contents (Elt F) → (⟨S2, .i32⟩ : BufTy).Contents (Elt F) → (⟨S_, .f32⟩ : BufTy).Contents (Elt F) → (⟨S1x128, .f32⟩ : BufTy).Contents (Elt F)),
   StableHlo.nullary main_c_1 (constantI S_ 32 0#32),
   StableHlo.unary main_c_1 main_v13 (broadcastInDim S1 ![] bcast_S_S1 : (⟨S_, .i32⟩ : BufTy).Contents (Elt F) → (⟨S1, .i32⟩ : BufTy).Contents (Elt F)),
   StableHlo.nullary main_c_2 (constantI S_ 32 1#32),
   StableHlo.unary main_c_2 main_v14 (broadcastInDim S1 ![] bcast_S_S1 : (⟨S_, .i32⟩ : BufTy).Contents (Elt F) → (⟨S1, .i32⟩ : BufTy).Contents (Elt F)),
   StableHlo.binary main_v13 main_v14 main_v15 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
   StableHlo.ternary main_v12 main_v15 main_arg2 main_v16 ((fun x i u => Host.scatter scatter_S1x128_S2_S__n_01_01_0 (fun _ b => b) x i u) : (⟨S1x128, .f32⟩ : BufTy).Contents (Elt F) → (⟨S2, .i32⟩ : BufTy).Contents (Elt F) → (⟨S_, .f32⟩ : BufTy).Contents (Elt F) → (⟨S1x128, .f32⟩ : BufTy).Contents (Elt F)),
   StableHlo.reshape main_v7 main_v17 (rfl : (.i32 : EltTy) = .i32) shapeCasts_S32x2x32768_S32x2x256x128]

/-- The two results, each a scalar. -/
abbrev ops4 : List (HloOp τ sig (Elt F)) :=
  [StableHlo.unary main_v18 main_v19 ((extractStridedSlice S1x1 ![0, 0] · slices_S1x128_S1x1_0_0) : (⟨S1x128, .f32⟩ : BufTy).Contents (Elt F) → (⟨S1x1, .f32⟩ : BufTy).Contents (Elt F)),
   StableHlo.reshape main_v19 main_v20 (rfl : (.f32 : EltTy) = .f32) shapeCasts_S1x1_S_,
   StableHlo.unary main_v18 main_v21 ((extractStridedSlice S1x1 ![0, 1] · slices_S1x128_S1x1_0_1) : (⟨S1x128, .f32⟩ : BufTy).Contents (Elt F) → (⟨S1x1, .f32⟩ : BufTy).Contents (Elt F)),
   StableHlo.reshape main_v21 main_v22 (rfl : (.f32 : EltTy) = .f32) shapeCasts_S1x1_S_]

/-! ## The contents, from the launch on -/

variable (m : (ℓ : Loc nD τ sig) → Buf (Elt F) ℓ) (d : Dev nD)

/-- At the launch; -/
def V0 : Valuation τ sig (Elt F) := fun b => m (d, b)
/-- the words of `x`; -/
abbrev xs : SX.Idx → BitVec 32 := m (xLoc d)
/-- after the first SparseCore call, -/
def V1 : Valuation τ sig (Elt F) := Function.update (V0 m d) (Proc.devRef .tc main_v0) (Pass1.hist (xs m d))
def V2 : Valuation τ sig (Elt F) := after ops1 (V1 m d)
/-- after the first region, -/
def V3 : Valuation τ sig (Elt F) := Function.update (V2 m d) (Proc.devRef .tc main_v2) (TC1.row (F := F) (V2 m d main_v1))
def V4 : Valuation τ sig (Elt F) := after ops2 (V3 m d)
/-- the four bucket numbers; -/
def prefixes (n : ℕ) : BitVec 32 := if h : n < 4 then TC1.row (F := F) (V2 m d main_v1) (ix2' 0 n (by decide) (by omega)) else 0#32
/-- after the second SparseCore call, -/
def V5 : Valuation τ sig (Elt F) := Function.update (V4 m d) (Proc.devRef .tc main_v7) (Pass2.hist (prefixes m d) (xs m d))
def V6 : Valuation τ sig (Elt F) := after ops3 (V5 m d)
/-- after the second region, -/
def V7 : Valuation τ sig (Elt F) :=
  Function.update (V6 m d) (Proc.devRef .tc main_v18) (TC3.row (F := F) (V6 m d main_v17) (V6 m d main_v2) (V6 m d main_v16))
/-- and at the end. -/
def V8 : Valuation τ sig (Elt F) := after ops4 (V7 m d)

theorem V1_ne (b : DevRef τ sig) (h : b ≠ Proc.devRef .tc main_v0) : V1 m d b = V0 m d b := Function.update_of_ne h ..
theorem V1_self : V1 m d main_v0 = Pass1.hist (xs m d) := Function.update_self ..
theorem V3_ne (b : DevRef τ sig) (h : b ≠ Proc.devRef .tc main_v2) : V3 m d b = V2 m d b := Function.update_of_ne h ..
theorem V3_self : V3 m d main_v2 = TC1.row (F := F) (V2 m d main_v1) := Function.update_self ..
theorem V5_ne (b : DevRef τ sig) (h : b ≠ Proc.devRef .tc main_v7) : V5 m d b = V4 m d b := Function.update_of_ne h ..
theorem V5_self : V5 m d main_v7 = Pass2.hist (prefixes m d) (xs m d) := Function.update_self ..
theorem V7_ne (b : DevRef τ sig) (h : b ≠ Proc.devRef .tc main_v18) : V7 m d b = V6 m d b := Function.update_of_ne h ..
theorem V7_self : V7 m d main_v18 = TC3.row (F := F) (V6 m d main_v17) (V6 m d main_v2) (V6 m d main_v16) := Function.update_self ..

/-- The three arguments are written by nothing. -/
theorem V8_arg (b : Ref sig .tc) (h : b = main_arg0 ∨ b = main_arg1 ∨ b = main_arg2) : V8 m d b = m (d, Proc.devRef .tc b) := by
  have e8 : V8 m d b = V7 m d b := by
    unfold V8; rcases h with rfl | rfl | rfl <;> after_results_simp
  have e6 : V6 m d b = V5 m d b := by
    unfold V6; rcases h with rfl | rfl | rfl <;> after_results_simp
  have e4 : V4 m d b = V3 m d b := by
    unfold V4; rcases h with rfl | rfl | rfl <;> after_results_simp
  have e2 : V2 m d b = V1 m d b := by
    unfold V2; rcases h with rfl | rfl | rfl <;> after_results_simp
  rw [e8, V7_ne _ _ _ (devRef_ne_of_ne (by rcases h with rfl | rfl | rfl <;> decide)), e6,
    V5_ne _ _ _ (devRef_ne_of_ne (by rcases h with rfl | rfl | rfl <;> decide)), e4,
    V3_ne _ _ _ (devRef_ne_of_ne (by rcases h with rfl | rfl | rfl <;> decide)), e2,
    V1_ne _ _ _ (devRef_ne_of_ne (by rcases h with rfl | rfl | rfl <;> decide))]
  rfl

/-- The input is as at the launch when the second SparseCore call reads it. -/
theorem V4_x : V4 m d main_arg0 = xs m d := by
  have e4 : V4 m d main_arg0 = V3 m d main_arg0 := by unfold V4; after_results_simp
  have e2 : V2 m d main_arg0 = V1 m d main_arg0 := by unfold V2; after_results_simp
  rw [e4, V3_ne _ _ _ (devRef_ne_of_ne (by decide)), e2, V1_ne _ _ _ (devRef_ne_of_ne (by decide))]
  rfl

/-- The second SparseCore call is handed each bucket number sixteen times. -/
theorem V4_meta (j : S64.Idx) : (V4 m d main_v6 : S64.Idx → BitVec 32) j = prefixes m d ((j 0).val / 16) := by
  have e : V4 m d main_v6 = shapeCast S64 (broadcastInDim S4x16 ![0] bcast_S4_S4x16_0 (shapeCast S4 (extractStridedSlice S1x4 ![0, 0]
      (V3 m d main_v2 : (⟨S1x128, .i32⟩ : BufTy).Contents (Elt F)) slices_S1x128_S1x4_0_0) shapeCasts_S1x4_S4)) shapeCasts_S4x16_S64 := by
    unfold V4; after_results_simp; rfl
  have hj : (j 0).val < 64 := (j 0).isLt
  rw [e, V3_self]
  have hd : (j 0).val / 16 < 4 := by omega
  rw [prefixes, dif_pos hd]
  rw [shapeCast_apply _ _ j (ix2' ((j 0).val / 16) ((j 0).val % 16) hd (Nat.mod_lt _ (by decide))) (by
    rw [Shape.rowMajor_val_two, Shape.rowMajor_val_one]
    show (j 0).val / 16 * 16 + (j 0).val % 16 = (j 0).val
    omega)]
  unfold broadcastInDim
  rw [shapeCast_apply _ _ _ (ix2' 0 ((j 0).val / 16) (by decide) hd : S1x4.Idx) (by
    rw [Shape.rowMajor_val_two, Shape.rowMajor_val_one]
    show 0 * 4 + (j 0).val / 16 = (j 0).val / 16
    omega)]
  unfold extractStridedSlice
  refine congrArg (TC1.row (F := F) (V2 m d main_v1)) (funext fun a => Fin.ext ?_)
  fin_cases a
  · rfl
  · show 0 + (j 0).val / 16 = (j 0).val / 16
    omega

end Cert.Proof

end
-- ==== Proof.Launch.lean ====
/-
  The two SparseCore calls as @main meets them: what the handshakes carry, the tiles' obligations, the calls' operands
  dealt to the thirty-two tiles and joined again, and each call as a step from the contents before it to those after.
-/
module

public import proofs.«01_k».proof.Proof.Values

@[expose] public section

noncomputable section

namespace Cert.Proof

open Cert.KernelIdeal Cert.KernelIdeal.Gen

open Idealize.ShloMosaic
open Idealize.ShloMosaic.TcCoe
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.StableHlo (held after held_sub_split held_congr devRef_ne_of_ne)
open Idealize.ShloMosaic.Pipeline (ucRefs)

variable {F : FTy → Type} [FloatOps F]

/-! ## Dealing to the tiles -/

/-- Tile `t`'s share of an operand that all tiles read. -/
def share (t : ℕ) : PosShare TreeShare :=
  if h : t < 32 then dealOf fullShare Finset.univ (⟨t, h⟩ : Fin 32) else fullShare

theorem share_val (t : Fin 32) : share t.val = dealOf fullShare Finset.univ t := dif_pos t.isLt

/-- Tile `s` of SparseCore `c` is number `2 s + c`. -/
theorem tiles_eq (Φ : ℕ → sProp (Mach F)) :
    (bigSep Finset.univ fun c : Fin 2 => bigSep Finset.univ fun s : Fin 16 => Φ (2 * s.val + c.val))
      = bigSep Finset.univ fun t : Fin 32 => Φ t.val := by
  rw [← bigSep_univ_prod (fun cs : Fin 2 × Fin 16 => Φ (2 * cs.2.val + cs.1.val)),
    bigSep_univ_equiv ((Equiv.prodComm (Fin 2) (Fin 16)).trans finProdFinEquiv) (fun t : Fin (16 * 2) => Φ t.val)]
  refine bigSep_congr fun cs _ => congrArg Φ ?_
  show 2 * cs.2.val + cs.1.val = cs.1.val + 2 * cs.2.val
  omega

theorem shares_eq {ℓ : Loc nD τ sig} (f : Buf (Elt F) ℓ) :
    (bigSep Finset.univ fun t : Fin 32 => (ℓ ↦{share t.val} f : sProp (Mach F))) = (ℓ ↦{fullShare} f) := by
  rw [pointsTo_deal (Finset.univ : Finset (Fin 32)) ⟨0, Finset.mem_univ _⟩]
  exact bigSep_congr fun t _ => by rw [share_val]

theorem rows1_eq (d : Dev nD) (f : Buf (Elt F) (Pass1.oLoc d)) :
    (bigSep Finset.univ fun t : Fin 32 => (Pass1.oLoc d ↦[Pass1.rowOf t.val]{fullShare} f : sProp (Mach F))) = (Pass1.oLoc d ↦{fullShare} f) := by
  have hall : (Finset.univ : Finset (Fin 32)).biUnion (fun t => Pass1.rowOf t.val) = Finset.univ := Finset.eq_univ_of_forall fun j => Finset.mem_biUnion.mpr ⟨⟨(j 0).val, (j 0).isLt⟩, Finset.mem_univ _, Finset.mem_filter.mpr ⟨Finset.mem_univ _, rfl⟩⟩
  rw [← pointsTo_biUnion Finset.univ (ℓ := Pass1.oLoc d) (fun t : Fin 32 => Pass1.rowOf t.val)
    (fun a _ b _ h => Finset.disjoint_left.mpr fun j h1 h2 => h (Fin.ext ((Finset.mem_filter.mp h1).2.symm.trans (Finset.mem_filter.mp h2).2))), hall]

theorem rows2_eq (d : Dev nD) (f : Buf (Elt F) (Pass2.oLoc d)) :
    (bigSep Finset.univ fun t : Fin 32 => (Pass2.oLoc d ↦[Pass2.rowOf t.val]{fullShare} f : sProp (Mach F))) = (Pass2.oLoc d ↦{fullShare} f) := by
  have hall : (Finset.univ : Finset (Fin 32)).biUnion (fun t => Pass2.rowOf t.val) = Finset.univ := Finset.eq_univ_of_forall fun j => Finset.mem_biUnion.mpr ⟨⟨(j 0).val, (j 0).isLt⟩, Finset.mem_univ _, Finset.mem_filter.mpr ⟨Finset.mem_univ _, rfl⟩⟩
  rw [← pointsTo_biUnion Finset.univ (ℓ := Pass2.oLoc d) (fun t : Fin 32 => Pass2.rowOf t.val)
    (fun a _ b _ h => Finset.disjoint_left.mpr fun j h1 h2 => h (Fin.ext ((Finset.mem_filter.mp h1).2.symm.trans (Finset.mem_filter.mp h2).2))), hall]

/-! ## What the handshakes carry -/

variable (m : (ℓ : Loc nD τ sig) → Buf (Elt F) ℓ)

abbrev go1 (d : Dev nD) (t : ℕ) : sProp (Mach F) := Pass1.goP d (xs m d) (share t) t
abbrev td1 (d : Dev nD) (t : ℕ) : sProp (Mach F) := Pass1.tdP d (xs m d) (share t) t
abbrev go2 (d : Dev nD) (t : ℕ) : sProp (Mach F) := Pass2.goP d (xs m d) (share t) (V4 m d main_v6) t
abbrev td2 (d : Dev nD) (t : ℕ) : sProp (Mach F) := Pass2.tdP d (xs m d) (prefixes m d) (share t) (V4 m d main_v6) t

/-- What call `q` hands tile number `t`, and takes back. -/
abbrev goOf (q : Fin 2) (d : Dev nD) (t : ℕ) : sProp (Mach F) := match q with | 0 => go1 m d t | 1 => go2 m d t
abbrev tdOf (q : Fin 2) (d : Dev nD) (t : ℕ) : sProp (Mach F) := match q with | 0 => td1 m d t | 1 => td2 m d t

instance goOf_storable (q : Fin 2) (d : Dev nD) (t : ℕ) : BI.Storable (upEmb : UEmb _ (Mach F)) (goOf m q d t) := match q with
  | 0 => (inferInstance : BI.Storable (upEmb : UEmb _ (Mach F)) (go1 m d t))
  | 1 => (inferInstance : BI.Storable (upEmb : UEmb _ (Mach F)) (go2 m d t))
instance tdOf_storable (q : Fin 2) (d : Dev nD) (t : ℕ) : BI.Storable (upEmb : UEmb _ (Mach F)) (tdOf m q d t) := match q with
  | 0 => (inferInstance : BI.Storable (upEmb : UEmb _ (Mach F)) (td1 m d t))
  | 1 => (inferInstance : BI.Storable (upEmb : UEmb _ (Mach F)) (td2 m d t))

def P : (K (F := F)).Pay (nD := nD) (Val := Elt F) (Name := ℕ) (U := UU) where
  st q d c := bigSep Finset.univ fun i : Fin ((K (F := F)).nSub q) => goOf m q d (2 * i.val + c.val)
  dn q d c := bigSep Finset.univ fun i : Fin ((K (F := F)).nSub q) => tdOf m q d (2 * i.val + c.val)
  go q d c i := goOf m q d (2 * i.val + c.val)
  td q d c i := tdOf m q d (2 * i.val + c.val)
  x _ _ := iprop(emp)

instance P_storable : (P (F := F) m).IsStorable where
  st q d c := (inferInstance : BI.Storable (upEmb : UEmb _ (Mach F)) (bigSep Finset.univ fun i : Fin ((K (F := F)).nSub q) => goOf m q d (2 * i.val + c.val)))
  dn q d c := (inferInstance : BI.Storable (upEmb : UEmb _ (Mach F)) (bigSep Finset.univ fun i : Fin ((K (F := F)).nSub q) => tdOf m q d (2 * i.val + c.val)))
  go q d c i := goOf_storable m q d _
  td q d c i := tdOf_storable m q d _

theorem vecSplit (q : Fin 2) : (K (F := F)).VecSplit' (P m) q := by
  intro d c
  show (bigSep Finset.univ fun i : Fin ((K (F := F)).nSub q) => goOf m q d (2 * i.val + c.val))
    ⊢ |={Set.univ}=> iprop((bigSep Finset.univ fun i : Fin ((K (F := F)).nSub q) => goOf m q d (2 * i.val + c.val))
      ∗ ((bigSep Finset.univ fun i : Fin ((K (F := F)).nSub q) => tdOf m q d (2 * i.val + c.val))
        -∗ (bigSep Finset.univ fun i : Fin ((K (F := F)).nSub q) => tdOf m q d (2 * i.val + c.val))))
  iintro H; imodintro
  isplitl [H]; · iexact H
  iintro H; iexact H

/-! ## The tiles' obligations -/

def coords1 (c : Fin (grid0.bound 0)) (s : Fin (grid0.bound 1)) : grid0.Coords :=
  fun | 0 => c | 1 => s | ⟨_ + 2, h⟩ => absurd h (Nat.not_lt.2 (Nat.le_add_left _ _))
def coords2 (c : Fin (grid2.bound 0)) (s : Fin (grid2.bound 1)) : grid2.Coords :=
  fun | 0 => c | 1 => s | ⟨_ + 2, h⟩ => absurd h (Nat.not_lt.2 (Nat.le_add_left _ _))

theorem defs₀_pass1 (c : Fin τ.nSC) (s : Fin τ.nSub) :
    defs₀ (F := F) (.scVector c s) 0 ()
      = SparseCore.onTile hcore0 hsub0 (fun c s => cc0_sc_hist_pass1 (coords1 c s) xMem (Memref.isWhole_whole _) Pass1.oMem (Memref.isWhole_whole _)
          Pass1.bA (Memref.isWhole_whole _) Pass1.bB (Memref.isWhole_whole _) Pass1.hS (Memref.isWhole_whole _)
          cc0_scratch3 cc0_scratch4 cc0_scoped0) ⟨⟩ c s := rfl

theorem defs₀_pass2 (c : Fin τ.nSC) (s : Fin τ.nSub) :
    defs₀ (F := F) (.scVector c s) 2 ()
      = SparseCore.onTile hcore2 hsub2 (fun c s => cc2_sc_hist_pass2 (coords2 c s) xMem (Memref.isWhole_whole _) Pass2.mMem (Memref.isWhole_whole _) Pass2.oMem (Memref.isWhole_whole _)
          Pass2.bA (Memref.isWhole_whole _) Pass2.bB (Memref.isWhole_whole _) Pass2.hA (Memref.isWhole_whole _) Pass2.hB (Memref.isWhole_whole _) Pass2.bM (Memref.isWhole_whole _)
          cc2_scratch5 cc2_scratch6 cc2_scoped0 cc2_scoped1 cc2_scoped2) ⟨⟩ c s := rfl

/-- A wait at the index of no call is one a task may have made. -/
theorem task_post {thr : Thread nD τ} {A B C : sProp (Mach F)} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Beside the handshakes a task is handed nothing. -/
theorem task_pre {A B : sProp (Mach F)} : iprop(A ∗ emp ∗ B) ⊢ iprop(A ∗ B) := by
  iintro ⟨HA, -, HB⟩
  isplitl [HA]; · iexact HA
  iexact HB

set_option maxRecDepth 1024 in
theorem tileObl1 : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_pass1]; simp only [SparseCore.onTile, hc, and_self, ↓reduceDIte]
  exact task_pre.trans <| (Pass1.tile_body (F := F) d (coords1 ⟨_, hc.1⟩ ⟨_, hc.2⟩) (xs m d) O W facts (share (2 * i.val + c.val)) hO).trans (wp_mono frame _ _ fun _ => task_post)

set_option maxRecDepth 1024 in
theorem tileObl2 : (K (F := F)).TileObl (D (F := F)) 𝒱 (P m) v₀ 1 := by
  intro d c i O W hO _ _
  simp only [show (P m).ox = fun _ _ => 0 from rfl, add_zero]
  change _ ⊢ wp _ _ _ (Pipeline.liftProg (defs₀ (F := F) (.scVector ((K (F := F)).core 1 c) ((K (F := F)).sub 1 i)) 2 ())) _
  refine BI.Entails.trans ?_ (Pipeline.wp_liftProg (D (F := F)) (Pipeline.defs_kernel pcfgs defs₀) 𝒱₀ _ Set.univ none _ _)
  have hc : ((K (F := F)).core 1 c).val < grid2.bound 0 ∧ ((K (F := F)).sub 1 i).val < grid2.bound 1 := ⟨c.isLt, i.isLt⟩
  rw [defs₀_pass2]; simp only [SparseCore.onTile, hc, and_self, ↓reduceDIte]
  exact task_pre.trans <| (Pass2.tile_body (F := F) d (coords2 ⟨_, hc.1⟩ ⟨_, hc.2⟩) (xs m d) O W (prefixes m d) facts (share (2 * i.val + c.val)) (V4 m d main_v6) (V4_meta m d) hO).trans (wp_mono frame _ _ fun _ => task_post)

/-! ## The calls as steps of @main -/

theorem st1_eq (d : Dev nD) : (bigSep Finset.univ fun c : Fin ((K (F := F)).nCore 0) => (P m).st 0 d c) = bigSep Finset.univ fun t : Fin 32 => go1 m d t.val :=
  tiles_eq (go1 m d)
theorem dn1_eq (d : Dev nD) : (bigSep Finset.univ fun c : Fin ((K (F := F)).nCore 0) => (P m).dn 0 d c) = bigSep Finset.univ fun t : Fin 32 => td1 m d t.val :=
  tiles_eq (td1 m d)
theorem st2_eq (d : Dev nD) : (bigSep Finset.univ fun c : Fin ((K (F := F)).nCore 1) => (P m).st 1 d c) = bigSep Finset.univ fun t : Fin 32 => go2 m d t.val :=
  tiles_eq (go2 m d)
theorem dn2_eq (d : Dev nD) : (bigSep Finset.univ fun c : Fin ((K (F := F)).nCore 1) => (P m).dn 1 d c) = bigSep Finset.univ fun t : Fin 32 => td2 m d t.val :=
  tiles_eq (td2 m d)

theorem row1_any (d : Dev nD) (t : ℕ) (f : Buf (Elt F) (Pass1.oLoc d)) :
    (Pass1.oLoc d ↦[Pass1.rowOf t]{fullShare} f : sProp (Mach F)) ⊢ iprop(∃ g : Buf (Elt F) (Pass1.oLoc d), Pass1.oLoc d ↦[Pass1.rowOf t]{fullShare} g) := by
  iintro H; iexists f; iexact H
theorem row2_any (d : Dev nD) (t : ℕ) (f : Buf (Elt F) (Pass2.oLoc d)) :
    (Pass2.oLoc d ↦[Pass2.rowOf t]{fullShare} f : sProp (Mach F)) ⊢ iprop(∃ g : Buf (Elt F) (Pass2.oLoc d), Pass2.oLoc d ↦[Pass2.rowOf t]{fullShare} g) := by
  iintro H; iexists f; iexact H

theorem rows1_any (d : Dev nD) (f : Buf (Elt F) (Pass1.oLoc d)) :
    (bigSep Finset.univ fun t : Fin 32 => (Pass1.oLoc d ↦[Pass1.rowOf t.val]{fullShare} f : sProp (Mach F)))
      ⊢ bigSep Finset.univ fun t : Fin 32 => iprop(∃ g : Buf (Elt F) (Pass1.oLoc d), Pass1.oLoc d ↦[Pass1.rowOf t.val]{fullShare} g) :=
  bigSep_mono fun t _ => row1_any d t.val f

theorem in1 (d : Dev nD) (f : Buf (Elt F) (Pass1.oLoc d)) :
    iprop((xLoc d ↦{fullShare} xs m d) ∗ (Pass1.oLoc d ↦{fullShare} f)) ⊢ bigSep Finset.univ fun t : Fin 32 => go1 m d t.val := by
  rw [bigSep_sep']
  iintro ⟨Hx, Ho⟩
  isplitl [Hx]
  · iapply (Entails.of_eq (shares_eq (ℓ := xLoc d) (xs m d)).symm); iexact Hx
  ihave H := (Entails.of_eq (rows1_eq d f).symm) $$ Ho
  iapply (rows1_any d f); iexact H

theorem out1 (d : Dev nD) :
    (bigSep Finset.univ fun t : Fin 32 => td1 m d t.val) ⊢ iprop((xLoc d ↦{fullShare} xs m d) ∗ (Pass1.oLoc d ↦{fullShare} Pass1.hist (xs m d))) := by
  rw [bigSep_sep']
  iintro ⟨Hx, Ho⟩
  isplitl [Hx]
  · iapply (Entails.of_eq (shares_eq (ℓ := xLoc d) (xs m d))); iexact Hx
  iapply (Entails.of_eq (rows1_eq d _)); iexact Ho

theorem rows2_any (d : Dev nD) (f : Buf (Elt F) (Pass2.oLoc d)) :
    (bigSep Finset.univ fun t : Fin 32 => (Pass2.oLoc d ↦[Pass2.rowOf t.val]{fullShare} f : sProp (Mach F)))
      ⊢ bigSep Finset.univ fun t : Fin 32 => iprop(∃ g : Buf (Elt F) (Pass2.oLoc d), Pass2.oLoc d ↦[Pass2.rowOf t.val]{fullShare} g) :=
  bigSep_mono fun t _ => row2_any d t.val f

theorem in2 (d : Dev nD) (f : Buf (Elt F) (Pass2.oLoc d)) :
    iprop((xLoc d ↦{fullShare} xs m d) ∗ (Pass2.mLoc d ↦{fullShare} V4 m d main_v6) ∗ (Pass2.oLoc d ↦{fullShare} f))
      ⊢ bigSep Finset.univ fun t : Fin 32 => go2 m d t.val := by
  rw [bigSep_sep', bigSep_sep']
  iintro ⟨Hx, Hm, Ho⟩
  isplitl [Hx]
  · iapply (Entails.of_eq (shares_eq (ℓ := xLoc d) (xs m d)).symm); iexact Hx
  isplitl [Hm]
  · iapply (Entails.of_eq (shares_eq (ℓ := Pass2.mLoc d) (V4 m d main_v6)).symm); iexact Hm
  ihave H := (Entails.of_eq (rows2_eq d f).symm) $$ Ho
  iapply (rows2_any d f); iexact H

theorem out2 (d : Dev nD) :
    (bigSep Finset.univ fun t : Fin 32 => td2 m d t.val)
      ⊢ iprop((xLoc d ↦{fullShare} xs m d) ∗ (Pass2.mLoc d ↦{fullShare} V4 m d main_v6) ∗ (Pass2.oLoc d ↦{fullShare} Pass2.hist (prefixes m d) (xs m d))) := by
  rw [bigSep_sep', bigSep_sep']
  iintro ⟨Hx, Hm, Ho⟩
  isplitl [Hx]
  · iapply (Entails.of_eq (shares_eq (ℓ := xLoc d) (xs m d))); iexact Hx
  isplitl [Hm]
  · iapply (Entails.of_eq (shares_eq (ℓ := Pass2.mLoc d) (V4 m d main_v6))); iexact Hm
  iapply (Entails.of_eq (rows2_eq d _)); iexact Ho

/-- The buffers of the first call, -/
def refs1 : Finset (DevRef τ sig) := {Proc.devRef .tc main_arg0, Proc.devRef .tc main_v0}
/-- and of the second. -/
def refs2 : Finset (DevRef τ sig) := {Proc.devRef .tc main_arg0, Proc.devRef .tc main_v6, Proc.devRef .tc main_v7}

theorem refs1_sub : refs1 ⊆ ucRefs τ sig := by
  intro b hb
  simp only [refs1, Finset.mem_insert, Finset.mem_singleton] at hb
  rcases hb with rfl | rfl <;> exact Pipeline.devRef_mem_ucRefs rfl
theorem refs2_sub : refs2 ⊆ ucRefs τ sig := by
  intro b hb
  simp only [refs2, Finset.mem_insert, Finset.mem_singleton] at hb
  rcases hb with rfl | rfl | rfl <;> exact Pipeline.devRef_mem_ucRefs rfl

theorem held1 (d : Dev nD) (W : Valuation τ sig (Elt F)) :
    (held (d.tc : Thread nD τ) refs1 W : sProp (Mach F)) = iprop((xLoc d ↦{fullShare} W main_arg0) ∗ (Pass1.oLoc d ↦{fullShare} W main_v0)) := by
  unfold held refs1
  rw [SparseCore.bigSep_insert' (by decide +kernel), bigSep_singleton]
theorem held2 (d : Dev nD) (W : Valuation τ sig (Elt F)) :
    (held (d.tc : Thread nD τ) refs2 W : sProp (Mach F))
      = iprop((xLoc d ↦{fullShare} W main_arg0) ∗ (Pass2.mLoc d ↦{fullShare} W main_v6) ∗ (Pass2.oLoc d ↦{fullShare} W main_v7)) := by
  unfold held refs2
  rw [SparseCore.bigSep_insert' (by decide +kernel), SparseCore.bigSep_insert' (by decide +kernel), bigSep_singleton]

/-- The first call's step. -/
theorem call1 (κ : GSem nD τ sig → ℕ) (d : Dev nD) (Φ : PUnit → sProp (Mach F)) :
    iprop((K (F := F)).ctx EH (P m) κ ∗ (K (F := F)).tcSt EH d 0 ∗ held (d.tc : Thread nD τ) (ucRefs τ sig) (V0 m d)
        ∗ (((K (F := F)).tcSt EH d 1 ∗ held (d.tc : Thread nD τ) (ucRefs τ sig) (V1 m d)) -∗ Φ ⟨⟩))
      ⊢ wp frame (wpE ((K (F := F)).defs (D (F := F))) 𝒱 (SparseCore.T d) none) Set.univ ((K (F := F)).run d 0) Φ := by
  rw [held_sub_split (d.tc : Thread nD τ) refs1_sub (V0 m d), held_sub_split (d.tc : Thread nD τ) refs1_sub (V1 m d), held1, held1]
  iintro ⟨Hctx, Hst, ⟨⟨Hx, Ho⟩, Hrest⟩, Hk⟩
  iapply ((K (F := F)).wp_run (D (F := F)) 𝒱 (EH := EH) (P := P m) κ d 0)
  isplitl [Hctx]; · iexact Hctx
  isplitl [Hst]; · iexact Hst
  isplitl [Hx Ho]
  · rw [st1_eq]
    iapply (in1 m d (V0 m d main_v0))
    isplitl [Hx]; · iexact Hx
    iexact Ho
  iintro ⟨Hst, Hdn⟩
  ihave Hdn := (Entails.of_eq (dn1_eq m d)) $$ Hdn
  ihave H := (out1 m d) $$ Hdn
  icases H with ⟨Hx, Ho⟩
  iapply Hk
  isplitl [Hst]; · iexact Hst
  isplitl [Hx Ho]
  · rw [V1_self, V1_ne _ _ _ (devRef_ne_of_ne (by decide))]
    isplitl [Hx]; · iexact Hx
    iexact Ho
  · iapply (Entails.of_eq (held_congr (d.tc : Thread nD τ) (fun b hb => (V1_ne m d b fun e => (Finset.mem_sdiff.mp hb).2 (by
      rw [e]; exact Finset.mem_insert_of_mem (Finset.mem_singleton_self _))).symm)))
    iexact Hrest

/-- The second call's step. -/
theorem call2 (κ : GSem nD τ sig → ℕ) (d : Dev nD) (Φ : PUnit → sProp (Mach F)) :
    iprop((K (F := F)).ctx EH (P m) κ ∗ (K (F := F)).tcSt EH d 1 ∗ held (d.tc : Thread nD τ) (ucRefs τ sig) (V4 m d)
        ∗ (((K (F := F)).tcSt EH d 2 ∗ held (d.tc : Thread nD τ) (ucRefs τ sig) (V5 m d)) -∗ Φ ⟨⟩))
      ⊢ wp frame (wpE ((K (F := F)).defs (D (F := F))) 𝒱 (SparseCore.T d) none) Set.univ ((K (F := F)).run d 1) Φ := by
  rw [held_sub_split (d.tc : Thread nD τ) refs2_sub (V4 m d), held_sub_split (d.tc : Thread nD τ) refs2_sub (V5 m d), held2, held2, V4_x]
  iintro ⟨Hctx, Hst, ⟨⟨Hx, Hm, Ho⟩, Hrest⟩, Hk⟩
  iapply ((K (F := F)).wp_run (D (F := F)) 𝒱 (EH := EH) (P := P m) κ d 1)
  isplitl [Hctx]; · iexact Hctx
  isplitl [Hst]; · iexact Hst
  isplitl [Hx Hm Ho]
  · rw [st2_eq]
    iapply (in2 m d (V4 m d main_v7))
    isplitl [Hx]; · iexact Hx
    isplitl [Hm]; · iexact Hm
    iexact Ho
  iintro ⟨Hst, Hdn⟩
  ihave Hdn := (Entails.of_eq (dn2_eq m d)) $$ Hdn
  ihave H := (out2 m d) $$ Hdn
  icases H with ⟨Hx, Hm, Ho⟩
  iapply Hk
  isplitl [Hst]; · iexact Hst
  isplitl [Hx Hm Ho]
  · rw [V5_self, V5_ne _ _ (Proc.devRef .tc main_arg0) (devRef_ne_of_ne (by decide)), V5_ne _ _ (Proc.devRef .tc main_v6) (devRef_ne_of_ne (by decide)), V4_x]
    isplitl [Hx]; · iexact Hx
    isplitl [Hm]; · iexact Hm
    iexact Ho
  · iapply (Entails.of_eq (held_congr (d.tc : Thread nD τ) (fun b hb => (V5_ne m d b fun e => (Finset.mem_sdiff.mp hb).2 (by
      rw [e]; exact Finset.mem_insert_of_mem (Finset.mem_insert_of_mem (Finset.mem_singleton_self _)))).symm)))
    iexact Hrest

end Cert.Proof

end
-- ==== Proof.Main.lean ====
/-
  @main's run: the two SparseCore calls, the two TensorCore regions and the host operations between them, from the launch
  to the end, where every buffer the program does not scope holds what `V8` says.
-/
module

public import proofs.«01_k».proof.Proof.Launch

@[expose] public section

noncomputable section

namespace Cert.Proof

open Cert.KernelIdeal Cert.KernelIdeal.Gen

open Idealize.ShloMosaic
open Idealize.ShloMosaic.TcCoe
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held after seq)
open Idealize.ShloMosaic.Pipeline (ucRefs)

variable {F : FTy → Type} [FloatOps F]

/-- The regions' windows have no parameters to pin. -/
abbrev adm : ∀ p, (pcfgs (F := F) p).Adm := fun p => (cfgs p).toPCfg_adm
/-- The two pipelines. -/
abbrev pins : Dev nD → (p : Fin 2) → Pipeline.Cfg sig Λ₀ := fun _ => Pipeline.pin (pcfgs (F := F)) adm

/-- The ghost state of pipeline `p` on device `d`. -/
def pipe (p : Fin 2) (d : Dev nD) : sProp (Mach F) :=
  iprop(Pipeline.cellsGhost (Pipeline.pin (pcfgs (F := F)) adm) EP p d ∗ Pipeline.toksInit (Pipeline.pin (pcfgs (F := F)) adm) EP p d)

/-! ## The launch element -/

def u₀ : UU :=
  (initOf (K (F := F)).hsCells (K (F := F)).hsToks,
    (initOf (Pipeline.cells (Pipeline.pin (pcfgs (F := F)) adm) cellOf_inj) (Pipeline.launchToks (Pipeline.pin (pcfgs (F := F)) adm) cellOf_inj), 1))

theorem ownU_split (a : UH) (b : UP) : (ownU ((a, (b, 1)) : UU) : sProp (Mach F)) ⊢ iprop(BI.own (EH a) ∗ BI.own (EP b)) :=
  BI.own_op_elim ((uEmb (nD := nD) (sig := sig) (Ix := HIx 2) (Val := Elt F) (Name := ℕ) (U := UU) (Lvl := ℕ)).toEmb.op_of_mem
    (Prod.mk_mem_op (URA.mem_op_one a) (URA.mem_one_op (b, 1))))

variable (m : (ℓ : Loc nD τ sig) → Buf (Elt F) ℓ) (ρ : Dev nD → PrngReg)

/-- What each device's TensorCore is dealt at the launch: both pipelines' ghost state. -/
abbrev G (d : Dev nD) : sProp (Mach F) := iprop(pipe 0 d ∗ pipe 1 d)

theorem pipes_eq : iprop((bigSep Finset.univ fun c : Dev nD => bigSep Finset.univ fun p => (Pipeline.cellsGhost (Pipeline.pin (pcfgs (F := F)) adm) EP p c : sProp (Mach F)))
    ∗ (bigSep Finset.univ fun c : Dev nD => bigSep Finset.univ fun p => Pipeline.toksInit (Pipeline.pin (pcfgs (F := F)) adm) EP p c))
      = bigSep Finset.univ fun d : Dev nD => G (F := F) d := by
  rw [← bigSep_sep']
  refine bigSep_congr fun d _ => ?_
  rw [← bigSep_sep', bigSep_fin_two]
  rfl

theorem hu₀ : (ownU (u₀ (F := F)) : sProp (Mach F))
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 2 => (P m).x q thr) := by
  have hx : (bigSep Finset.univ fun thr : Thread nD τ => bigSep Finset.univ fun q : Fin 2 => (P m).x q thr) = (iprop(emp) : sProp (Mach F)) := by
    refine (bigSep_congr fun thr _ => ?_).trans (bigSep_emp_const _)
    exact bigSep_emp_const (Finset.univ : Finset (Fin 2))
  rw [hx]
  unfold u₀
  iintro Hu
  ihave H := (ownU_split _ _) $$ Hu
  icases H with ⟨HH, HP⟩
  imod (Pipeline.fund_ghost (cfgs := Pipeline.pin (pcfgs (F := F)) adm) EP cellOf_inj) $$ HP with Hg
  ihave Hg := (Entails.of_eq (pipes_eq (F := F))) $$ Hg
  imodintro
  isplitl [HH]; · iexact HH
  isplitl [Hg]; · iexact Hg
  iempintro

/-! ## The regions as steps of @main -/

theorem tcSt_take (n : ℕ) (d : Dev nD) :
    ((K (F := F)).tcSt EH d n : sProp (Mach F)) ⊢ iprop(owed n (8 * n) d ∗ (owed n (8 * n) d -∗ (K (F := F)).tcSt EH d n)) := by
  unfold SparseCore.Cfg.tcSt owed
  iintro ⟨HO, HR⟩
  isplitl [HO]; · iexact HO
  iintro HO
  isplitl [HO]; · iexact HO
  iexact HR

theorem region_step [∀ e, Nonempty (Elt F e)] {p : Fin 2} {dats} (R : Pipeline.RegionSeg (pcfgs (F := F)) adm dats none defs₀ 𝒱₀ (K (F := F)).L (K (F := F)).lev p)
    (d : Dev nD) (Φ : PUnit → sProp (Mach F)) :
    iprop((iprop(boundary (d.tc : Thread nD τ) ∗ R.post d) -∗ Φ ⟨⟩) ∗ boundary (d.tc : Thread nD τ) ∗ R.pre d ∗ levAts (K (F := F)).L (K (F := F)).lev ∗ pipe p d)
      ⊢ wp frame (wpE ((K (F := F)).defs (D (F := F))) 𝒱 (SparseCore.T d) none) Set.univ
          (Prog.lift (.customCall (SparseCore.inner (Pipeline.entry p)) ())) Φ := by
  change _ ⊢ wp frame (wpE ((K (F := F)).defs (D (F := F))) 𝒱 (SparseCore.T d) none) Set.univ
    (SparseCore.liftProg (.op (.customCall (Pipeline.entry p) ()) .ret)) Φ
  refine BI.Entails.trans ?_ ((K (F := F)).wp_liftProg (D (F := F)) 𝒱 (SparseCore.T d) Set.univ none _ Φ)
  refine BI.Entails.trans ?_ (Pipeline.RegionSeg.wp (pcfgs (F := F)) adm dats none cellOf_inj EP defs₀ 𝒱₀ (K (F := F)).L (K (F := F)).lev R d none (by simp) .ret Φ)
  unfold pipe
  change BIBase.Entails (PROP := sProp (Mach F)) _ _
  iintro ⟨Hk, Hb, Hp, Hl, Hg, Ht⟩
  isplitl [Hk]
  · iintro H
    rw [wp_ret]; imodintro
    iapply Hk; iexact H
  isplitl [Hb]; · iexact Hb
  isplitl [Hp]; · iexact Hp
  isplitl [Hl]; · iexact Hl
  isplitl [Hg]; · iexact Hg
  iexact Ht

/-- The first region's step. -/
theorem region1 [∀ e, Nonempty (Elt F e)] (d : Dev nD) (Φ : PUnit → sProp (Mach F)) :
    iprop(((boundary (d.tc : Thread nD τ) ∗ (K (F := F)).tcSt EH d 1 ∗ held (d.tc : Thread nD τ) (ucRefs τ sig) (V3 m d)) -∗ Φ ⟨⟩)
        ∗ boundary (d.tc : Thread nD τ) ∗ (K (F := F)).tcSt EH d 1 ∗ held (d.tc : Thread nD τ) (ucRefs τ sig) (V2 m d)
        ∗ levAts (K (F := F)).L (K (F := F)).lev ∗ pipe 0 d)
      ⊢ wp frame (wpE ((K (F := F)).defs (D (F := F))) 𝒱 (SparseCore.T d) none) Set.univ
          (Prog.lift (.customCall (SparseCore.inner (Pipeline.entry 0)) ())) Φ := by
  refine BI.Entails.trans ?_ (region_step (TC1.reg 1 (8 * 1) (fun c b => V2 m c b) adm (fun c b => V3 m c b) (fun c => V3_self m c)
    (fun c b h => V3_ne m c _ (StableHlo.devRef_ne_of_ne h))) d Φ)
  show _ ⊢ iprop((iprop(boundary (d.tc : Thread nD τ) ∗ unscopedBufs d (fun b => V3 m d b) ∗ owed 1 (8 * 1) d) -∗ Φ ⟨⟩) ∗ boundary (d.tc : Thread nD τ)
    ∗ (unscopedBufs d (fun b => V2 m d b) ∗ owed 1 (8 * 1) d) ∗ levAts (K (F := F)).L (K (F := F)).lev ∗ pipe 0 d)
  rw [Pipeline.unscopedBufs_held, Pipeline.unscopedBufs_held]
  iintro ⟨Hk, Hb, Hst, Hh, Hl, Hg⟩
  ihave H := (tcSt_take 1 d) $$ Hst
  icases H with ⟨HO, Hst⟩
  isplitl [Hk Hst]
  · iintro ⟨Hb, Hh, HO⟩
    iapply Hk
    isplitl [Hb]; · iexact Hb
    isplitl [HO Hst]; · iapply Hst; iexact HO
    iexact Hh
  isplitl [Hb]; · iexact Hb
  isplitl [Hh HO]
  · isplitl [Hh]; · iexact Hh
    iexact HO
  isplitl [Hl]; · iexact Hl
  iexact Hg

/-- The second region's step. -/
theorem region2 [∀ e, Nonempty (Elt F e)] (d : Dev nD) (Φ : PUnit → sProp (Mach F)) :
    iprop(((boundary (d.tc : Thread nD τ) ∗ (K (F := F)).tcSt EH d 2 ∗ held (d.tc : Thread nD τ) (ucRefs τ sig) (V7 m d)) -∗ Φ ⟨⟩)
        ∗ boundary (d.tc : Thread nD τ) ∗ (K (F := F)).tcSt EH d 2 ∗ held (d.tc : Thread nD τ) (ucRefs τ sig) (V6 m d)
        ∗ levAts (K (F := F)).L (K (F := F)).lev ∗ pipe 1 d)
      ⊢ wp frame (wpE ((K (F := F)).defs (D (F := F))) 𝒱 (SparseCore.T d) none) Set.univ
          (Prog.lift (.customCall (SparseCore.inner (Pipeline.entry 1)) ())) Φ := by
  refine BI.Entails.trans ?_ (region_step (TC3.reg 2 (8 * 2) (fun c b => V6 m c b) adm (fun c b => V7 m c b) (fun c => V7_self m c)
    (fun c b h => V7_ne m c _ (StableHlo.devRef_ne_of_ne h))) d Φ)
  show _ ⊢ iprop((iprop(boundary (d.tc : Thread nD τ) ∗ unscopedBufs d (fun b => V7 m d b) ∗ owed 2 (8 * 2) d) -∗ Φ ⟨⟩) ∗ boundary (d.tc : Thread nD τ)
    ∗ (unscopedBufs d (fun b => V6 m d b) ∗ owed 2 (8 * 2) d) ∗ levAts (K (F := F)).L (K (F := F)).lev ∗ pipe 1 d)
  rw [Pipeline.unscopedBufs_held, Pipeline.unscopedBufs_held]
  iintro ⟨Hk, Hb, Hst, Hh, Hl, Hg⟩
  ihave H := (tcSt_take 2 d) $$ Hst
  icases H with ⟨HO, Hst⟩
  isplitl [Hk Hst]
  · iintro ⟨Hb, Hh, HO⟩
    iapply Hk
    isplitl [Hb]; · iexact Hb
    isplitl [HO Hst]; · iapply Hst; iexact HO
    iexact Hh
  isplitl [Hb]; · iexact Hb
  isplitl [Hh HO]
  · isplitl [Hh]; · iexact Hh
    iexact HO
  isplitl [Hl]; · iexact Hl
  iexact Hg

/-! ## @main -/

theorem main_eq (d : Dev nD) : main (F := F) d = ((K (F := F)).run d 0 >>= fun _ => seq ops1 >>= fun _ =>
    Prog.lift (.customCall (SparseCore.inner (Pipeline.entry 0)) ()) >>= fun _ => seq ops2 >>= fun _ =>
    (K (F := F)).run d 1 >>= fun _ => seq ops3 >>= fun _ =>
    Prog.lift (.customCall (SparseCore.inner (Pipeline.entry 1)) ()) >>= fun _ => seq ops4 >>= fun _ => pure ⟨⟩) := rfl

theorem levels (κ : GSem nD τ sig → ℕ) : (K (F := F)).ctx EH (P m) κ ⊢ iprop((K (F := F)).ctx EH (P m) κ ∗ levAts (K (F := F)).L (K (F := F)).lev) := by
  iintro #H
  isplitr; · iexact H
  iapply ((K (F := F)).ctx_levAts κ); iexact H

theorem ops1_sub : ∀ op ∈ ops1 (F := F), op.bufs ⊆ ucRefs τ sig := fun op hop =>
  Pipeline.sub_ucRefs op (List.forall_iff_forall_mem.mp (show (ops1 (F := F)).Forall fun op => op.bufs ⊆ StableHlo.tcRefs τ sig by simp) op hop)
theorem ops1_fresh : ∀ op ∈ ops1 (F := F), op.fresh = ∅ := by
  intro op hop; fin_cases hop <;> rfl
theorem ops2_sub : ∀ op ∈ ops2 (F := F), op.bufs ⊆ ucRefs τ sig := fun op hop =>
  Pipeline.sub_ucRefs op (List.forall_iff_forall_mem.mp (show (ops2 (F := F)).Forall fun op => op.bufs ⊆ StableHlo.tcRefs τ sig by simp) op hop)
theorem ops2_fresh : ∀ op ∈ ops2 (F := F), op.fresh = ∅ := by
  intro op hop; fin_cases hop <;> rfl
theorem ops3_sub : ∀ op ∈ ops3 (F := F), op.bufs ⊆ ucRefs τ sig := fun op hop =>
  Pipeline.sub_ucRefs op (List.forall_iff_forall_mem.mp (show (ops3 (F := F)).Forall fun op => op.bufs ⊆ StableHlo.tcRefs τ sig by simp) op hop)
theorem ops3_fresh : ∀ op ∈ ops3 (F := F), op.fresh = ∅ := by
  intro op hop; fin_cases hop <;> rfl
theorem ops4_sub : ∀ op ∈ ops4 (F := F), op.bufs ⊆ ucRefs τ sig := fun op hop =>
  Pipeline.sub_ucRefs op (List.forall_iff_forall_mem.mp (show (ops4 (F := F)).Forall fun op => op.bufs ⊆ StableHlo.tcRefs τ sig by simp) op hop)
theorem ops4_fresh : ∀ op ∈ ops4 (F := F), op.fresh = ∅ := by
  intro op hop; fin_cases hop <;> rfl

/-- At the end every unscoped buffer is at `V8`. -/
abbrev FIN (d : Dev nD) : sProp (Mach F) := held (d.tc : Thread nD τ) (ucRefs τ sig) (V8 m d)

theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 2 ∗ FIN m d ∗ (K (F := F)).tcEnd d) := by
  have hu : (unscopedBufs d (fun b => m ((SparseCore.T d).loc b)) : sProp (Mach F)) = held (d.tc : Thread nD τ) (ucRefs τ sig) (V0 m d) :=
    Pipeline.unscopedBufs_held d (V0 m d)
  unfold SparseCore.Cfg.tcRes SparseCore.Cfg.tcEnd
  rw [hu, main_eq]
  iintro ⟨#Hctx, Hst, ⟨Hb, Hh, Hts, -⟩, ⟨Hg0, Hg1⟩⟩
  ihave #Hlv := ((K (F := F)).ctx_levAts κ) $$ Hctx
  rw [wp_bind]
  iapply (call1 m κ d)
  isplitr; · iexact Hctx
  isplitl [Hst]; · iexact Hst
  isplitl [Hh]; · iexact Hh
  iintro ⟨Hst, Hh⟩
  iapply (StableHlo.wp_seq (𝒱 := 𝒱) (E := Set.univ) (bd := none) d (ucRefs τ sig) _ ops1 ops1_sub ops1_fresh (V1 m d)) $$ [Hb Hh]
  · isplitl [Hb]; · iexact Hb
    iexact Hh
  iintro ⟨Hb, Hh⟩
  rw [wp_bind]
  iapply (region1 m d)
  isplitr [Hb Hst Hh Hg0]
  swap
  · isplitl [Hb]; · iexact Hb
    isplitl [Hst]; · iexact Hst
    isplitl [Hh]; · iexact Hh
    isplitr; · iexact Hlv
    iexact Hg0
  iintro ⟨Hb, Hst, Hh⟩
  iapply (StableHlo.wp_seq (𝒱 := 𝒱) (E := Set.univ) (bd := none) d (ucRefs τ sig) _ ops2 ops2_sub ops2_fresh (V3 m d)) $$ [Hb Hh]
  · isplitl [Hb]; · iexact Hb
    iexact Hh
  iintro ⟨Hb, Hh⟩
  rw [wp_bind]
  iapply (call2 m κ d)
  isplitr; · iexact Hctx
  isplitl [Hst]; · iexact Hst
  isplitl [Hh]; · iexact Hh
  iintro ⟨Hst, Hh⟩
  iapply (StableHlo.wp_seq (𝒱 := 𝒱) (E := Set.univ) (bd := none) d (ucRefs τ sig) _ ops3 ops3_sub ops3_fresh (V5 m d)) $$ [Hb Hh]
  · isplitl [Hb]; · iexact Hb
    iexact Hh
  iintro ⟨Hb, Hh⟩
  rw [wp_bind]
  iapply (region2 m d)
  isplitr [Hb Hst Hh Hg1]
  swap
  · isplitl [Hb]; · iexact Hb
    isplitl [Hst]; · iexact Hst
    isplitl [Hh]; · iexact Hh
    isplitr; · iexact Hlv
    iexact Hg1
  iintro ⟨Hb, Hst, Hh⟩
  iapply (StableHlo.wp_seq (𝒱 := 𝒱) (E := Set.univ) (bd := none) d (ucRefs τ sig) _ ops4 ops4_sub ops4_fresh (V7 m d)) $$ [Hb Hh]
  · isplitl [Hb]; · iexact Hb
    iexact Hh
  iintro ⟨Hb, Hh⟩
  rw [wp_pure]; imodintro
  isplitl [Hst]; · iexact Hst
  isplitl [Hh]; · iexact Hh
  isplitl [Hb]; · iexact Hb
  iexact Hts

/-- What the final memory of device `d` is. -/
def fq (d : Dev nD) (s' : Phys nD τ sig (Elt F)) : Prop := ∀ b ∈ ucRefs τ sig, s'.mem.mem (d, b) = V8 m d b

theorem held_at {b : DevRef τ sig} (hb : b ∈ ucRefs τ sig) (d : Dev nD) (s' : Phys nD τ sig (Elt F)) :
    iprop(FIN m d ∗ SI s') ⊢ (⌜s'.mem.mem (d, b) = V8 m d b⌝ : sProp (Mach F)) := by
  have hs : (FIN m d : sProp (Mach F)) = iprop(((d, b) ↦{fullShare} V8 m d b) ∗ held (d.tc : Thread nD τ) (ucRefs τ sig \ {b}) (V8 m d)) := by
    refine (StableHlo.held_sub_split (d.tc : Thread nD τ) (Finset.singleton_subset_iff.mpr hb) (V8 m d)).trans ?_
    congr 1
    exact bigSep_singleton
  rw [hs]
  iintro ⟨⟨Hb, -⟩, HSI⟩
  ihave H := (SI_pointsTo_agree (st := s') (ℓ := ((d, b) : Loc nD τ sig)) (I := Finset.univ) (q := fullShare) (f := V8 m d b)) $$ [HSI Hb]
  · isplitl [HSI] <;> iassumption
  icases H with %h
  ipureintro; exact funext fun i => h i (Finset.mem_univ i)

theorem hfin (d : Dev nD) (s' : Phys nD τ sig (Elt F)) : iprop(FIN m d ∗ SI s') ⊢ (⌜fq m d s'⌝ : sProp (Mach F)) := by
  unfold fq
  refine (show iprop(FIN m d ∗ SI s') ⊢ (iprop(∀ b : DevRef τ sig, ⌜b ∈ ucRefs τ sig → s'.mem.mem (d, b) = V8 m d b⌝) : sProp (Mach F)) from
    forall_intro fun b => ?_).trans pure_forall.2
  by_cases hb : b ∈ ucRefs τ sig
  · exact (held_at m hb d s').trans (Laws.pure_mono fun h _ => h)
  · exact BIClass.pure_intro fun h => absurd h hb

/-- The program runs to its end from any launch memory: every unscoped buffer ends at `V8`, and the semaphores are back
    at zero. -/
theorem run_main [∀ e, Nonempty (Elt F e)] :
    θ_run (Cert.KernelIdeal.defs (F := F)) (Cert.KernelIdeal.threads (F := F)) ⟨m, fun _ => 0, ρ⟩
      fun r => (∀ d : Dev nD, ∀ b ∈ ucRefs τ sig, r.2.mem (d, b) = V8 m d b) ∧ r.2.sem = fun _ => 0 :=
  SparseCore.Cfg.θ_run_sc_quiescent (K := K (F := F)) (D := D (F := F)) (𝒱 := 𝒱) (EH := EH) (P := P m) (A := ∅) facts v₀
    (fun q hq => match q with | 0 => nomatch hq | 1 => nomatch hq)
    (fun q _ => match q with | 0 => tileObl1 m | 1 => tileObl2 m)
    (fun q _ => SparseCore.Cfg.VecSplit.of_plain (vecSplit m q))
    m ρ main (fun d => G (F := F) d) (FIN m) (u₀ (F := F)) (sep_elim_left.trans (hu₀ m)) (hmain m ρ) (fq m) (hfin m) _ (fun _ h hz => ⟨h, hz⟩)

end Cert.Proof

end
-- ==== Proof.Same.lean ====
/-
  The kernel as printed and its idealization are one program.
-/
module

public import proofs.«01_k».proof.Proof.Gen.Kernel
public import proofs.«01_k».proof.Proof.Gen.KernelIdeal
public import Idealize.ShloMosaic.PureOps.BitExact

@[expose] public section

noncomputable section

namespace Cert.Proof

open Idealize.ShloMosaic

/-- The two programs have one text: their kernels are the same, -/
theorem defs₀_eq : (Kernel.defs₀ (F := Bits)) = KernelIdeal.defs₀ (F := Bits) := by
  funext p ℓ a
  match p, ℓ, a with
  | .tc, 0, a => rfl
  | .tc, 1, a => rfl
  | .tc, 2, a => rfl
  | .tc, 3, a => rfl
  | .scScalar _, 0, a => rfl
  | .scScalar _, 1, a => rfl
  | .scScalar _, 2, a => rfl
  | .scScalar _, 3, a => rfl
  | .scVector _ _, 0, a => rfl
  | .scVector _ _, 1, a => rfl
  | .scVector _ _, 2, a => rfl
  | .scVector _ _, 3, a => rfl

/-- and so are the bodies of all their labels. -/
theorem defs_eq : (Kernel.defs (F := Bits)) = KernelIdeal.defs (F := Bits) := by
  unfold Kernel.defs KernelIdeal.defs
  rw [defs₀_eq]; rfl

end Cert.Proof

end
-- ==== Proof.Scan.lean ====
/-
  Running sums by doubling: the shift-and-add steps by which the kernels sum an array of counts, read as sums over
  windows that double in length until they reach back to the start.
-/
module

public import Idealize.ShloMosaic.PureOps
public import Idealize.ShloMosaic.Lib.Pipeline.Value
public import Mathlib.Data.BitVec
public import Mathlib.Algebra.BigOperators.Intervals
public import Mathlib.Tactic.Ring

@[expose] public section

namespace Cert.Proof

open Idealize.ShloMosaic

/-- The sum of the `k` entries of `f` that end at `n` (those that exist). -/
def win (k : ℕ) (f : ℕ → BitVec 32) (n : ℕ) : BitVec 32 := ∑ j ∈ Finset.range k, if j ≤ n then f (n - j) else 0#32

theorem win_one (f : ℕ → BitVec 32) (n : ℕ) : win 1 f n = f n := by simp [win]

/-- Two windows side by side. -/
theorem win_double (k : ℕ) (f : ℕ → BitVec 32) (n : ℕ) :
    win (k + k) f n = win k f n + if k ≤ n then win k f (n - k) else 0#32 := by
  unfold win
  rw [Finset.sum_range_add]
  congr 1
  split
  · next h =>
    refine Finset.sum_congr rfl fun j _ => ?_
    by_cases h' : k + j ≤ n
    · rw [if_pos h', if_pos (by omega), Nat.sub_add_eq]
    · rw [if_neg h', if_neg (by omega)]
  · next h => exact Finset.sum_eq_zero fun j _ => if_neg (by omega)

/-- A window that reaches back to the start is the sum of all so far. -/
theorem win_full (k : ℕ) (f : ℕ → BitVec 32) (n : ℕ) (h : n < k) : win k f n = ∑ i ∈ Finset.range (n + 1), f i := by
  unfold win
  obtain ⟨e, rfl⟩ : ∃ e, k = (n + 1) + e := ⟨k - (n + 1), by omega⟩
  have hz : (∑ j ∈ Finset.range e, if n + 1 + j ≤ n then f (n - (n + 1 + j)) else 0#32) = 0 :=
    Finset.sum_eq_zero fun j _ => if_neg (by omega)
  rw [Finset.sum_range_add, hz, add_zero, ← Finset.sum_range_reflect]
  refine Finset.sum_congr rfl fun j hj => ?_
  have := Finset.mem_range.mp hj
  rw [if_pos (by omega)]
  congr 1
  omega

/-- Row `r`, column `c` of a shape of two axes. -/
def at2 {a b : ℕ} (p q : ℕ) (hp : p < a) (hq : q < b) : (⟨2, ![a, b]⟩ : Shape).Idx := fun | 0 => ⟨p, hp⟩ | 1 => ⟨q, hq⟩

/-- One step along the columns: the array plus itself moved `k` columns on. -/
theorem colStep {R C k m k' : ℕ} (hk' : k' = k + k) (hm : k + m = C) {f : ℕ → ℕ → BitVec 32} {v : IVec ⟨2, ![R, C]⟩ 32}
    (hv : ∀ j, v j = win k (f (j 0).val) (j 1).val) {hs : (⟨2, ![R, C]⟩ : Shape).Slices ![0, 0] ⟨2, ![R, m]⟩}
    {hc : Shape.Concatenates [(⟨2, ![R, k]⟩ : Shape), (⟨2, ![R, m]⟩ : Shape)] ⟨2, ![R, C]⟩ 1} (j : (⟨2, ![R, C]⟩ : Shape).Idx) :
    addi v (concatenate ⟨2, ![R, C]⟩ 1 [⟨⟨2, ![R, k]⟩, broadcast ⟨2, ![R, k]⟩ 0#32⟩, ⟨⟨2, ![R, m]⟩, extractStridedSlice ⟨2, ![R, m]⟩ ![0, 0] v hs⟩] hc) j
      = win k' (f (j 0).val) (j 1).val := by
  subst hk'
  rw [win_double]
  show v j + _ = _
  rw [hv]
  congr 1
  have h0 : (j 0).val < R := (j 0).isLt
  have h1 : (j 1).val < C := (j 1).isLt
  by_cases h : k ≤ (j 1).val
  · rw [if_pos h, concatenate_pair_apply_right 1 _ _ hc j rfl rfl (at2 (j 0).val ((j 1).val - k) h0 (by omega))]
    · unfold extractStridedSlice
      rw [hv]
      congr 1
      · exact congrArg f (show 0 + (j 0).val = (j 0).val by omega)
      · show 0 + ((j 1).val - k) = _; omega
    · intro b hb
      fin_cases b
      · rfl
      · exact absurd rfl hb
    · show (j 1).val - k + k = _; omega
  · rw [if_neg h, concatenate_pair_apply_left 1 _ _ hc j rfl (at2 (j 0).val (j 1).val h0 (by omega))]
    · rfl
    · intro b
      fin_cases b <;> rfl

/-- One step along the rows of a single column. -/
theorem rowStep {R k m k' : ℕ} (hk' : k' = k + k) (hm : k + m = R) {f : ℕ → BitVec 32} {v : IVec ⟨2, ![R, 1]⟩ 32}
    (hv : ∀ j, v j = win k f (j 0).val) {hs : (⟨2, ![R, 1]⟩ : Shape).Slices ![0, 0] ⟨2, ![m, 1]⟩}
    {hc : Shape.Concatenates [(⟨2, ![k, 1]⟩ : Shape), (⟨2, ![m, 1]⟩ : Shape)] ⟨2, ![R, 1]⟩ 0} (j : (⟨2, ![R, 1]⟩ : Shape).Idx) :
    addi v (concatenate ⟨2, ![R, 1]⟩ 0 [⟨⟨2, ![k, 1]⟩, broadcast ⟨2, ![k, 1]⟩ 0#32⟩, ⟨⟨2, ![m, 1]⟩, extractStridedSlice ⟨2, ![m, 1]⟩ ![0, 0] v hs⟩] hc) j
      = win k' f (j 0).val := by
  subst hk'
  rw [win_double]
  show v j + _ = _
  rw [hv]
  congr 1
  have h0 : (j 0).val < R := (j 0).isLt
  have h1 : (j 1).val < 1 := (j 1).isLt
  by_cases h : k ≤ (j 0).val
  · rw [if_pos h, concatenate_pair_apply_right 0 _ _ hc j rfl rfl (at2 ((j 0).val - k) (j 1).val (by omega) h1)]
    · unfold extractStridedSlice
      rw [hv]
      congr 1
      · show 0 + ((j 0).val - k) = _; omega
    · intro b hb
      fin_cases b
      · exact absurd rfl hb
      · rfl
    · show (j 0).val - k + k = _; omega
  · rw [if_neg h, concatenate_pair_apply_left 0 _ _ hc j rfl (at2 (j 0).val (j 1).val (by omega) h1)]
    · rfl
    · intro b
      fin_cases b <;> rfl

/-- Sums over rows of `C` and a part of the next. -/
theorem sum_rows (C : ℕ) (h : ℕ → BitVec 32) (r c : ℕ) :
    ∑ b ∈ Finset.range (C * r + c), h b
      = (∑ r' ∈ Finset.range r, ∑ c' ∈ Finset.range C, h (C * r' + c')) + ∑ c' ∈ Finset.range c, h (C * r + c') := by
  rw [Finset.sum_range_add]
  congr 1
  induction r with
  | zero => simp
  | succ r ih => rw [Nat.mul_succ, Finset.sum_range_add, ih, Finset.sum_range_succ]

/-- The running sums put together: along each row, plus the sums of the rows before it (all the rows up to it, less the
    row itself), are the running sums of the array read row after row. -/
theorem cum_eq {R : ℕ} (h : ℕ → BitVec 32) {v : IVec ⟨2, ![R, 128]⟩ 32} {t u : IVec ⟨2, ![R, 1]⟩ 32}
    (hv : ∀ j, v j = win 128 (fun c => h (128 * (j 0).val + c)) (j 1).val)
    (ht : ∀ j, t j = ∑ c ∈ Finset.range 128, h (128 * (j 0).val + c))
    (hu : ∀ j, u j = ∑ r ∈ Finset.range ((j 0).val + 1), ∑ c ∈ Finset.range 128, h (128 * r + c))
    {hb hb' : (⟨2, ![R, 1]⟩ : Shape).Broadcasts ⟨2, ![R, 128]⟩} (j : (⟨2, ![R, 128]⟩ : Shape).Idx) :
    subi (addi v (broadcastTo ⟨2, ![R, 128]⟩ u hb)) (broadcastTo ⟨2, ![R, 128]⟩ t hb') j
      = ∑ b ∈ Finset.range (128 * (j 0).val + (j 1).val + 1), h b := by
  have h0 : (j 0).val < R := (j 0).isLt
  have h1 : (j 1).val < 128 := (j 1).isLt
  have key : ∀ (w : IVec ⟨2, ![R, 1]⟩ 32) (g : ℕ → BitVec 32) (hw : ∀ i, w i = g (i 0).val) (hb : (⟨2, ![R, 1]⟩ : Shape).Broadcasts ⟨2, ![R, 128]⟩),
      broadcastTo ⟨2, ![R, 128]⟩ w hb j = g (j 0).val := fun w g hw hb => by
    unfold broadcastTo
    rw [hw]
    congr 1
    split
    · next e =>
      have e' : R = 1 := e
      show 0 = (j 0).val
      omega
    · rfl
  show v j + broadcastTo ⟨2, ![R, 128]⟩ u hb j - broadcastTo ⟨2, ![R, 128]⟩ t hb' j = _
  rw [key u (fun r => ∑ r' ∈ Finset.range (r + 1), ∑ c ∈ Finset.range 128, h (128 * r' + c)) hu,
    key t (fun r => ∑ c ∈ Finset.range 128, h (128 * r + c)) ht, hv, win_full _ _ _ h1, Nat.add_assoc, sum_rows,
    Finset.sum_range_succ (fun r => ∑ c ∈ Finset.range 128, h (128 * r + c))]
  ring

end Cert.Proof

end
-- ==== Proof.Totals.lean ====
/-
  The kernels' reductions as sums: an array reduced to one number, and the thirty-two tiles' histograms added up; and
  sums of words that stand for natural numbers.
-/
module

public import proofs.«01_k».proof.Proof.Scan
public import Idealize.ShloMosaic.PureOps.Reduce
public import Idealize.ShloMosaic.PureOps.Ideal.Laws
public import Mathlib.Data.Nat.Count

@[expose] public section

namespace Cert.Proof

open Idealize.ShloMosaic

/-- A reshaped array has the same sum. -/
theorem sum_shapeCast {M : Type} [AddCommMonoid M] {s t : Shape} (x : s.Idx → M) (h : s.ShapeCasts t) :
    ∑ j : t.Idx, shapeCast t x h j = ∑ i : s.Idx, x i :=
  Equiv.sum_comp (Shape.reshapeEquiv h) x

/-- The sum over a shape of two axes, its elements numbered row after row. -/
theorem sum_idx2 {M : Type} [AddCommMonoid M] {R C : ℕ} (x : (⟨2, ![R, C]⟩ : Shape).Idx → M) (g : ℕ → M)
    (hx : ∀ j, x j = g ((j 0).val * C + (j 1).val)) : ∑ j, x j = ∑ n ∈ Finset.range (R * C), g n := by
  have e : (⟨2, ![R, C]⟩ : Shape).numel = R * C := by
    show ∏ a : Fin 2, ![R, C] a = _
    simp
  rw [← Equiv.sum_comp (⟨2, ![R, C]⟩ : Shape).rowMajor.symm x, ← e, ← Fin.sum_univ_eq_sum_range]
  refine Finset.sum_congr rfl fun n _ => ?_
  rw [hx]
  congr 1
  have := Shape.rowMajor_val_two ((⟨2, ![R, C]⟩ : Shape).rowMajor.symm n)
  rw [Equiv.apply_symm_apply] at this
  exact this.symm

/-- An integer array of two axes reduced to one number, the way the kernels write it: through a shape with an outer unit
    axis, read back at its only element. -/
theorem total_eq {R C : ℕ} (x : IVec ⟨2, ![R, C]⟩ 32) (g : ℕ → BitVec 32) (hx : ∀ j, x j = g ((j 0).val * C + (j 1).val))
    {h1 : (⟨2, ![R, C]⟩ : Shape).ShapeCasts ⟨3, ![1, R, C]⟩} {h2 : (⟨3, ![1, R, C]⟩ : Shape).Reduces [1, 2] ⟨1, ![1]⟩}
    {h3 : (0#32 : BitVec 32) = IKind.add.neutral} {h4 : (⟨1, ![1]⟩ : Shape).ShapeCasts ⟨3, ![1, 1, 1]⟩}
    {h5 : ∀ a, (![0, 0, 0] : Fin 3 → ℕ) a < (⟨3, ![1, 1, 1]⟩ : Shape).size a} :
    extractAt ![0, 0, 0] (shapeCast ⟨3, ![1, 1, 1]⟩ (multiReductionI .add [1, 2] ⟨1, ![1]⟩ (shapeCast ⟨3, ![1, R, C]⟩ x h1) 0#32 h2 h3) h4) h5
      = ∑ n ∈ Finset.range (R * C), g n := by
  unfold extractAt
  have hr : ∀ j, multiReductionI .add [1, 2] ⟨1, ![1]⟩ (shapeCast ⟨3, ![1, R, C]⟩ x h1) 0#32 h2 h3 j = ∑ n ∈ Finset.range (R * C), g n := fun j => by
    rw [multiReductionI_eq_reduceFold]
    refine (reduceFold_add_eq_sum h2 _ _ j).trans ?_
    rw [Finset.filter_true_of_mem fun i _ => funext fun b => Fin.ext (by
      have a1 := (h2.drop i b).isLt; have a2 := (j b).isLt
      have e : (⟨1, ![1]⟩ : Shape).size b = 1 := by fin_cases b; rfl
      omega), sum_shapeCast, sum_idx2 x g hx]
    exact zero_add _
  exact hr _

/-- The sum along the first axis of an array of three. -/
theorem tiles_eq3 {T R C : ℕ} (x : IVec ⟨3, ![T, R, C]⟩ 32) (g : ℕ → ℕ → ℕ → BitVec 32) (hx : ∀ j, x j = g (j 0).val (j 1).val (j 2).val)
    {h1 : (⟨3, ![T, R, C]⟩ : Shape).ShapeCasts ⟨3, ![T, R, C]⟩} {h2 : (⟨3, ![T, R, C]⟩ : Shape).Reduces [0] ⟨2, ![R, C]⟩}
    {h3 : (0#32 : BitVec 32) = IKind.add.neutral} (j : (⟨2, ![R, C]⟩ : Shape).Idx) :
    multiReductionI .add [0] ⟨2, ![R, C]⟩ (shapeCast ⟨3, ![T, R, C]⟩ x h1) 0#32 h2 h3 j = ∑ t ∈ Finset.range T, g t (j 0).val (j 1).val := by
  rw [multiReductionI_eq_reduceFold]
  refine (reduceFold_add_eq_sum h2 _ _ j).trans ?_
  rw [Shape.Reduces.sum_filter_drop_single, ← Fin.sum_univ_eq_sum_range (fun t => g t (j 0).val (j 1).val)]
  refine (zero_add _).trans (Finset.sum_congr rfl fun t _ => ?_)
  rw [shapeCast_apply _ _ _ (h2.lift j t) rfl, hx]
  rfl

/-- The same of an array of four. -/
theorem tiles_eq4 {T H R C : ℕ} (x : IVec ⟨4, ![T, H, R, C]⟩ 32) (g : ℕ → ℕ → ℕ → ℕ → BitVec 32)
    (hx : ∀ j, x j = g (j 0).val (j 1).val (j 2).val (j 3).val)
    {h1 : (⟨4, ![T, H, R, C]⟩ : Shape).ShapeCasts ⟨4, ![T, H, R, C]⟩} {h2 : (⟨4, ![T, H, R, C]⟩ : Shape).Reduces [0] ⟨3, ![H, R, C]⟩}
    {h3 : (0#32 : BitVec 32) = IKind.add.neutral} (j : (⟨3, ![H, R, C]⟩ : Shape).Idx) :
    multiReductionI .add [0] ⟨3, ![H, R, C]⟩ (shapeCast ⟨4, ![T, H, R, C]⟩ x h1) 0#32 h2 h3 j
      = ∑ t ∈ Finset.range T, g t (j 0).val (j 1).val (j 2).val := by
  rw [multiReductionI_eq_reduceFold]
  refine (reduceFold_add_eq_sum h2 _ _ j).trans ?_
  rw [Shape.Reduces.sum_filter_drop_single, ← Fin.sum_univ_eq_sum_range (fun t => g t (j 0).val (j 1).val (j 2).val)]
  refine (zero_add _).trans (Finset.sum_congr rfl fun t _ => ?_)
  rw [shapeCast_apply _ _ _ (h2.lift j t) rfl, hx]
  rfl

/-- Words that stand for naturals add up to the word of the sum. -/
theorem sum_ofNat (s : Finset ℕ) (f : ℕ → ℕ) : ∑ n ∈ s, BitVec.ofNat 32 (f n) = BitVec.ofNat 32 (∑ n ∈ s, f n) := by
  induction s using Finset.induction_on with
  | empty => rfl
  | insert a s h ih => rw [Finset.sum_insert h, Finset.sum_insert h, ih, BitVec.ofNat_add]

/-- A sum of flags is the word of their number. -/
theorem sum_flags (n : ℕ) (p : ℕ → Prop) [DecidablePred p] :
    ∑ k ∈ Finset.range n, (if p k then 1#32 else 0#32) = BitVec.ofNat 32 (Nat.count p n) := by
  rw [Nat.count_eq_card_filter_range, Finset.card_filter, ← sum_ofNat]
  exact Finset.sum_congr rfl fun k _ => by split <;> rfl

/-- A sum of which one term is kept. -/
theorem sum_pick (n k : ℕ) (hk : k < n) (f : ℕ → BitVec 32) :
    ∑ i ∈ Finset.range n, (if i = k then f i else 0#32) = f k := by
  have := Finset.sum_ite_eq' (Finset.range n) k f
  rw [if_pos (Finset.mem_range.mpr hk)] at this
  exact this

end Cert.Proof

end
-- ==== Proof.Ranks.lean ====
/-
  What the kernels read off an array of running counts: how many of them are no more than a rank, and the one element
  whose number is given; and the lanes of a row.
-/
module

public import proofs.«01_k».proof.Proof.Totals

@[expose] public section

namespace Cert.Proof

open Idealize.ShloMosaic

theorem toNat_ofNat_of_lt {n : ℕ} (h : n < 2 ^ 32) : (BitVec.ofNat 32 n).toNat = n := by
  rw [BitVec.toNat_ofNat]; exact Nat.mod_eq_of_lt h

theorem sle_ofNat {a b : ℕ} (ha : a < 2 ^ 31) (hb : b < 2 ^ 31) : (BitVec.ofNat 32 a).sle (BitVec.ofNat 32 b) = decide (a ≤ b) := by
  have e : ∀ n, n < 2 ^ 31 → (BitVec.ofNat 32 n).toInt = n := fun n hn => by
    rw [BitVec.toInt_eq_toNat_of_lt (by rw [toNat_ofNat_of_lt (by omega)]; omega), toNat_ofNat_of_lt (by omega)]
  rw [BitVec.sle_eq_decide, e a ha, e b hb]
  simp

theorem ofNat_inj {a b : ℕ} (ha : a < 2 ^ 32) (hb : b < 2 ^ 32) : BitVec.ofNat 32 a = BitVec.ofNat 32 b ↔ a = b :=
  ⟨fun h => by rw [← toNat_ofNat_of_lt ha, h, toNat_ofNat_of_lt hb], fun h => by rw [h]⟩

theorem eq_flag {a b : ℕ} (ha : a < 2 ^ 32) (hb : b < 2 ^ 32) : BitVec.ofBool (BitVec.ofNat 32 a == BitVec.ofNat 32 b) = 1#1 ↔ a = b := by
  rw [← ofNat_inj ha hb]
  by_cases h : BitVec.ofNat 32 a = BitVec.ofNat 32 b
  · rw [beq_iff_eq.mpr h]; exact iff_of_true rfl h
  · rw [beq_eq_false_iff_ne.mpr h]; exact iff_of_false (by decide) h

/-- How many of the running counts are no more than a rank, as the kernels count them. -/
theorem rank_total {R : ℕ} (x : IVec ⟨2, ![R, 128]⟩ 32) (C : ℕ → ℕ) (hx : ∀ j, x j = BitVec.ofNat 32 (C (128 * (j 0).val + (j 1).val)))
    (hC : ∀ b, C b < 2 ^ 31) (i : ℕ) (hi : i < 2 ^ 31) {h0 : 1 < 32}
    {h1 : (⟨2, ![R, 128]⟩ : Shape).ShapeCasts ⟨3, ![1, R, 128]⟩} {h2 : (⟨3, ![1, R, 128]⟩ : Shape).Reduces [1, 2] ⟨1, ![1]⟩}
    {h3 : (0#32 : BitVec 32) = IKind.add.neutral} {h4 : (⟨1, ![1]⟩ : Shape).ShapeCasts ⟨3, ![1, 1, 1]⟩}
    {h5 : ∀ a, (![0, 0, 0] : Fin 3 → ℕ) a < (⟨3, ![1, 1, 1]⟩ : Shape).size a} :
    extractAt ![0, 0, 0] (shapeCast ⟨3, ![1, 1, 1]⟩ (multiReductionI .add [1, 2] ⟨1, ![1]⟩ (shapeCast ⟨3, ![1, R, 128]⟩
        (extui 32 (cmpi .sle x (broadcast ⟨2, ![R, 128]⟩ (BitVec.ofNat 32 i))) h0) h1) 0#32 h2 h3) h4) h5
      = BitVec.ofNat 32 (Nat.count (fun b => C b ≤ i) (R * 128)) := by
  rw [total_eq _ (fun b => if C b ≤ i then 1#32 else 0#32), sum_flags]
  intro j
  show (BitVec.ofBool ((x j).sle (BitVec.ofNat 32 i))).setWidth 32 = _
  rw [hx, sle_ofNat (hC _) hi, Nat.mul_comm 128]
  by_cases h : C ((j 0).val * 128 + (j 1).val) ≤ i
  · rw [if_pos h, decide_eq_true h]; rfl
  · rw [if_neg h, decide_eq_false h]; rfl

/-- The element whose number is given, as the kernels pick it: everything else set to zero and the rest added up. -/
theorem pick_total {R C : ℕ} (hR : R * C ≤ 2 ^ 32) (id y : IVec ⟨2, ![R, C]⟩ 32) (g : ℕ → BitVec 32)
    (hid : ∀ j, id j = BitVec.ofNat 32 ((j 0).val * C + (j 1).val)) (hy : ∀ j, y j = g ((j 0).val * C + (j 1).val)) (p : ℕ) (hp : p < R * C)
    {h1 : (⟨2, ![R, C]⟩ : Shape).ShapeCasts ⟨3, ![1, R, C]⟩} {h2 : (⟨3, ![1, R, C]⟩ : Shape).Reduces [1, 2] ⟨1, ![1]⟩}
    {h3 : (0#32 : BitVec 32) = IKind.add.neutral} {h4 : (⟨1, ![1]⟩ : Shape).ShapeCasts ⟨3, ![1, 1, 1]⟩}
    {h5 : ∀ a, (![0, 0, 0] : Fin 3 → ℕ) a < (⟨3, ![1, 1, 1]⟩ : Shape).size a} :
    extractAt ![0, 0, 0] (shapeCast ⟨3, ![1, 1, 1]⟩ (multiReductionI .add [1, 2] ⟨1, ![1]⟩ (shapeCast ⟨3, ![1, R, C]⟩
        (select (cmpi .eq id (broadcast ⟨2, ![R, C]⟩ (BitVec.ofNat 32 p))) y (broadcast ⟨2, ![R, C]⟩ 0#32)) h1) 0#32 h2 h3) h4) h5 = g p := by
  rw [total_eq _ (fun n => if n = p then g n else if n < R * C then 0#32 else 0#32)]
  · rw [← sum_pick (R * C) p hp g]
    exact Finset.sum_congr rfl fun n _ => by split <;> simp
  intro j
  have h0 : (j 0).val < R := (j 0).isLt
  have h1 : (j 1).val < C := (j 1).isLt
  have hb : (j 0).val * C + (j 1).val < R * C := by
    have : ((j 0).val + 1) * C ≤ R * C := Nat.mul_le_mul_right _ h0
    rw [Nat.succ_mul] at this
    omega
  show (if BitVec.ofBool (id j == BitVec.ofNat 32 p) = 1#1 then y j else 0#32) = _
  rw [hid, hy]
  by_cases h : (j 0).val * C + (j 1).val = p
  · rw [if_pos h, if_pos ((eq_flag (by omega) (by omega)).mpr h)]
  · rw [if_neg h, if_pos hb, if_neg (mt (eq_flag (by omega) (by omega)).mp h)]

/-- A row of 128 lanes as a function of the lane's number. -/
def lane {α : Type} (d : α) (y : (⟨2, ![1, 128]⟩ : Shape).Idx → α) (n : ℕ) : α :=
  if h : n < 128 then y (at2 0 n (by omega) h) else d

theorem lane_eq {α : Type} (d : α) (y : (⟨2, ![1, 128]⟩ : Shape).Idx → α) (j : (⟨2, ![1, 128]⟩ : Shape).Idx) :
    y j = lane d y ((j 0).val * 128 + (j 1).val) := by
  have h0 : (j 0).val < 1 := (j 0).isLt
  have h1 : (j 1).val < 128 := (j 1).isLt
  unfold lane
  rw [dif_pos (by omega)]
  congr 1
  funext a
  fin_cases a
  · exact Fin.ext (show (j 0).val = 0 by omega)
  · exact Fin.ext (show (j 1).val = (j 0).val * 128 + (j 1).val by omega)

theorem lanes_eq {h : (⟨2, ![1, 128]⟩ : Shape).Iotas .tc 32 [1]} (j : (⟨2, ![1, 128]⟩ : Shape).Idx) :
    iota .tc ⟨2, ![1, 128]⟩ 32 [1] h j = BitVec.ofNat 32 ((j 0).val * 128 + (j 1).val) := by
  have h0 : (j 0).val < 1 := (j 0).isLt
  show BitVec.ofNat 32 (0 * 128 + (j 1).val) = _
  congr 1
  omega

/-- A lane of a row of floats, as the second TensorCore kernel picks it, in the extended reals. -/
theorem pick_lane (y : (⟨2, ![1, 128]⟩ : Shape).Idx → Ideal .f32) (p : ℕ) (hp : p < 128) {h : (⟨2, ![1, 128]⟩ : Shape).Iotas .tc 32 [1]}
    {h1 : (⟨2, ![1, 128]⟩ : Shape).ShapeCasts ⟨3, ![1, 1, 128]⟩} {h2 : (⟨3, ![1, 1, 128]⟩ : Shape).Reduces [1, 2] ⟨1, ![1]⟩}
    {h3 : FKind.Formats .f32} {h3' : (0x00000000#32 : BitVec 32) = FKind.add.neutral .f32 h3} {h4 : (⟨1, ![1]⟩ : Shape).ShapeCasts ⟨3, ![1, 1, 1]⟩}
    {h5 : ∀ a, (![0, 0, 0] : Fin 3 → ℕ) a < (⟨3, ![1, 1, 1]⟩ : Shape).size a} :
    extractAt ![0, 0, 0] (shapeCast ⟨3, ![1, 1, 1]⟩ (multiReduction (F := Ideal) (φ := .f32) .add [1, 2] ⟨1, ![1]⟩ (shapeCast ⟨3, ![1, 1, 128]⟩
        (select (cmpi .eq (iota .tc ⟨2, ![1, 128]⟩ 32 [1] h) (broadcast ⟨2, ![1, 128]⟩ (BitVec.ofNat 32 p))) y
          (broadcast ⟨2, ![1, 128]⟩ (Scalar.ofBits (F := Ideal) .f32 0x00000000#32))) h1) 0x00000000#32 h2 h3 h3') h4) h5
      = y (at2 0 p (by omega) hp) := by
  have hz : Scalar.ofBits (F := Ideal) .f32 0x00000000#32 = (0 : EReal) := Ideal.ofBits_zero_f32
  unfold extractAt
  have hr : ∀ j, multiReduction (F := Ideal) (φ := .f32) .add [1, 2] ⟨1, ![1]⟩ (shapeCast ⟨3, ![1, 1, 128]⟩
        (select (cmpi .eq (iota .tc ⟨2, ![1, 128]⟩ 32 [1] h) (broadcast ⟨2, ![1, 128]⟩ (BitVec.ofNat 32 p))) y
          (broadcast ⟨2, ![1, 128]⟩ (Scalar.ofBits (F := Ideal) .f32 0x00000000#32))) h1) 0x00000000#32 h2 h3 h3' j
      = y (at2 0 p (by omega) hp) := fun j => by
    show Ideal.reduceAdd h2 _ j = _
    rw [Ideal.reduceAdd_total h2 (fun b => by fin_cases b; rfl), sum_shapeCast,
      sum_idx2 _ (fun n => if n = p then lane (0 : EReal) y n else 0), Finset.sum_ite_eq', if_pos (Finset.mem_range.mpr (by omega))]
    · unfold lane; rw [dif_pos hp]
    intro j
    show (if BitVec.ofBool (iota .tc ⟨2, ![1, 128]⟩ 32 [1] h j == BitVec.ofNat 32 p) = 1#1 then y j else Scalar.ofBits (F := Ideal) .f32 0x00000000#32) = _
    rw [hz, lanes_eq, lane_eq (0 : EReal) y j]
    have h0 : (j 0).val < 1 := (j 0).isLt
    have h1 : (j 1).val < 128 := (j 1).isLt
    by_cases e : (j 0).val * 128 + (j 1).val = p
    · rw [if_pos e, if_pos ((eq_flag (by omega) (by omega)).mpr e)]
    · rw [if_neg e, if_neg (mt (eq_flag (by omega) (by omega)).mp e)]
  exact hr _

end Cert.Proof

end
-- ==== Proof.Select.lean ====
/-
  Selection by counting, on natural numbers: the value of a rank read off running counts, and the two rounds of it (the
  upper digits first, then the lower digits among the entries that share an upper digit with one of two ranks) put
  together.
-/
module

public import proofs.«01_k».proof.Proof.Counting
public import Mathlib.Algebra.BigOperators.Group.Finset.Basic

@[expose] public section

namespace Cert.Proof

/-- `v` is the value of rank `i` among the entries below `N` that `P` counts: at most `i` of them are less, and more than
    `i` of them are no greater. -/
def Stat (N : ℕ) (P : ℕ → Prop) [DecidablePred P] (G : ℕ → ℕ) (i v : ℕ) : Prop :=
  Nat.count (fun n => P n ∧ G n < v) N ≤ i ∧ i < Nat.count (fun n => P n ∧ G n ≤ v) N

theorem count_congr {p q : ℕ → Prop} [DecidablePred p] [DecidablePred q] (N : ℕ) (h : ∀ n < N, (p n ↔ q n)) :
    Nat.count p N = Nat.count q N := by
  rw [Nat.count_eq_card_filter_range, Nat.count_eq_card_filter_range]
  exact congrArg Finset.card (Finset.filter_congr fun n hn => h n (Finset.mem_range.mp hn))

theorem count_le_of {p q : ℕ → Prop} [DecidablePred p] [DecidablePred q] (N : ℕ) (h : ∀ n < N, p n → q n) :
    Nat.count p N ≤ Nat.count q N := by
  rw [Nat.count_eq_card_filter_range, Nat.count_eq_card_filter_range]
  refine Finset.card_le_card fun n hn => ?_
  rw [Finset.mem_filter] at hn ⊢
  exact ⟨hn.1, h n (Finset.mem_range.mp hn.1) hn.2⟩

/-- Two kinds of entries, no entry of both. -/
theorem count_split {p q r : ℕ → Prop} [DecidablePred p] [DecidablePred q] [DecidablePred r] (N : ℕ)
    (h : ∀ n < N, (r n ↔ p n ∨ q n)) (hd : ∀ n < N, ¬(p n ∧ q n)) : Nat.count r N = Nat.count p N + Nat.count q N := by
  induction N with
  | zero => simp
  | succ N ih =>
    rw [Nat.count_succ, Nat.count_succ, Nat.count_succ, ih (fun n hn => h n (by omega)) (fun n hn => hd n (by omega))]
    have h1 := h N (by omega)
    have h2 := hd N (by omega)
    by_cases hp : p N
    · have hq : ¬q N := fun hq => h2 ⟨hp, hq⟩
      rw [if_pos (h1.mpr (.inl hp)), if_pos hp, if_neg hq]; omega
    · by_cases hq : q N
      · rw [if_pos (h1.mpr (.inr hq)), if_neg hp, if_pos hq]; omega
      · rw [if_neg (fun hr => (h1.mp hr).elim hp hq), if_neg hp, if_neg hq]; omega

/-- Where fewer entries satisfy `p` than `q`, and `p` implies `q`, some entry satisfies `q` alone. -/
theorem exists_of_count_lt {p q : ℕ → Prop} [DecidablePred p] [DecidablePred q] (N : ℕ) (h : Nat.count p N < Nat.count q N) :
    ∃ n < N, q n ∧ ¬p n := by
  by_contra hn
  exact absurd h (not_lt.mpr (count_le_of N fun n h' hq => not_not.mp fun hp => hn ⟨n, h', hq, hp⟩))

/-- How many of the bins before `B` hold, in running count, no more than `i`: a property that holds of a bin holds of
    those before it, and so their number marks the first bin that lacks it. -/
theorem lt_count_iff {Q : ℕ → Prop} [DecidablePred Q] (hQ : ∀ a b, a ≤ b → Q b → Q a) (B b : ℕ) (hb : b < B) :
    b < Nat.count Q B ↔ Q b := by
  rw [Nat.count_eq_card_filter_range]
  constructor
  · intro h
    by_contra hn
    refine absurd h (not_lt.mpr ?_)
    have hs : (Finset.range B).filter Q ⊆ Finset.range b := fun x hx => by
      rw [Finset.mem_filter] at hx
      rw [Finset.mem_range]
      by_contra hxb
      exact hn (hQ b x (by omega) hx.2)
    simpa using Finset.card_le_card hs
  · intro h
    have hs : Finset.range (b + 1) ⊆ (Finset.range B).filter Q := fun x hx => by
      have hx' := Finset.mem_range.mp hx
      rw [Finset.mem_filter, Finset.mem_range]
      exact ⟨by omega, hQ x b (by omega) h⟩
    refine lt_of_lt_of_le (Nat.lt_succ_self b) ?_
    simpa using Finset.card_le_card hs

/-- THE BIN OF A RANK: the number of bins whose running count is no more than the rank. -/
theorem stat_of_bins (N B : ℕ) (P : ℕ → Prop) [DecidablePred P] (G : ℕ → ℕ) (i : ℕ) (hG : ∀ n < N, G n < B) (hi : i < Nat.count P N) :
    Stat N P G i (Nat.count (fun b => Nat.count (fun n => P n ∧ G n < b + 1) N ≤ i) B)
      ∧ Nat.count (fun b => Nat.count (fun n => P n ∧ G n < b + 1) N ≤ i) B < B := by
  have hQ : ∀ a b, a ≤ b → Nat.count (fun n => P n ∧ G n < b + 1) N ≤ i → Nat.count (fun n => P n ∧ G n < a + 1) N ≤ i :=
    fun a b hab h => (count_le_of N fun n _ hn => ⟨hn.1, by omega⟩).trans h
  have key := lt_count_iff hQ B
  have hle : Nat.count (fun b => Nat.count (fun n => P n ∧ G n < b + 1) N ≤ i) B ≤ B := Nat.count_le _
  generalize Nat.count (fun b => Nat.count (fun n => P n ∧ G n < b + 1) N ≤ i) B = v at key hle ⊢
  have hB : 0 < B := by
    rcases Nat.eq_zero_or_pos N with rfl | hN
    · simp at hi
    · have := hG 0 hN; omega
  have hlast : ¬ B - 1 < v := by
    rw [key (B - 1) (by omega), not_le]
    refine lt_of_lt_of_le hi (count_le_of N fun n hn hp => ⟨hp, ?_⟩)
    have := hG n hn
    omega
  have hv : v < B := by omega
  refine ⟨⟨?_, ?_⟩, hv⟩
  · rcases Nat.eq_zero_or_pos v with rfl | hpos
    · have : Nat.count (fun n => P n ∧ G n < 0) N = 0 := by
        have := count_le_of (p := fun n => P n ∧ G n < 0) (q := fun _ => False) N fun n _ h => by beta_reduce at h; omega
        simpa using this
      omega
    · have := (key (v - 1) (by omega)).mp (by omega)
      rwa [Nat.sub_add_cancel hpos] at this
  · have := (not_congr (key v hv)).mp (lt_irrefl v)
    rw [not_le] at this
    exact lt_of_lt_of_le this (count_le_of N fun n _ h => ⟨h.1, by omega⟩)

section Rounds

variable {N : ℕ} {hi low : ℕ → ℕ} {p0 p1 i : ℕ}

/-- The bin of the second round's entry: the lower digit, in the upper half where the upper digit is `p1`. -/
def bin2 (hi low : ℕ → ℕ) (p1 n : ℕ) : ℕ := if hi n = p1 then low n + 16384 else low n

theorem stat_mono {G : ℕ → ℕ} {i v w : ℕ} (h0 : Stat N (fun _ => True) G i v) (h1 : Stat N (fun _ => True) G (i + 1) w) : v ≤ w := by
  by_contra hlt
  have := count_le_of (p := fun n => True ∧ G n ≤ w) (q := fun n => True ∧ G n < v) N fun n _ h => ⟨trivial, by beta_reduce at h; omega⟩
  have a : Nat.count (fun n => True ∧ G n < v) N ≤ i := h0.1
  have b : i + 1 < Nat.count (fun n => True ∧ G n ≤ w) N := h1.2
  omega

/-- No entry lies strictly between the values of two ranks in succession. -/
theorem stat_gap (h0 : Stat N (fun _ => True) hi i p0) (h1 : Stat N (fun _ => True) hi (i + 1) p1) (n : ℕ) (hn : n < N) :
    ¬(p0 < hi n ∧ hi n < p1) := by
  rintro ⟨ha, hb⟩
  have hs := count_split (p := fun n => True ∧ hi n ≤ p0) (q := fun n => p0 < hi n ∧ hi n < p1) (r := fun n => True ∧ hi n < p1) N
    (fun k _ => by simp only [true_and]; omega) (fun k _ => by simp only [true_and]; omega)
  have hpos : 0 < Nat.count (fun n => p0 < hi n ∧ hi n < p1) N := by
    rw [Nat.count_eq_card_filter_range]
    exact Finset.card_pos.mpr ⟨n, Finset.mem_filter.mpr ⟨Finset.mem_range.mpr hn, ha, hb⟩⟩
  have a : i < Nat.count (fun n => True ∧ hi n ≤ p0) N := h0.2
  have b : Nat.count (fun n => True ∧ hi n < p1) N ≤ i + 1 := h1.1
  omega

/-- Every rank of the two lies among the entries of the two upper digits. -/
theorem rank_lt (h0 : Stat N (fun _ => True) hi i p0) (h1 : Stat N (fun _ => True) hi (i + 1) p1) (j : ℕ) (hj : j ≤ i + 1) (hij : i ≤ j) :
    j - Nat.count (fun n => True ∧ hi n < p0) N < Nat.count (fun n => hi n = p0 ∨ hi n = p1) N := by
  have hm := stat_mono h0 h1
  have hs := count_split (p := fun n => True ∧ hi n < p0) (q := fun n => hi n = p0 ∨ hi n = p1) (r := fun n => True ∧ hi n ≤ p1) N
    (fun k hk => by have := stat_gap h0 h1 k hk; simp only [true_and]; omega) (fun k _ => by simp only [true_and]; omega)
  have a : Nat.count (fun n => True ∧ hi n < p0) N ≤ i := h0.1
  have b : i + 1 < Nat.count (fun n => True ∧ hi n ≤ p1) N := h1.2
  omega

/-- THE TWO ROUNDS TOGETHER: the value whose upper digit is `p1` or `p0` as the bin lies in the upper half or not, and
    whose lower digit is the bin's, is the value of the rank among all entries by both digits. -/
theorem stat_both (hlow : ∀ n, low n < 16384) (h0 : Stat N (fun _ => True) hi i p0) (h1 : Stat N (fun _ => True) hi (i + 1) p1)
    (j : ℕ) (hij : i ≤ j) (B : ℕ)
    (hB : Stat N (fun n => hi n = p0 ∨ hi n = p1) (bin2 hi low p1) (j - Nat.count (fun n => True ∧ hi n < p0) N) B) :
    Stat N (fun _ => True) (fun n => hi n * 16384 + low n) j ((if B / 16384 = 1 then p1 else p0) * 16384 + B % 16384) := by
  have hm := stat_mono h0 h1
  obtain ⟨n0, hn0, ⟨hp, hle⟩, hlt⟩ := exists_of_count_lt N (lt_of_le_of_lt hB.1 hB.2)
  have hb : bin2 hi low p1 n0 = B := by
    have : ¬ bin2 hi low p1 n0 < B := fun h => hlt ⟨hp, h⟩
    omega
  have hl0 := hlow n0
  have hD : (if B / 16384 = 1 then p1 else p0) * 16384 + B % 16384 = hi n0 * 16384 + low n0 := by
    unfold bin2 at hb
    split at hb
    · next e => rw [if_pos (by omega), ← hb, ← e]; omega
    · next e =>
      have : hi n0 = p0 := hp.resolve_right e
      rw [if_neg (by omega), this]; omega
  rw [hD]
  have hbelow : Nat.count (fun n => True ∧ hi n < p0) N ≤ i := h0.1
  have e1 := count_split (p := fun n => True ∧ hi n < p0) (q := fun n => (hi n = p0 ∨ hi n = p1) ∧ bin2 hi low p1 n < B)
    (r := fun n => True ∧ hi n * 16384 + low n < hi n0 * 16384 + low n0) N
    (fun k hk => by
      have hk1 := hlow k
      have hk2 := stat_gap h0 h1 k hk
      simp only [true_and]
      unfold bin2 at hb ⊢
      split at hb <;> split <;> omega)
    (fun k _ => by simp only [true_and]; omega)
  have e2 := count_split (p := fun n => True ∧ hi n < p0) (q := fun n => (hi n = p0 ∨ hi n = p1) ∧ bin2 hi low p1 n ≤ B)
    (r := fun n => True ∧ hi n * 16384 + low n ≤ hi n0 * 16384 + low n0) N
    (fun k hk => by
      have hk1 := hlow k
      have hk2 := stat_gap h0 h1 k hk
      simp only [true_and]
      unfold bin2 at hb ⊢
      split at hb <;> split <;> omega)
    (fun k _ => by simp only [true_and]; omega)
  have a : Nat.count (fun n => (hi n = p0 ∨ hi n = p1) ∧ bin2 hi low p1 n < B) N ≤ _ := hB.1
  have b : _ < Nat.count (fun n => (hi n = p0 ∨ hi n = p1) ∧ bin2 hi low p1 n ≤ B) N := hB.2
  exact ⟨e1.trans_le (by omega), lt_of_lt_of_eq (by omega) e2.symm⟩

end Rounds

/-- The tallies of the bins below `B`, added up. -/
theorem sum_tally (p : ℕ → Bool) (g : ℕ → ℕ) (N B : ℕ) :
    ∑ b ∈ Finset.range B, tally p g N b = Nat.count (fun n => p n = true ∧ g n < B) N := by
  induction B with
  | zero =>
    have := count_le_of (p := fun n => p n = true ∧ g n < 0) (q := fun _ => False) N fun n _ h => by beta_reduce at h; omega
    simpa using this.symm
  | succ B ih =>
    rw [Finset.sum_range_succ, ih]
    exact (count_split N (fun n _ => by constructor
                                        · rintro ⟨a, b⟩
                                          rcases Nat.lt_or_ge (g n) B with h | h
                                          · exact .inl ⟨a, h⟩
                                          · exact .inr ⟨a, by omega⟩
                                        · rintro (⟨a, b⟩ | ⟨a, b⟩)
                                          · exact ⟨a, by omega⟩
                                          · exact ⟨a, by omega⟩) (fun n _ => by omega)).symm

/-- The tallies of `T` stretches of `S` entries, added up. -/
theorem tally_stretches (p : ℕ → Bool) (g : ℕ → ℕ) (S b T : ℕ) :
    ∑ t ∈ Finset.range T, tally (fun n => p (t * S + n)) (fun n => g (t * S + n)) S b = tally p g (T * S) b := by
  induction T with
  | zero => simp [tally]
  | succ T ih => rw [Finset.sum_range_succ, ih, Nat.succ_mul, tally_add]

end Cert.Proof

end
-- ==== Proof.TC1Value.lean ====
/-
  What the first TensorCore kernel computes, as counts: the running sums of the thirty-two histograms added up, the
  buckets of the four ranks, and how many words lie below two of them.
-/
module

public import proofs.«01_k».proof.Proof.TC1
public import proofs.«01_k».proof.Proof.Ranks
public import proofs.«01_k».proof.Proof.Select

@[expose] public section

noncomputable section

namespace Cert.Proof.TC1

open Cert.KernelIdeal Cert.KernelIdeal.Gen

open Idealize.ShloMosaic

/-- A choice by the lane. -/
theorem lane_select {α : Type} (j : S1x128.Idx) (k : ℕ) (hk : k < 128) (a b : α) :
    Scalar.select (IntOp.cmpi .eq (iota .tc S1x128 32 [1] iota_S1x128_d1_w32 j) (BitVec.ofNat 32 k)) a b = if (j 1).val = k then a else b := by
  have h0 : (j 0).val < 1 := (j 0).isLt
  have h1 : (j 1).val < 128 := (j 1).isLt
  rw [lanes_eq]
  have e : (j 0).val * 128 + (j 1).val = (j 1).val := by omega
  rw [e]
  show (if BitVec.ofBool (BitVec.ofNat 32 (j 1).val == BitVec.ofNat 32 k) = 1#1 then a else b) = _
  by_cases h : (j 1).val = k
  · rw [if_pos h, if_pos ((eq_flag (by omega) (by omega)).mpr h)]
  · rw [if_neg h, if_neg (mt (eq_flag (by omega) (by omega)).mp h)]

/-- A row of three scalars. -/
theorem sel3_lane (a0 a1 a2 : BitVec 32) (j : S1x128.Idx) :
    select (cmpi .eq (iota .tc S1x128 32 [1] iota_S1x128_d1_w32) (broadcast S1x128 2#32)) (broadcast S1x128 a2)
      (select (cmpi .eq (iota .tc S1x128 32 [1] iota_S1x128_d1_w32) (broadcast S1x128 1#32)) (broadcast S1x128 a1)
      (select (cmpi .eq (iota .tc S1x128 32 [1] iota_S1x128_d1_w32) (broadcast S1x128 0#32)) (broadcast S1x128 a0) (broadcast S1x128 0#32))) j =
      if (j 1).val = 2 then a2 else if (j 1).val = 1 then a1 else if (j 1).val = 0 then a0 else 0#32 := by
  rw [← lane_select j 2 (by decide), ← lane_select j 1 (by decide), ← lane_select j 0 (by decide)]
  rfl

/-- The row of six scalars. -/
theorem pay1_lane (a0 a1 a2 a3 a4 a5 : BitVec 32) (w : IVec S1x128 32) (j : S1x128.Idx) :
    k1_pay1 a3 a4 a5 (iota .tc S1x128 32 [1] iota_S1x128_d1_w32) w k1_pay15 j =
      if (j 1).val = 5 then a5 else if (j 1).val = 4 then a4 else if (j 1).val = 3 then a3 else w j := by
  rw [← lane_select j 5 (by decide), ← lane_select j 4 (by decide), ← lane_select j 3 (by decide)]
  rfl

variable {F : FTy → Type} [FloatOps F] (v0 : Vec F S32x512x128 .i32)

section Sums

variable (h : ℕ → BitVec 32)

/-- The running sums along each row of 128. -/
theorem rows_eq (hh : ∀ j, k1_pay2 (F := F) v0 j = h (128 * (j 0).val + (j 1).val)) (j : S512x128.Idx) :
    k1_pay3 (F := F) v0 j = win 128 (fun c => h (128 * (j 0).val + c)) (j 1).val := by
  unfold k1_pay3
  exact colStep (k := 64) (m := 64) (f := fun r c => h (128 * r + c)) rfl rfl
    (colStep (k := 32) (m := 96) (f := fun r c => h (128 * r + c)) rfl rfl
    (colStep (k := 16) (m := 112) (f := fun r c => h (128 * r + c)) rfl rfl
    (colStep (k := 8) (m := 120) (f := fun r c => h (128 * r + c)) rfl rfl
    (colStep (k := 4) (m := 124) (f := fun r c => h (128 * r + c)) rfl rfl
    (colStep (k := 2) (m := 126) (f := fun r c => h (128 * r + c)) rfl rfl
    (colStep (k := 1) (m := 127) (f := fun r c => h (128 * r + c)) rfl rfl
      (fun j => (hh j).trans (win_one _ _).symm))))))) j

/-- The sums of whole rows. -/
theorem last_eq (hh : ∀ j, k1_pay2 (F := F) v0 j = h (128 * (j 0).val + (j 1).val)) (j : S512x1.Idx) :
    k1_pay4 (F := F) v0 j = ∑ c ∈ Finset.range 128, h (128 * (j 0).val + c) := by
  unfold k1_pay4 extractStridedSlice
  have h1 : (j 1).val < 1 := (j 1).isLt
  refine (rows_eq v0 h hh _).trans ?_
  have e1 : 127 + (j 1).val = 127 := by omega
  show win 128 (fun c => h (128 * (0 + (j 0).val) + c)) (127 + (j 1).val) = _
  rw [e1, Nat.zero_add]
  exact win_full 128 _ 127 (by decide)

/-- The running sums. -/
theorem cum_apply (hh : ∀ j, k1_pay2 (F := F) v0 j = h (128 * (j 0).val + (j 1).val)) (j : S512x128.Idx) :
    cum v0 j = ∑ b ∈ Finset.range (128 * (j 0).val + (j 1).val + 1), h b := by
  unfold cum k1_pay7
  refine cum_eq h (rows_eq v0 h hh) (last_eq v0 h hh) (fun j => ?_) j
  refine Eq.trans ?_ (win_full 512 (fun r => ∑ c ∈ Finset.range 128, h (128 * r + c)) (j 0).val (j 0).isLt)
  unfold k1_pay5
  exact rowStep (k := 256) (m := 256) rfl rfl
    (rowStep (k := 128) (m := 384) rfl rfl
    (rowStep (k := 64) (m := 448) rfl rfl
    (rowStep (k := 32) (m := 480) rfl rfl
    (rowStep (k := 16) (m := 496) rfl rfl
    (rowStep (k := 8) (m := 504) rfl rfl
    (rowStep (k := 4) (m := 508) rfl rfl
    (rowStep (k := 2) (m := 510) rfl rfl
    (rowStep (k := 1) (m := 511) rfl rfl
      (fun j => (last_eq v0 h hh j).trans (win_one (fun r => ∑ c ∈ Finset.range 128, h (128 * r + c)) _).symm))))))))) j

end Sums

/-! ## As counts of the words -/

/-- How many words there are. -/
abbrev NW : ℕ := 32 * 524288

/-- How many words have an upper half below `b`. -/
def below (x : SX.Idx → BitVec 32) (b : ℕ) : ℕ := Nat.count (fun n => True ∧ binHi (flat x) n < b) NW

theorem below_le (x : SX.Idx → BitVec 32) (b : ℕ) : below x b ≤ NW := Nat.count_le _

/-- The upper half of the word of rank `i`. -/
def bucket (x : SX.Idx → BitVec 32) (i : ℕ) : ℕ := Nat.count (fun b => below x (b + 1) ≤ i) (512 * 128)

variable (x : SX.Idx → BitVec 32)

theorem bucket_stat (i : ℕ) (hi : i < NW) : Stat NW (fun _ => True) (binHi (flat x)) i (bucket x i) ∧ bucket x i < 65536 := by
  refine stat_of_bins NW (512 * 128) (fun _ => True) (binHi (flat x)) i (fun n _ => binHi_lt _ n) ?_
  rw [Nat.count_true]; exact hi

/-- The row of six scalars that the second round goes by. -/
def rowVal (n : ℕ) : BitVec 32 :=
  if n = 5 then 15938354#32 - BitVec.ofNat 32 (below x (bucket x 15938354))
  else if n = 4 then 838860#32 - BitVec.ofNat 32 (below x (bucket x 838860))
  else if n = 3 then BitVec.ofNat 32 (bucket x 15938355)
  else if n = 2 then BitVec.ofNat 32 (bucket x 15938354)
  else if n = 1 then BitVec.ofNat 32 (bucket x 838861)
  else if n = 0 then BitVec.ofNat 32 (bucket x 838860) else 0#32

theorem below_succ (b : ℕ) : below x (b + 1) = below x b + tally always (binHi (flat x)) NW b := by
  unfold below tally
  exact count_split NW (fun n _ => by simp only [true_and, always]; omega) (fun n _ => by simp only [true_and, always]; omega)

theorem sum_below (B : ℕ) : ∑ b ∈ Finset.range B, tally always (binHi (flat x)) NW b = below x B := by
  rw [sum_tally]
  exact count_congr NW fun n _ => by simp only [always, true_and]

theorem sum_tiles (b : ℕ) : ∑ t ∈ Finset.range 32, tally always (binHi (tileStream x t)) 524288 b = tally always (binHi (flat x)) NW b := by
  have e : ∀ t, binHi (tileStream x t) = fun n => binHi (flat x) (t * 524288 + n) := fun _ => rfl
  simp only [e]
  exact tally_stretches always (binHi (flat x)) 524288 b 32

variable {x} (hv0 : ∀ j, v0 j = BitVec.ofNat 32 (tally always (binHi (tileStream x (j 0).val)) 524288 (128 * (j 1).val + (j 2).val)))

include hv0

/-- The histograms added up: how many words of all have each upper half. -/
theorem hs_apply (j : S512x128.Idx) : k1_pay2 (F := F) v0 j = BitVec.ofNat 32 (tally always (binHi (flat x)) NW (128 * (j 0).val + (j 1).val)) := by
  unfold k1_pay2
  refine (tiles_eq3 (T := 32) (R := 512) (C := 128) v0
    (fun t r c => BitVec.ofNat 32 (tally always (binHi (tileStream x t)) 524288 (128 * r + c))) hv0 j).trans ?_
  rw [sum_ofNat, sum_tiles]

theorem cum_count (j : S512x128.Idx) : cum v0 j = BitVec.ofNat 32 (below x (128 * (j 0).val + (j 1).val + 1)) := by
  rw [cum_apply v0 (fun b => BitVec.ofNat 32 (tally always (binHi (flat x)) NW b)) (hs_apply v0 hv0) j, sum_ofNat, sum_below]

theorem rank_eq (i : ℕ) (hi : i < 2 ^ 31) :
    extractAt ![0, 0, 0] (shapeCast S1x1x1 (multiReductionI .add [1, 2] S1 (shapeCast S1x512x128
        (extui 32 (cmpi .sle (cum v0) (broadcast S512x128 (BitVec.ofNat 32 i))) natLt_1_32) shapeCasts_S512x128_S1x512x128) 0#32
        reduces_S1x512x128_S1 rfl) shapeCasts_S1_S1x1x1) inpos_S1x1x1_p0_0_0 = BitVec.ofNat 32 (bucket x i) :=
  rank_total (R := 512) (cum v0) (fun b => below x (b + 1)) (cum_count v0 hv0) (fun b => lt_of_le_of_lt (below_le x _) (by decide)) i hi

theorem below_eq (p : ℕ) (hp : p < 65536) :
    extractAt ![0, 0, 0] (shapeCast S1x1x1 (multiReductionI .add [1, 2] S1 (shapeCast S1x512x128
        (select (cmpi .eq k1_pay8 (broadcast S512x128 (BitVec.ofNat 32 p))) (subi (cum v0) (k1_pay2 (F := F) v0)) (broadcast S512x128 0#32))
        shapeCasts_S512x128_S1x512x128) 0#32 reduces_S1x512x128_S1 rfl) shapeCasts_S1_S1x1x1) inpos_S1x1x1_p0_0_0 = BitVec.ofNat 32 (below x p) := by
  refine pick_total (R := 512) (C := 128) (by decide) k1_pay8 (subi (cum v0) (k1_pay2 (F := F) v0)) (fun b => BitVec.ofNat 32 (below x b)) (fun j => ?_)
    (fun j => ?_) p hp
  · show BitVec.ofNat 32 (0 * 512 + (j 0).val) * 128#32 + BitVec.ofNat 32 (0 * 128 + (j 1).val) = _
    simp only [Nat.zero_mul, Nat.zero_add]
    rw [BitVec.ofNat_add, BitVec.ofNat_mul]
  · show cum v0 j - k1_pay2 (F := F) v0 j = _
    rw [cum_count v0 hv0, hs_apply v0 hv0, below_succ, BitVec.ofNat_add, Nat.mul_comm]
    exact add_sub_cancel_right _ _

theorem p0lo_eq : p0lo v0 = BitVec.ofNat 32 (bucket x 838860) := rank_eq v0 hv0 838860 (by decide)
theorem p1hi_eq : p1hi v0 = BitVec.ofNat 32 (bucket x 15938355) := rank_eq v0 hv0 15938355 (by decide)

theorem belowLo_eq : belowLo v0 = BitVec.ofNat 32 (below x (bucket x 838860)) := by
  have h := below_eq v0 hv0 (bucket x 838860) (bucket_stat x 838860 (by decide)).2
  rw [← p0lo_eq v0 hv0] at h
  exact h

theorem belowHi_eq : belowHi v0 = BitVec.ofNat 32 (below x (bucket x 15938354)) := by
  have h := below_eq v0 hv0 (bucket x 15938354) (bucket_stat x 15938354 (by decide)).2
  rw [← rank_eq v0 hv0 15938354 (by decide)] at h
  exact h

/-- The kernel's row: the buckets of the two pairs of ranks, and the two lower ranks within their buckets. -/
theorem row_lane (j : S1x128.Idx) : row v0 j = rowVal x (j 1).val := by
  unfold rowVal
  rw [row, pay1_lane 0 0 0, p1hi_eq v0 hv0, belowHi_eq v0 hv0, belowLo_eq v0 hv0]
  have e : k1_pay14 (cum v0) (p0lo v0) k1_pay11 j = if (j 1).val = 2 then BitVec.ofNat 32 (bucket x 15938354)
      else if (j 1).val = 1 then BitVec.ofNat 32 (bucket x 838861)
      else if (j 1).val = 0 then BitVec.ofNat 32 (bucket x 838860) else 0#32 := by
    unfold k1_pay14 k1_pay11
    dsimp only
    rw [sel3_lane, p0lo_eq v0 hv0, rank_eq v0 hv0 838861 (by decide), rank_eq v0 hv0 15938354 (by decide)]
  rw [e]
  rfl

end Cert.Proof.TC1

end
-- ==== Proof.Bins.lean ====
/-
  The second round of the selection: the bins of the second pass's histograms, the entry of a rank read off them, and the
  key put together from the two rounds.
-/
module

public import proofs.«01_k».proof.Proof.TC1Value

@[expose] public section

noncomputable section

namespace Cert.Proof

open Cert.Proof.TC1

variable (x : SX.Idx → BitVec 32)

/-- The fourteen bits of a word's key below its upper half. -/
def lowNat (n : ℕ) : ℕ := (low14 (flat x n)).toNat

/-- The upper thirty bits of a word's key. -/
def keyNat (n : ℕ) : ℕ := binHi (flat x) n * 16384 + lowNat x n

theorem low14_lt (w : BitVec 32) : (low14 w).toNat < 16384 := by
  unfold low14
  rw [BitVec.toNat_and]; exact lt_of_le_of_lt Nat.and_le_right (by decide)

theorem lowNat_lt (n : ℕ) : lowNat x n < 16384 := low14_lt _

theorem eq_ofNat_iff {w : BitVec 32} {p : ℕ} (hp : p < 2 ^ 32) : w = BitVec.ofNat 32 p ↔ w.toNat = p :=
  ⟨fun h => by rw [h, toNat_ofNat_of_lt hp], fun h => BitVec.eq_of_toNat_eq (by rw [h, toNat_ofNat_of_lt hp])⟩

/-- Which words the second histogram counts, -/
theorem inPair_iff {p0 p1 : ℕ} (h0 : p0 < 65536) (h1 : p1 < 65536) (n : ℕ) :
    inPair (BitVec.ofNat 32 p0) (BitVec.ofNat 32 p1) (flat x) n = true ↔ binHi (flat x) n = p0 ∨ binHi (flat x) n = p1 := by
  unfold inPair binHi
  rw [Bool.or_eq_true, decide_eq_true_eq, decide_eq_true_eq, eq_ofNat_iff (by omega), eq_ofNat_iff (by omega)]

/-- and in which bin. -/
theorem binLow_eq {p1 : ℕ} (h1 : p1 < 65536) (n : ℕ) : binLow (BitVec.ofNat 32 p1) (flat x) n = bin2 (binHi (flat x)) (lowNat x) p1 n := by
  unfold binLow bin2
  have e : hi16 (flat x n) = BitVec.ofNat 32 p1 ↔ binHi (flat x) n = p1 := eq_ofNat_iff (by omega)
  by_cases h : binHi (flat x) n = p1
  · rw [if_pos h, if_pos (e.mpr h), BitVec.toNat_or]
    show (low14 (flat x n)).toNat ||| 16384 = lowNat x n + 16384
    have := Nat.two_pow_add_eq_or_of_lt (i := 14) (lowNat_lt x n) 1
    rw [Nat.or_comm, Nat.add_comm]
    exact this.symm
  · rw [if_neg h, if_neg (mt e.mp h)]
    rfl

/-- How many words of a pair of buckets lie in the bins before `b`. -/
def pairBelow (p0 p1 b : ℕ) : ℕ :=
  Nat.count (fun n => inPair (BitVec.ofNat 32 p0) (BitVec.ofNat 32 p1) (flat x) n = true ∧ binLow (BitVec.ofNat 32 p1) (flat x) n < b) NW

theorem pairBelow_le (p0 p1 b : ℕ) : pairBelow x p0 p1 b ≤ NW := Nat.count_le _

/-- The bin of the word of a rank within a pair of buckets. -/
def pairBin (p0 p1 i : ℕ) : ℕ := Nat.count (fun b => pairBelow x p0 p1 (b + 1) ≤ i) (256 * 128)

/-- A bin's place among all words. -/
def combine (p0 p1 B : ℕ) : ℕ := (if B / 16384 = 1 then p1 else p0) * 16384 + B % 16384

/-- The upper thirty bits of the key of rank `j`, where `j` is the rank `i` or the next one. -/
def entry (i j : ℕ) : ℕ := combine (bucket x i) (bucket x (i + 1)) (pairBin x (bucket x i) (bucket x (i + 1)) (j - below x (bucket x i)))

theorem below_bucket_le (i : ℕ) (hi : i < NW) : below x (bucket x i) ≤ i := (bucket_stat x i hi).1.1

theorem entry_stat (i j : ℕ) (hi : i + 1 < NW) (hij : i ≤ j) (hj : j ≤ i + 1) :
    Stat NW (fun _ => True) (keyNat x) j (entry x i j)
      ∧ pairBin x (bucket x i) (bucket x (i + 1)) (j - below x (bucket x i)) < 32768 := by
  have s0 := bucket_stat x i (by omega)
  have s1 := bucket_stat x (i + 1) hi
  have hr := rank_lt s0.1 s1.1 j hj hij
  have hb := stat_of_bins NW 32768 (fun n => binHi (flat x) n = bucket x i ∨ binHi (flat x) n = bucket x (i + 1))
    (bin2 (binHi (flat x)) (lowNat x) (bucket x (i + 1))) (j - below x (bucket x i))
    (fun n _ => by rw [← binLow_eq x s1.2]; exact binLow_lt _ _ n) hr
  have e : pairBin x (bucket x i) (bucket x (i + 1)) (j - below x (bucket x i))
      = Nat.count (fun b => Nat.count (fun n => (binHi (flat x) n = bucket x i ∨ binHi (flat x) n = bucket x (i + 1)) ∧
          bin2 (binHi (flat x)) (lowNat x) (bucket x (i + 1)) n < b + 1) NW ≤ j - below x (bucket x i)) 32768 := by
    unfold pairBin
    refine count_congr 32768 fun b _ => ?_
    unfold pairBelow
    have ec := count_congr (p := fun n => inPair (BitVec.ofNat 32 (bucket x i)) (BitVec.ofNat 32 (bucket x (i + 1))) (flat x) n = true ∧
        binLow (BitVec.ofNat 32 (bucket x (i + 1))) (flat x) n < b + 1)
      (q := fun n => (binHi (flat x) n = bucket x i ∨ binHi (flat x) n = bucket x (i + 1)) ∧
          bin2 (binHi (flat x)) (lowNat x) (bucket x (i + 1)) n < b + 1) NW fun n _ => by
        rw [inPair_iff x s0.2 s1.2, binLow_eq x s1.2]
    rw [ec]
  rw [← e] at hb
  exact ⟨stat_both (lowNat_lt x) s0.1 s1.1 j hij _ hb.1, hb.2⟩

/-- The key, from the two buckets' numbers and the bin. -/
theorem key_word {p0 p1 B : ℕ} (h0 : p0 < 65536) (h1 : p1 < 65536) (hB : B < 32768) :
    ((if BitVec.ofNat 32 B >>> 14 = 1#32 then BitVec.ofNat 32 p1 else BitVec.ofNat 32 p0) <<< 16) ||| ((BitVec.ofNat 32 B &&& 16383#32) <<< 2)
      = BitVec.ofNat 32 (4 * combine p0 p1 B) := by
  unfold combine
  have e : BitVec.ofNat 32 B >>> 14 = 1#32 ↔ B / 16384 = 1 := by
    rw [show (1#32 : BitVec 32) = BitVec.ofNat 32 1 from rfl, eq_ofNat_iff (by decide), BitVec.toNat_ushiftRight, toNat_ofNat_of_lt (by omega),
      Nat.shiftRight_eq_div_pow]
  have e' : (if BitVec.ofNat 32 B >>> 14 = 1#32 then BitVec.ofNat 32 p1 else BitVec.ofNat 32 p0)
      = BitVec.ofNat 32 (if B / 16384 = 1 then p1 else p0) := by
    by_cases h : B / 16384 = 1
    · rw [if_pos h, if_pos (e.mpr h)]
    · rw [if_neg h, if_neg (mt e.mp h)]
  rw [e']
  have hp : (if B / 16384 = 1 then p1 else p0) < 65536 := by split <;> assumption
  generalize (if B / 16384 = 1 then p1 else p0) = p at hp ⊢
  have hr : B % 16384 < 16384 := Nat.mod_lt _ (by decide)
  have ea : BitVec.ofNat 32 B &&& 16383#32 = BitVec.ofNat 32 (B % 16384) := by
    apply BitVec.eq_of_toNat_eq
    rw [BitVec.toNat_and, toNat_ofNat_of_lt (n := B) (by omega), toNat_ofNat_of_lt (n := B % 16384) (by omega)]
    exact Nat.and_two_pow_sub_one_eq_mod B 14
  rw [ea]
  generalize B % 16384 = r at hr ⊢
  apply BitVec.eq_of_toNat_eq
  rw [BitVec.toNat_or, BitVec.toNat_shiftLeft, BitVec.toNat_shiftLeft, toNat_ofNat_of_lt (by omega), toNat_ofNat_of_lt (by omega),
    toNat_ofNat_of_lt (by omega), Nat.shiftLeft_eq, Nat.shiftLeft_eq, Nat.mod_eq_of_lt (by omega), Nat.mod_eq_of_lt (by omega)]
  have := Nat.two_pow_add_eq_or_of_lt (i := 16) (b := r * 2 ^ 2) (by omega) p
  rw [Nat.mul_comm p, ← this]
  omega

theorem combine_lt {p0 p1 : ℕ} (h0 : p0 < 65536) (h1 : p1 < 65536) (B : ℕ) : combine p0 p1 B < 2 ^ 30 := by
  unfold combine
  have : B % 16384 < 16384 := Nat.mod_lt _ (by decide)
  split <;> omega

end Cert.Proof

end
-- ==== Proof.Keys.lean ====
/-
  The keys as an order on the floats: a word's key is its place in the total order of the bit patterns, the upper thirty
  bits of it give the word back with its two low bits rounded down, and the float so obtained grows with the key.
-/
module

public import proofs.«01_k».proof.Proof.Bins
public import Idealize.ShloMosaic.Lib.TotalOrder

@[expose] public section

noncomputable section

namespace Cert.Proof

open Idealize.ShloMosaic Idealize.ShloMosaic.TotalOrder

/-- A word rounded down to a multiple of four ulps: towards minus infinity within its sign. -/
def trunc (w : BitVec 32) : BitVec 32 := if w.msb then w ||| 3#32 else w &&& 4294967292#32

/-- The word of a key. -/
def unkey (k : BitVec 32) : BitVec 32 := if k.msb then k &&& 2147483647#32 else k ^^^ 4294967295#32

theorem toNat_unkey (k : BitVec 32) : (unkey k).toNat = if 2 ^ 31 ≤ k.toNat then k.toNat - 2 ^ 31 else 2 ^ 32 - 1 - k.toNat := by
  have hk := k.isLt
  unfold unkey
  by_cases h : 2 ^ 31 ≤ k.toNat
  · rw [if_pos h, if_pos ((BitVec.msb_eq_true_iff_two_mul_ge).mpr (by omega)), BitVec.toNat_and]
    have := Nat.and_two_pow_sub_one_eq_mod k.toNat 31
    show k.toNat &&& 2147483647 = _
    rw [show (2147483647 : ℕ) = 2 ^ 31 - 1 from rfl, this]
    omega
  · have hm : k.msb = false := (BitVec.msb_eq_false_iff_two_mul_lt).mpr (by omega)
    rw [if_neg h, hm, if_neg (by decide)]
    show (k ^^^ BitVec.allOnes 32).toNat = _
    rw [BitVec.xor_allOnes, BitVec.toNat_not]

/-- The key is the place in the total order. -/
theorem key_eq (w : BitVec 32) : key w = totalOrderKey w := by
  unfold key totalOrderKey
  cases h : w.msb
  · rw [if_neg (by decide)]
    have e : w.sshiftRight 31 = 0#32 := by
      rw [BitVec.sshiftRight_eq_of_msb_false h]
      apply BitVec.eq_of_toNat_eq
      rw [BitVec.toNat_ushiftRight, Nat.shiftRight_eq_div_pow]
      have := (BitVec.msb_eq_false_iff_two_mul_lt).mp h
      show w.toNat / 2 ^ 31 = 0
      omega
    rw [e, BitVec.zero_or]
    have h31 : w[31] = false := by
      have := BitVec.msb_eq_getLsbD_last w
      rw [h] at this
      exact this.symm
    show w ^^^ 2147483648#32 = w ||| 2147483648#32
    ext i hi
    interval_cases i <;> simp [h31]
  · rw [if_pos rfl]
    have e : w.sshiftRight 31 = BitVec.allOnes 32 := by
      rw [BitVec.sshiftRight_eq_of_msb_true h]
      apply BitVec.eq_of_toNat_eq
      rw [BitVec.toNat_not, BitVec.toNat_ushiftRight, BitVec.toNat_not, Nat.shiftRight_eq_div_pow]
      have := (BitVec.msb_eq_true_iff_two_mul_ge).mp h
      have := w.isLt
      show 2 ^ 32 - 1 - (2 ^ 32 - 1 - w.toNat) / 2 ^ 31 = 4294967295
      omega
    rw [e]
    show w ^^^ BitVec.allOnes 32 = ~~~w
    exact BitVec.xor_allOnes

theorem toNat_key (w : BitVec 32) : (key w).toNat = if w.msb then 2 ^ 32 - 1 - w.toNat else w.toNat + 2 ^ 31 := by
  rw [key_eq]
  exact toNat_totalOrderKey (e := 8) (m := 23) w

/-- A key's word has that key. -/
theorem toNat_key_unkey (k : BitVec 32) : (totalOrderKey (unkey k)).toNat = k.toNat := by
  rw [show (totalOrderKey (unkey k)).toNat = _ from toNat_totalOrderKey (e := 8) (m := 23) (unkey k)]
  have hu := toNat_unkey k
  have hk := k.isLt
  show (if (unkey k).msb then 2 ^ 32 - 1 - (unkey k).toNat else (unkey k).toNat + 2 ^ 31) = _
  by_cases h : 2 ^ 31 ≤ k.toNat
  · rw [if_pos h] at hu
    have hm : (unkey k).msb = false := (BitVec.msb_eq_false_iff_two_mul_lt).mpr (by omega)
    rw [hm, if_neg (by decide), hu]; omega
  · rw [if_neg h] at hu
    have hm : (unkey k).msb = true := (BitVec.msb_eq_true_iff_two_mul_ge).mpr (by omega)
    rw [hm, if_pos rfl, hu]; omega

theorem keyNat_eq (x : SX.Idx → BitVec 32) (n : ℕ) : keyNat x n = (key (flat x n)).toNat / 4 := by
  unfold keyNat lowNat binHi hi16 low14
  generalize key (flat x n) = k
  have hk := k.isLt
  have e : ((k >>> 2) &&& 0x3FFF#32).toNat = k.toNat / 4 % 16384 := by
    rw [BitVec.toNat_and, BitVec.toNat_ushiftRight, Nat.shiftRight_eq_div_pow]
    exact Nat.and_two_pow_sub_one_eq_mod (k.toNat / 4) 14
  rw [e, BitVec.toNat_ushiftRight, Nat.shiftRight_eq_div_pow]
  omega

theorem and_low (w : BitVec 32) : (w &&& 4294967292#32).toNat = w.toNat / 4 * 4 := by
  have e : w &&& 4294967292#32 = (w >>> 2) <<< 2 := by
    ext i hi
    interval_cases i <;> simp
  have hw := w.isLt
  rw [e, BitVec.toNat_shiftLeft, BitVec.toNat_ushiftRight, Nat.shiftRight_eq_div_pow, Nat.shiftLeft_eq]
  omega

theorem or_low (w : BitVec 32) : (w ||| 3#32).toNat = w.toNat / 4 * 4 + 3 := by
  have e : w ||| 3#32 = ~~~(~~~w &&& 4294967292#32) := by
    rw [BitVec.not_and, BitVec.not_not]; rfl
  have hw := w.isLt
  rw [e, BitVec.toNat_not, and_low, BitVec.toNat_not]
  omega

/-- The upper thirty bits of a word's key give the word rounded down. -/
theorem unkey_keyNat (x : SX.Idx → BitVec 32) (n : ℕ) : unkey (BitVec.ofNat 32 (4 * keyNat x n)) = trunc (flat x n) := by
  rw [keyNat_eq]
  generalize flat x n = w
  have hw := w.isLt
  have hk := toNat_key w
  have hkl := (key w).isLt
  apply BitVec.eq_of_toNat_eq
  rw [toNat_unkey, toNat_ofNat_of_lt (by omega)]
  unfold trunc
  cases h : w.msb
  · rw [h, if_neg (by decide)] at hk
    have := (BitVec.msb_eq_false_iff_two_mul_lt).mp h
    rw [if_neg (c := false = true) (by decide), and_low, if_pos (by omega)]
    omega
  · rw [h, if_pos rfl] at hk
    have := (BitVec.msb_eq_true_iff_two_mul_ge).mp h
    rw [if_pos rfl, or_low, if_neg (by omega)]
    omega

/-- The key of plus infinity, its upper thirty bits: those of no other float but the positive NaNs are greater. -/
abbrev topKey : ℕ := 0x3FE00000

theorem keyNat_le (x : SX.Idx → BitVec 32) (n : ℕ) (h : (flat x n).toInt ≤ 0x7F800000) : keyNat x n ≤ topKey := by
  rw [keyNat_eq]
  generalize flat x n = w at h ⊢
  have hw := w.isLt
  have hk := toNat_key w
  cases hm : w.msb
  · rw [hm, if_neg (by decide)] at hk
    rw [BitVec.toInt_eq_msb_cond, hm, if_neg (by decide)] at h
    show _ ≤ 0x3FE00000
    omega
  · rw [hm, if_pos rfl] at hk
    have := (BitVec.msb_eq_true_iff_two_mul_ge).mp hm
    show _ ≤ 0x3FE00000
    omega

/-- The float of a key's upper thirty bits. -/
def keyVal (D : ℕ) : EReal := Ideal.ieee 8 23 (unkey (BitVec.ofNat 32 (4 * D)))

/-- The NaN patterns among the keys are those below minus infinity's and those above plus infinity's. -/
theorem isNaN_iff (w : BitVec 32) : IsNaN 8 23 w ↔ 0x7F800000 < w.toNat % 2 ^ 31 := by
  unfold IsNaN
  rw [expo_eq, frac_eq]
  have := w.isLt
  omega

theorem ieee_of_isNaN {w : BitVec 32} (h : IsNaN 8 23 w) : Ideal.ieee 8 23 w = ⊥ := by
  unfold Ideal.ieee
  obtain ⟨h1, h2⟩ := h
  unfold expo at h1
  unfold frac at h2
  simp only [h1, h2, if_true, if_false]

/-- The float grows with the key, up to plus infinity. -/
theorem keyVal_mono (a b : ℕ) (hab : a ≤ b) (hb : b ≤ topKey) : keyVal a ≤ keyVal b := by
  have hb' : b ≤ 0x3FE00000 := hb
  rcases hab.eq_or_lt with rfl | hlt
  · exact le_rfl
  unfold keyVal
  have ha4 : (BitVec.ofNat 32 (4 * a)).toNat = 4 * a := toNat_ofNat_of_lt (by omega)
  have hb4 : (BitVec.ofNat 32 (4 * b)).toNat = 4 * b := toNat_ofNat_of_lt (by omega)
  have ua := toNat_unkey (BitVec.ofNat 32 (4 * a))
  have ub := toNat_unkey (BitVec.ofNat 32 (4 * b))
  have ka := toNat_key_unkey (BitVec.ofNat 32 (4 * a))
  have kb := toNat_key_unkey (BitVec.ofNat 32 (4 * b))
  rw [ha4] at ua ka
  rw [hb4] at ub kb
  generalize unkey (BitVec.ofNat 32 (4 * a)) = A at ua ka ⊢
  generalize unkey (BitVec.ofNat 32 (4 * b)) = B at ub kb ⊢
  by_cases nA : IsNaN 8 23 A
  · rw [ieee_of_isNaN nA]; exact bot_le
  have nB : ¬IsNaN 8 23 B := fun nB => by
    rw [isNaN_iff] at nA nB
    split at ua <;> split at ub <;> omega
  have hz : ¬OppositeZeros 8 23 A B := fun h => by
    rcases (oppositeZeros_f32_iff A B).mp h with ⟨e1, e2⟩ | ⟨e1, e2⟩
    · rw [e1] at ua
      have : (0x80000000#32).toNat = 2147483648 := rfl
      split at ua <;> omega
    · rw [e2] at ub
      have : (0x80000000#32).toNat = 2147483648 := rfl
      split at ub <;> omega
  exact ((lt_iff (e := 8) (m := 23) nA nB hz).mp (by omega)).le

end Cert.Proof

end
-- ==== Proof.Order.lean ====
/-
  A sorted array read by rank: the entry at a place is the value that fewer than so many entries precede and more than so
  many do not exceed.
-/
module

public import proofs.«01_k».proof.Proof.Select
public import Idealize.ShloMosaic.Lib.SortFacts
public import Idealize.ShloMosaic.PureOps.Ideal.Laws
public import Mathlib.Algebra.BigOperators.Fin

@[expose] public section

noncomputable section

namespace Cert.Proof

open Idealize.ShloMosaic

/-- The entry at place `i` of an array sorted by `<` is `v`, when at most `i` entries are less than `v` and more than `i`
    are no greater. -/
theorem sorted_value {n : ℕ} (f : Fin n → EReal) (R : Fin n → Fin n → Bool) (hR : ∀ a b, R a b = true ↔ f a < f b) (i : Fin n) (v : EReal)
    (hlo : (Finset.univ.filter fun k => f k < v).card ≤ i.val) (hhi : i.val < (Finset.univ.filter fun k => f k ≤ v).card) :
    f (sortedFrom R i) = v := by
  have hF : ∀ a b, R a b = false ↔ f b ≤ f a := fun a b => by
    rw [← not_lt, ← hR, Bool.not_eq_true]
  have hmono : ∀ a b : Fin n, a < b → f (sortedFrom R a) ≤ f (sortedFrom R b) := fun a b hab =>
    (hF _ _).mp (sortedFrom_noInversion R R (fun a b h => (hF _ _).mpr ((hR _ _).mp h).le) (fun _ _ h => h)
      (fun a b c h1 h2 => (hF _ _).mpr (((hF _ _).mp h2).trans ((hF _ _).mp h1))) a b hab)
  have hinj := sortedFrom_injective R
  have hsur := sortedFrom_surjective R
  rcases lt_trichotomy (f (sortedFrom R i)) v with h | h | h
  · exfalso
    have hs : (Finset.Iic i).image (sortedFrom R) ⊆ Finset.univ.filter fun k => f k < v := fun k hk => by
      obtain ⟨a, ha, rfl⟩ := Finset.mem_image.mp hk
      rw [Finset.mem_filter]
      refine ⟨Finset.mem_univ _, lt_of_le_of_lt ?_ h⟩
      rcases (Finset.mem_Iic.mp ha).eq_or_lt with e | e
      · rw [e]
      · exact hmono _ _ e
    have := Finset.card_le_card hs
    rw [Finset.card_image_of_injective _ hinj, Fin.card_Iic] at this
    omega
  · exact h
  · exfalso
    have hs : (Finset.univ.filter fun k => f k ≤ v) ⊆ (Finset.Iio i).image (sortedFrom R) := fun k hk => by
      rw [Finset.mem_filter] at hk
      obtain ⟨a, rfl⟩ := hsur k
      refine Finset.mem_image.mpr ⟨a, Finset.mem_Iio.mpr ?_, rfl⟩
      by_contra hn
      rcases (not_lt.mp hn).eq_or_lt with e | e
      · exact absurd (hk.2) (not_le.mpr (e ▸ h))
      · exact absurd (hk.2) (not_le.mpr (lt_of_lt_of_le h (hmono _ _ e)))
    have := Finset.card_le_card hs
    rw [Finset.card_image_of_injective _ hinj, Fin.card_Iio] at this
    omega

/-- Counting below `n` and counting in `Fin n`. -/
theorem count_eq_card (n : ℕ) (p : ℕ → Prop) [DecidablePred p] : Nat.count p n = (Finset.univ.filter fun k : Fin n => p k.val).card := by
  rw [Nat.count_eq_card_filter_range, Finset.card_filter, Finset.card_filter]
  exact (Fin.sum_univ_eq_sum_range (fun k => if p k then 1 else 0) n).symm

/-- The entry of a rank in a sorted array whose entries are a monotone function of numbers. -/
theorem sorted_stat {n : ℕ} (f : Fin n → EReal) (R : Fin n → Fin n → Bool) (hR : ∀ a b, R a b = true ↔ f a < f b) (G : ℕ → ℕ) (g : ℕ → EReal) (M : ℕ)
    (hg : ∀ a b, a ≤ b → b ≤ M → g a ≤ g b) (hf : ∀ k : Fin n, f k = g (G k.val)) (hM : ∀ k < n, G k ≤ M) (i : Fin n) (v : ℕ)
    (hv : Stat n (fun _ => True) G i.val v) : f (sortedFrom R i) = g v := by
  obtain ⟨n0, hn0, ⟨_, hle⟩, hlt⟩ := exists_of_count_lt n (lt_of_le_of_lt hv.1 hv.2)
  have hvM : v ≤ M := by
    have h1 := hM n0 hn0
    have h2 : v ≤ G n0 := not_lt.mp fun h => hlt ⟨trivial, h⟩
    omega
  refine sorted_value f R hR i (g v) ?_ ?_
  · refine le_trans ?_ hv.1
    rw [count_eq_card]
    refine Finset.card_le_card fun k hk => ?_
    rw [Finset.mem_filter] at hk ⊢
    refine ⟨hk.1, trivial, not_le.mp fun h => absurd hk.2 (not_lt.mpr ?_)⟩
    rw [hf]
    exact hg _ _ h (hM _ k.isLt)
  · refine lt_of_lt_of_le hv.2 ?_
    rw [count_eq_card]
    refine Finset.card_le_card fun k hk => ?_
    rw [Finset.mem_filter] at hk ⊢
    refine ⟨hk.1, ?_⟩
    rw [hf]
    exact hg _ _ hk.2.2 hvM

end Cert.Proof

end
-- ==== Proof.TC3Value.lean ====
/-
  What the second TensorCore kernel computes, as counts: the running sums of the second pass's histograms, the bins of the
  four ranks, the floats put together from them, and the two results in the lanes of its row.
-/
module

public import proofs.«01_k».proof.Proof.TC3
public import proofs.«01_k».proof.Proof.Bins

@[expose] public section

noncomputable section

namespace Cert.Proof.TC3

open Cert.KernelIdeal Cert.KernelIdeal.Gen

open Idealize.ShloMosaic
open Cert.Proof.TC1

variable {F : FTy → Type} [FloatOps F] (hs : Vec F S32x2x256x128 .i32) (mt : Vec F S1x128 .i32) (lh : Vec F S1x128 .f32)

theorem shapeCast_same {α : Type} (y : S1x128.Idx → α) (h : S1x128.ShapeCasts S1x128) : shapeCast S1x128 y h = y := by
  funext j
  exact shapeCast_apply y h j j rfl

section Sums

variable (h : ℕ → ℕ → BitVec 32) (hh : ∀ j, k3_pay5 (F := F) hs j = h (j 0).val (128 * (j 1).val + (j 2).val))

include hh

/-- The histogram of a half, as a matrix. -/
theorem half_apply {o : Fin 3 → ℕ} (n : ℕ) (ho : o = ![n, 0, 0]) (hsl : S2x256x128.Slices o S1x256x128) (j : S256x128.Idx) :
    shapeCast S256x128 (extractStridedSlice S1x256x128 o (k3_pay5 (F := F) hs) hsl) shapeCasts_S1x256x128_S256x128 j
      = h n (128 * (j 0).val + (j 1).val) := by
  subst ho
  rw [shapeCast_apply _ _ j (fun | 0 => ⟨0, by decide⟩ | 1 => j 0 | 2 => j 1 : S1x256x128.Idx) (by
    rw [Shape.rowMajor_val_two, Shape.rowMajor_val_three]
    show (0 * 256 + (j 0).val) * 128 + (j 1).val = (j 0).val * 128 + (j 1).val
    omega)]
  unfold extractStridedSlice
  rw [hh]
  show h (n + 0) (128 * (0 + (j 0).val) + (0 + (j 1).val)) = _
  rw [Nat.add_zero, Nat.zero_add, Nat.zero_add]

/-- The running sums along each row, of the first half; -/
theorem rows_lo (j : S256x128.Idx) :
    k3_pay9 (k3_pay5 (F := F) hs) j = win 128 (fun c => h 0 (128 * (j 0).val + c)) (j 1).val := by
  unfold k3_pay9
  exact colStep (k := 64) (m := 64) (f := fun r c => h 0 (128 * r + c)) rfl rfl
    (colStep (k := 32) (m := 96) (f := fun r c => h 0 (128 * r + c)) rfl rfl
    (colStep (k := 16) (m := 112) (f := fun r c => h 0 (128 * r + c)) rfl rfl
    (colStep (k := 8) (m := 120) (f := fun r c => h 0 (128 * r + c)) rfl rfl
    (colStep (k := 4) (m := 124) (f := fun r c => h 0 (128 * r + c)) rfl rfl
    (colStep (k := 2) (m := 126) (f := fun r c => h 0 (128 * r + c)) rfl rfl
    (colStep (k := 1) (m := 127) (f := fun r c => h 0 (128 * r + c)) rfl rfl
      (fun j => (half_apply hs h hh 0 rfl _ j).trans (win_one (fun c => h 0 (128 * (j 0).val + c)) _).symm))))))) j

/-- and of the second. -/
theorem rows_hi (j : S256x128.Idx) :
    k3_pay19 (k3_pay5 (F := F) hs) j = win 128 (fun c => h 1 (128 * (j 0).val + c)) (j 1).val := by
  unfold k3_pay19
  exact colStep (k := 64) (m := 64) (f := fun r c => h 1 (128 * r + c)) rfl rfl
    (colStep (k := 32) (m := 96) (f := fun r c => h 1 (128 * r + c)) rfl rfl
    (colStep (k := 16) (m := 112) (f := fun r c => h 1 (128 * r + c)) rfl rfl
    (colStep (k := 8) (m := 120) (f := fun r c => h 1 (128 * r + c)) rfl rfl
    (colStep (k := 4) (m := 124) (f := fun r c => h 1 (128 * r + c)) rfl rfl
    (colStep (k := 2) (m := 126) (f := fun r c => h 1 (128 * r + c)) rfl rfl
    (colStep (k := 1) (m := 127) (f := fun r c => h 1 (128 * r + c)) rfl rfl
      (fun j => (half_apply hs h hh 1 rfl _ j).trans (win_one (fun c => h 1 (128 * (j 0).val + c)) _).symm))))))) j

omit hh in
/-- The last column of running sums holds the sums of whole rows. -/
theorem last_of (g : ℕ → BitVec 32) (v : IVec S256x128 32) (hv : ∀ j, v j = win 128 (fun c => g (128 * (j 0).val + c)) (j 1).val) (j : S256x1.Idx) :
    extractStridedSlice S256x1 ![0, 127] v slices_S256x128_o0_127_S256x1 j = ∑ c ∈ Finset.range 128, g (128 * (j 0).val + c) := by
  unfold extractStridedSlice
  have h1 : (j 1).val < 1 := (j 1).isLt
  refine (hv _).trans ?_
  have e1 : 127 + (j 1).val = 127 := by omega
  show win 128 (fun c => g (128 * (0 + (j 0).val) + c)) (127 + (j 1).val) = _
  rw [e1, Nat.zero_add]
  exact win_full 128 _ 127 (by decide)

theorem last_lo (j : S256x1.Idx) : k3_pay10 (k3_pay5 (F := F) hs) j = ∑ c ∈ Finset.range 128, h 0 (128 * (j 0).val + c) :=
  last_of (h 0) _ (rows_lo hs h hh) j

theorem last_hi (j : S256x1.Idx) : k3_pay20 (k3_pay5 (F := F) hs) j = ∑ c ∈ Finset.range 128, h 1 (128 * (j 0).val + c) :=
  last_of (h 1) _ (rows_hi hs h hh) j

/-- The running sums of the first half; -/
theorem loCum_apply (j : S256x128.Idx) : loCum hs j = ∑ b ∈ Finset.range (128 * (j 0).val + (j 1).val + 1), h 0 b := by
  unfold loCum k3_pay12
  refine cum_eq (h 0) (rows_lo hs h hh) (last_lo hs h hh) (fun j => ?_) j
  refine Eq.trans ?_ (win_full 256 (fun r => ∑ c ∈ Finset.range 128, h 0 (128 * r + c)) (j 0).val (j 0).isLt)
  unfold k3_pay11
  exact rowStep (k := 128) (m := 128) rfl rfl
    (rowStep (k := 64) (m := 192) rfl rfl
    (rowStep (k := 32) (m := 224) rfl rfl
    (rowStep (k := 16) (m := 240) rfl rfl
    (rowStep (k := 8) (m := 248) rfl rfl
    (rowStep (k := 4) (m := 252) rfl rfl
    (rowStep (k := 2) (m := 254) rfl rfl
    (rowStep (k := 1) (m := 255) rfl rfl
      (fun j => (last_lo hs h hh j).trans (win_one (fun r => ∑ c ∈ Finset.range 128, h 0 (128 * r + c)) _).symm)))))))) j

/-- and of the second. -/
theorem hiCum_apply (j : S256x128.Idx) : hiCum hs j = ∑ b ∈ Finset.range (128 * (j 0).val + (j 1).val + 1), h 1 b := by
  unfold hiCum k3_pay24
  refine cum_eq (h 1) (rows_hi hs h hh) (last_hi hs h hh) (fun j => ?_) j
  refine Eq.trans ?_ (win_full 256 (fun r => ∑ c ∈ Finset.range 128, h 1 (128 * r + c)) (j 0).val (j 0).isLt)
  unfold k3_pay23 k3_pay22 k3_pay21
  exact rowStep (k := 128) (m := 128) rfl rfl
    (rowStep (k := 64) (m := 192) rfl rfl
    (rowStep (k := 32) (m := 224) rfl rfl
    (rowStep (k := 16) (m := 240) rfl rfl
    (rowStep (k := 8) (m := 248) rfl rfl
    (rowStep (k := 4) (m := 252) rfl rfl
    (rowStep (k := 2) (m := 254) rfl rfl
    (rowStep (k := 1) (m := 255) rfl rfl
      (fun j => (last_hi hs h hh j).trans (win_one (fun r => ∑ c ∈ Finset.range 128, h 1 (128 * r + c)) _).symm)))))))) j

end Sums

/-! ## The lanes read -/

/-- A lane of a row of words, as the kernel picks it. -/
theorem pick_word (y : S1x128.Idx → BitVec 32) (p : ℕ) (hp : p < 128) :
    extractAt ![0, 0, 0] (shapeCast S1x1x1 (multiReductionI .add [1, 2] S1 (shapeCast S1x1x128
        (select (cmpi .eq lanes (broadcast S1x128 (BitVec.ofNat 32 p))) y (broadcast S1x128 0#32)) shapeCasts_S1x128_S1x1x128) 0#32
        reduces_S1x1x128_S1 rfl) shapeCasts_S1_S1x1x1) inpos_S1x1x1_p0_0_0 = y (at2 0 p (by decide) hp) := by
  refine (pick_total (R := 1) (C := 128) (by decide) lanes y (lane 0#32 y) lanes_eq (lane_eq 0#32 y) p (by omega)).trans ?_
  unfold lane
  rw [dif_pos hp]

theorem lo0_eq : lo0 (F := F) mt = mt (at2 0 0 (by decide) (by decide)) := by
  rw [← pick_word mt 0 (by decide)]; unfold lo0 k3_pay6 k3_pay1; rw [shapeCast_same]
theorem lo1_eq : lo1 (F := F) mt = mt (at2 0 1 (by decide) (by decide)) := by
  rw [← pick_word mt 1 (by decide)]; unfold lo1 k3_pay7 k3_pay1; rw [shapeCast_same]
theorem hi0_eq : hi0 (F := F) mt = mt (at2 0 2 (by decide) (by decide)) := by
  rw [← pick_word mt 2 (by decide)]; unfold hi0 k3_pay15 k3_pay1; rw [shapeCast_same]
theorem hi1_eq : hi1 (F := F) mt = mt (at2 0 3 (by decide) (by decide)) := by
  rw [← pick_word mt 3 (by decide)]; unfold hi1 k3_pay16 k3_pay1; rw [shapeCast_same]
theorem loRank_eq : loRank (F := F) mt = mt (at2 0 4 (by decide) (by decide)) := by
  rw [← pick_word mt 4 (by decide)]; unfold loRank k3_pay8 k3_pay1; rw [shapeCast_same]
theorem hiRank_eq : hiRank (F := F) mt = mt (at2 0 5 (by decide) (by decide)) := by
  rw [← pick_word mt 5 (by decide)]; unfold hiRank k3_pay18 k3_pay17 k3_pay1; rw [shapeCast_same]

/-! ## The floats -/

/-- The bin of a rank, as the kernel counts it. -/
def binAt (v : IVec S256x128 32) (r : BitVec 32) : BitVec 32 :=
  extractAt ![0, 0, 0] (shapeCast S1x1x1 (multiReductionI .add [1, 2] S1 (shapeCast S1x256x128
    (extui 32 (cmpi .sle v (broadcast S256x128 r)) natLt_1_32) shapeCasts_S256x128_S1x256x128) 0#32
    reduces_S1x256x128_S1 rfl) shapeCasts_S1_S1x1x1) inpos_S1x1x1_p0_0_0

/-- The key of a bin. -/
def keyOf (p0 p1 B : BitVec 32) : BitVec 32 :=
  Scalar.ori (Scalar.shli (Scalar.select (Scalar.cmpi .eq (Scalar.shrui B 14#32) 1#32) p1 p0) 16#32)
    (Scalar.shli (Scalar.andi B 16383#32) 2#32)

/-- The word of a key. -/
def wordOf (k : BitVec 32) : BitVec 32 :=
  Scalar.select (Scalar.cmpi .slt k 0#32) (Scalar.andi k 2147483647#32) (Scalar.xori k 4294967295#32)

/-- The float of a bin. -/
def floatOf (p0 p1 B : BitVec 32) : F .f32 := Scalar.ofBits .f32 (wordOf (keyOf p0 p1 B))

theorem loQ_split : loQ hs mt = Scalar.addf (floatOf (F := F) (lo0 mt) (lo1 mt) (binAt (loCum hs) (loRank mt)))
    (Scalar.mulf (Scalar.ofBits .f32 0x3F400000#32)
      (Scalar.subf (floatOf (lo0 mt) (lo1 mt) (binAt (loCum hs) (Scalar.addi (loRank mt) 1#32)))
        (floatOf (lo0 mt) (lo1 mt) (binAt (loCum hs) (loRank mt))))) := rfl

theorem hiAt_split : hiAt hs mt = floatOf (F := F) (hi0 mt) (hi1 mt) (binAt (hiCum hs) (hiRank mt)) := rfl

/-- The upper quantile. -/
def hiQ : F .f32 := Scalar.addf (hiAt hs mt) (Scalar.mulf (Scalar.ofBits .f32 0x3E800000#32)
  (Scalar.subf (floatOf (hi0 mt) (hi1 mt) (binAt (hiCum hs) (Scalar.addi (hiRank mt) 1#32))) (hiAt hs mt)))

/-- The two results, from the bounds and the quantiles. -/
def newLow (low loQ : F .f32) : F .f32 :=
  Scalar.addf (Scalar.mulf (Scalar.ofBits .f32 0x3F7D70A4#32) low) (Scalar.mulf (Scalar.ofBits .f32 0x3C23D70A#32) loQ)
def newScale (low high loQ hiQ : F .f32) : F .f32 :=
  Scalar.maximumf (Scalar.ofBits .f32 0x3F800000#32) (Scalar.subf (newLow high hiQ) (newLow low loQ))

theorem row_split : row hs mt lh = select (cmpi .eq lanes (broadcast S1x128 0#32)) (broadcast S1x128 (newLow (k3_pay3 lh) (loQ hs mt)))
    (select (cmpi .eq lanes (broadcast S1x128 1#32)) (broadcast S1x128 (newScale (k3_pay3 lh) (k3_pay4 lh) (loQ hs mt) (hiQ hs mt)))
      (broadcast S1x128 (Scalar.ofBits .f32 0x00000000#32))) := rfl

/-- A lane of the row. -/
theorem row_lane (j : S1x128.Idx) : row hs mt lh j = if (j 1).val = 0 then newLow (k3_pay3 lh) (loQ hs mt)
    else if (j 1).val = 1 then newScale (k3_pay3 lh) (k3_pay4 lh) (loQ hs mt) (hiQ hs mt) else Scalar.ofBits .f32 0x00000000#32 := by
  rw [row_split, ← lane_select j 0 (by decide), ← lane_select j 1 (by decide)]
  rfl

/-! ## As counts of the words -/

variable {x : SX.Idx → BitVec 32}

/-- The float of a key's upper thirty bits. -/
def floatNat (D : ℕ) : F .f32 := Scalar.ofBits .f32 (wordOf (BitVec.ofNat 32 (4 * D)))

theorem floatOf_eq {p0 p1 B : ℕ} (h0 : p0 < 65536) (h1 : p1 < 65536) (hB : B < 32768) :
    floatOf (F := F) (BitVec.ofNat 32 p0) (BitVec.ofNat 32 p1) (BitVec.ofNat 32 B) = floatNat (combine p0 p1 B) := by
  unfold floatOf floatNat
  rw [← key_word h0 h1 hB]
  refine congrArg (fun k => Scalar.ofBits (F := F) .f32 (wordOf k)) ?_
  unfold keyOf
  have e1 : Scalar.shrui (BitVec.ofNat 32 B) 14#32 = BitVec.ofNat 32 B >>> 14 := rfl
  have e2 : ∀ c : BitVec 32, Scalar.shli c 16#32 = c <<< 16 := fun _ => rfl
  have e3 : ∀ c : BitVec 32, Scalar.shli c 2#32 = c <<< 2 := fun _ => rfl
  rw [e1, e2, e3]
  show (if BitVec.ofBool (BitVec.ofNat 32 B >>> 14 == 1#32) = 1#1 then BitVec.ofNat 32 p1 else BitVec.ofNat 32 p0) <<< 16
    ||| (BitVec.ofNat 32 B &&& 16383#32) <<< 2 = _
  congr 2
  by_cases h : BitVec.ofNat 32 B >>> 14 = 1#32
  · rw [if_pos h, if_pos (by rw [beq_iff_eq.mpr h]; rfl)]
  · rw [if_neg h, if_neg (by rw [beq_eq_false_iff_ne.mpr h]; decide)]

/-- The second pass's histograms. -/
def IsHist (hs : Vec F S32x2x256x128 .i32) (x : SX.Idx → BitVec 32) (P : ℕ → BitVec 32) : Prop :=
  ∀ j : S32x2x256x128.Idx, hs j = BitVec.ofNat 32 (tally (inPair (P (2 * (j 1).val)) (P (2 * (j 1).val + 1)) (tileStream x (j 0).val))
    (binLow (P (2 * (j 1).val + 1)) (tileStream x (j 0).val)) 524288 (128 * (j 2).val + (j 3).val))

theorem sum_pairs (x : SX.Idx → BitVec 32) (p0 p1 : BitVec 32) (b : ℕ) :
    ∑ t ∈ Finset.range 32, tally (inPair p0 p1 (tileStream x t)) (binLow p1 (tileStream x t)) 524288 b
      = tally (inPair p0 p1 (flat x)) (binLow p1 (flat x)) NW b := by
  have e : ∀ t, inPair p0 p1 (tileStream x t) = fun n => inPair p0 p1 (flat x) (t * 524288 + n) := fun _ => rfl
  have e' : ∀ t, binLow p1 (tileStream x t) = fun n => binLow p1 (flat x) (t * 524288 + n) := fun _ => rfl
  simp only [e, e']
  exact tally_stretches (inPair p0 p1 (flat x)) (binLow p1 (flat x)) 524288 b 32

theorem hs_apply {P : ℕ → BitVec 32} (hH : IsHist hs x P) (j : S2x256x128.Idx) :
    k3_pay5 (F := F) hs j = BitVec.ofNat 32 (tally (inPair (P (2 * (j 0).val)) (P (2 * (j 0).val + 1)) (flat x))
      (binLow (P (2 * (j 0).val + 1)) (flat x)) NW (128 * (j 1).val + (j 2).val)) := by
  unfold k3_pay5
  refine (tiles_eq4 (T := 32) (H := 2) (R := 256) (C := 128) hs
    (fun t h r c => BitVec.ofNat 32 (tally (inPair (P (2 * h)) (P (2 * h + 1)) (tileStream x t)) (binLow (P (2 * h + 1)) (tileStream x t))
      524288 (128 * r + c))) hH j).trans ?_
  rw [sum_ofNat, sum_pairs]

/-- The running counts of either half. -/
theorem cum_of {P : ℕ → BitVec 32} {p0 p1 : ℕ} (n : ℕ) (h0 : P (2 * n) = BitVec.ofNat 32 p0) (h1 : P (2 * n + 1) = BitVec.ofNat 32 p1) (B : ℕ) :
    ∑ b ∈ Finset.range B, BitVec.ofNat 32 (tally (inPair (P (2 * n)) (P (2 * n + 1)) (flat x)) (binLow (P (2 * n + 1)) (flat x)) NW b)
      = BitVec.ofNat 32 (pairBelow x p0 p1 B) := by
  rw [sum_ofNat, sum_tally, h0, h1]
  rfl

/-- The bin of a rank. -/
theorem binAt_eq {v : IVec S256x128 32} {p0 p1 : ℕ} (hv : ∀ j, v j = BitVec.ofNat 32 (pairBelow x p0 p1 (128 * (j 0).val + (j 1).val + 1)))
    (r : ℕ) (hr : r < 2 ^ 31) : binAt v (BitVec.ofNat 32 r) = BitVec.ofNat 32 (pairBin x p0 p1 r) :=
  rank_total (R := 256) v (fun b => pairBelow x p0 p1 (b + 1)) hv (fun b => lt_of_le_of_lt (pairBelow_le x _ _ _) (by decide)) r hr

/-- The float of rank `j`, where `j` is the rank `i` or the next one. -/
theorem floatOf_rank {v : IVec S256x128 32} (i j : ℕ) (hi : i + 1 < NW) (hij : i ≤ j) (hj : j ≤ i + 1)
    (hv : ∀ k, v k = BitVec.ofNat 32 (pairBelow x (bucket x i) (bucket x (i + 1)) (128 * (k 0).val + (k 1).val + 1))) {r : BitVec 32}
    (hr : r = BitVec.ofNat 32 (j - below x (bucket x i))) :
    floatOf (F := F) (BitVec.ofNat 32 (bucket x i)) (BitVec.ofNat 32 (bucket x (i + 1))) (binAt v r) = floatNat (entry x i j) := by
  rw [hr, binAt_eq hv _ (by have : NW = 16777216 := rfl; omega),
    floatOf_eq (bucket_stat x i (by omega)).2 (bucket_stat x (i + 1) hi).2 (entry_stat x i j hi hij hj).2]
  rfl

/-- The rank within its buckets. -/
theorem rank_word (i j : ℕ) (hi : i < NW) (hij : i ≤ j) (hj : j ≤ i + 1) :
    (BitVec.ofNat 32 i - BitVec.ofNat 32 (below x (bucket x i))) + BitVec.ofNat 32 (j - i) = BitVec.ofNat 32 (j - below x (bucket x i)) := by
  have hb := below_bucket_le x i hi
  generalize below x (bucket x i) = b at hb ⊢
  obtain ⟨e, rfl⟩ : ∃ e, i = e + b := ⟨i - b, by omega⟩
  have e2 : j - b = e + (j - (e + b)) := by omega
  rw [e2, BitVec.ofNat_add, BitVec.ofNat_add, add_sub_cancel_right]

section Quantiles

variable {P : ℕ → BitVec 32} (hH : IsHist hs x P) (hmt : ∀ j, mt j = rowVal x (j 1).val) (hP : ∀ n < 4, P n = rowVal x n)

include hH hmt hP

/-- The lower quantile, from the floats at its two ranks; -/
theorem loQ_eq : loQ hs mt = Scalar.addf (floatNat (F := F) (entry x 838860 838860)) (Scalar.mulf (Scalar.ofBits .f32 0x3F400000#32)
    (Scalar.subf (floatNat (entry x 838860 838861)) (floatNat (entry x 838860 838860)))) := by
  have hcum : ∀ k, loCum hs k = BitVec.ofNat 32 (pairBelow x (bucket x 838860) (bucket x (838860 + 1)) (128 * (k 0).val + (k 1).val + 1)) := fun k => by
    rw [loCum_apply hs (fun h b => BitVec.ofNat 32 (tally (inPair (P (2 * h)) (P (2 * h + 1)) (flat x)) (binLow (P (2 * h + 1)) (flat x)) NW b)) (hs_apply hs hH)]
    exact cum_of 0 (hP 0 (by decide)) (hP 1 (by decide)) _
  have er := rank_word (x := x) 838860 838860 (by decide) le_rfl (by decide)
  have er' := rank_word (x := x) 838860 838861 (by decide) (by decide) le_rfl
  have e0 := floatOf_rank (F := F) 838860 838860 (by decide) le_rfl (by decide) hcum (r := loRank (F := F) mt)
    (by rw [loRank_eq, hmt, ← er]; exact (add_zero _).symm)
  have e1 := floatOf_rank (F := F) 838860 838861 (by decide) (by decide) le_rfl hcum (r := Scalar.addi (loRank (F := F) mt) 1#32)
    (by rw [loRank_eq, hmt, ← er']; rfl)
  have h0 : lo0 (F := F) mt = BitVec.ofNat 32 (bucket x 838860) := by rw [lo0_eq, hmt]; rfl
  have h1 : lo1 (F := F) mt = BitVec.ofNat 32 (bucket x (838860 + 1)) := by rw [lo1_eq, hmt]; rfl
  rw [loQ_split, h0, h1, e0, e1]

/-- and the upper one. -/
theorem hiQ_eq : hiQ hs mt = Scalar.addf (floatNat (F := F) (entry x 15938354 15938354)) (Scalar.mulf (Scalar.ofBits .f32 0x3E800000#32)
    (Scalar.subf (floatNat (entry x 15938354 15938355)) (floatNat (entry x 15938354 15938354)))) := by
  have hcum : ∀ k, hiCum hs k = BitVec.ofNat 32 (pairBelow x (bucket x 15938354) (bucket x (15938354 + 1)) (128 * (k 0).val + (k 1).val + 1)) := fun k => by
    rw [hiCum_apply hs (fun h b => BitVec.ofNat 32 (tally (inPair (P (2 * h)) (P (2 * h + 1)) (flat x)) (binLow (P (2 * h + 1)) (flat x)) NW b)) (hs_apply hs hH)]
    exact cum_of 1 (hP 2 (by decide)) (hP 3 (by decide)) _
  have er := rank_word (x := x) 15938354 15938354 (by decide) le_rfl (by decide)
  have er' := rank_word (x := x) 15938354 15938355 (by decide) (by decide) le_rfl
  have e0 := floatOf_rank (F := F) 15938354 15938354 (by decide) le_rfl (by decide) hcum (r := hiRank (F := F) mt)
    (by rw [hiRank_eq, hmt, ← er]; exact (add_zero _).symm)
  have e1 := floatOf_rank (F := F) 15938354 15938355 (by decide) (by decide) le_rfl hcum (r := Scalar.addi (hiRank (F := F) mt) 1#32)
    (by rw [hiRank_eq, hmt, ← er']; rfl)
  have h0 : hi0 (F := F) mt = BitVec.ofNat 32 (bucket x 15938354) := by rw [hi0_eq, hmt]; rfl
  have h1 : hi1 (F := F) mt = BitVec.ofNat 32 (bucket x (15938354 + 1)) := by rw [hi1_eq, hmt]; rfl
  unfold hiQ
  rw [hiAt_split, h0, h1, e0, e1]

end Quantiles

end Cert.Proof.TC3

end
-- ==== Proof.Reading.lean ====
/-
  The arrays between the calls, read entry by entry, and the two results of the program as functions of the words of `x`
  and the two bounds.
-/
module

public import proofs.«01_k».proof.Proof.Values
public import proofs.«01_k».proof.Proof.TC3Value
public import Idealize.ShloMosaic.Lib.Routing.OpsOne

@[expose] public section

noncomputable section

namespace Cert.Proof

open Cert.KernelIdeal Cert.KernelIdeal.Gen

open Idealize.ShloMosaic
open Idealize.ShloMosaic.TcCoe
open Idealize.ShloMosaic.StableHlo

section

variable {F : FTy → Type} [FloatOps F]

variable (m : (ℓ : Loc nD τ sig) → Buf (Elt F) ℓ) (d : Dev nD)

/-- The first pass's histograms, as the first TensorCore call reads them. -/
theorem V2_hist (j : S32x512x128.Idx) : (V2 m d main_v1 : S32x512x128.Idx → BitVec 32) j
    = BitVec.ofNat 32 (tally always (binHi (tileStream (xs m d) (j 0).val)) 524288 (128 * (j 1).val + (j 2).val)) := by
  have e : V2 m d main_v1 = shapeCast S32x512x128 (V1 m d main_v0 : (⟨S32x65536, .i32⟩ : BufTy).Contents (Elt F)) shapeCasts_S32x65536_S32x512x128 := by
    unfold V2; after_results_simp; rfl
  have h0 : (j 0).val < 32 := (j 0).isLt
  have h1 : (j 1).val < 512 := (j 1).isLt
  have h2 : (j 2).val < 128 := (j 2).isLt
  rw [e, V1_self, shapeCast_apply _ _ j (ix2' (j 0).val (128 * (j 1).val + (j 2).val) h0 (by omega) : S32x65536.Idx) (by
    rw [Shape.rowMajor_val_two, Shape.rowMajor_val_three]
    show (j 0).val * 65536 + (128 * (j 1).val + (j 2).val) = ((j 0).val * 512 + (j 1).val) * 128 + (j 2).val
    omega)]
  rfl

/-- The row of the first TensorCore call. -/
theorem row_val (j : S1x128.Idx) : TC1.row (F := F) (V2 m d main_v1) j = TC1.rowVal (xs m d) (j 1).val :=
  TC1.row_lane _ (V2_hist m d) j

theorem prefixes_val (n : ℕ) (hn : n < 4) : prefixes m d n = TC1.rowVal (xs m d) n := by
  unfold prefixes
  rw [dif_pos hn, row_val]
  rfl

theorem V6_row (j : S1x128.Idx) : (V6 m d main_v2 : S1x128.Idx → BitVec 32) j = TC1.rowVal (xs m d) (j 1).val := by
  have e6 : V6 m d main_v2 = V5 m d main_v2 := by unfold V6; after_results_simp
  have e4 : V4 m d main_v2 = V3 m d main_v2 := by unfold V4; after_results_simp
  rw [e6, V5_ne _ _ _ (devRef_ne_of_ne (by decide)), e4, V3_self, row_val]

/-- The second pass's histograms, as the second TensorCore call reads them. -/
theorem V6_hist : TC3.IsHist (F := F) (V6 m d main_v17) (xs m d) (prefixes m d) := fun j => by
  have e : V6 m d main_v17 = shapeCast S32x2x256x128 (V5 m d main_v7 : (⟨S32x2x32768, .i32⟩ : BufTy).Contents (Elt F)) shapeCasts_S32x2x32768_S32x2x256x128 := by
    unfold V6; after_results_simp; rfl
  have h0 : (j 0).val < 32 := (j 0).isLt
  have h1 : (j 1).val < 2 := (j 1).isLt
  have h2 : (j 2).val < 256 := (j 2).isLt
  have h3 : (j 3).val < 128 := (j 3).isLt
  rw [e, V5_self, shapeCast_apply _ _ j (fun | 0 => j 0 | 1 => j 1 | 2 => ⟨128 * (j 2).val + (j 3).val, by show _ < 32768; omega⟩ : S32x2x32768.Idx) (by
    rw [Shape.rowMajor_val_three, Shape.rowMajor_val_four]
    show ((j 0).val * 2 + (j 1).val) * 32768 + (128 * (j 2).val + (j 3).val) = (((j 0).val * 2 + (j 1).val) * 256 + (j 2).val) * 128 + (j 3).val
    omega)]
  rfl

/-- The arguments `low` and `high` when they are read. -/
theorem V5_arg (b : Ref sig .tc) (h : b = main_arg1 ∨ b = main_arg2) : V5 m d b = m (d, Proc.devRef .tc b) := by
  have e4 : V4 m d b = V3 m d b := by
    unfold V4; rcases h with rfl | rfl <;> after_results_simp
  have e2 : V2 m d b = V1 m d b := by
    unfold V2; rcases h with rfl | rfl <;> after_results_simp
  rw [V5_ne _ _ _ (devRef_ne_of_ne (by rcases h with rfl | rfl <;> decide)), e4,
    V3_ne _ _ _ (devRef_ne_of_ne (by rcases h with rfl | rfl <;> decide)), e2,
    V1_ne _ _ _ (devRef_ne_of_ne (by rcases h with rfl | rfl <;> decide))]
  rfl

/-- The two index words of a cell. -/
def cellIdx (a b : BitVec 32) : IVec S2 32 :=
  concatenate S2 0 [⟨S1, broadcastInDim S1 ![] bcast_S_S1 (constantI S_ 32 a)⟩, ⟨S1, broadcastInDim S1 ![] bcast_S_S1 (constantI S_ 32 b)⟩] concatenates_S1_S1_S2_d0

theorem cellIdx_zero (a b : BitVec 32) : cellIdx a b (ValueIdx.ix1 (0 : Fin 2)) = a := by
  unfold cellIdx
  exact concatenate_pair_apply_left (s₁ := S1) (s₂ := S1) (t := S2) 0 _ _ _ _ rfl (ValueIdx.ix1 (0 : Fin 1)) (fun b => by
    obtain rfl : b = 0 := Subsingleton.elim (α := Fin 1) _ _
    rfl)
theorem cellIdx_one (a b : BitVec 32) : cellIdx a b (ValueIdx.ix1 (1 : Fin 2)) = b := by
  unfold cellIdx
  exact concatenate_pair_apply_right (s₁ := S1) (s₂ := S1) (t := S2) 0 _ _ _ _ rfl rfl (ValueIdx.ix1 (0 : Fin 1))
    (fun b hb => absurd (Subsingleton.elim (α := Fin 1) _ _) hb) rfl

/-- One scalar set into a lane of a row. -/
theorem cell_set (x0 : S1x128.Idx → F .f32) (upd : S_.Idx → F .f32) (b : BitVec 32) (j : S1x128.Idx) :
    Host.scatter scatter_S1x128_S2_S__n_01_01_0 (fun _ b => b) x0 (cellIdx 0#32 b) upd j
      = if b.toInt = (j 1).val then upd ValueIdx.ix0 else x0 j := by
  obtain ⟨r, c, rfl⟩ : ∃ (r : Fin 1) (c : Fin 128), j = ValueIdx.ix2 r c := ⟨j 0, j 1, by funext a; fin_cases a <;> rfl⟩
  refine (Routing.scatter_cell_signed (R := 1) (C := 128) scatter_S1x128_S2_S__n_01_01_0 rfl rfl rfl x0 (cellIdx 0#32 b) upd r c).trans ?_
  rw [cellIdx_zero, cellIdx_one]
  have hr : (0#32 : BitVec 32).toInt = r.val := by
    have := r.isLt
    have e : r.val = 0 := by omega
    rw [e]; rfl
  by_cases h : b.toInt = c.val
  · rw [if_pos ⟨hr, h⟩]; exact (if_pos h).symm
  · rw [if_neg fun h' => h h'.2]; exact (if_neg h).symm

/-- The row that holds the bounds: `low` in the first lane, `high` in the second. -/
theorem V6_bounds (j : S1x128.Idx) : (V6 m d main_v16 : S1x128.Idx → F .f32) j
    = if (j 1).val = 1 then (m (d, Proc.devRef .tc main_arg2) : S_.Idx → F .f32) ValueIdx.ix0
      else if (j 1).val = 0 then (m (d, Proc.devRef .tc main_arg1) : S_.Idx → F .f32) ValueIdx.ix0 else FloatOps.ofBits .f32 0x00000000#32 := by
  have e : V6 m d main_v16 = Host.scatter scatter_S1x128_S2_S__n_01_01_0 (fun _ b => b)
      (Host.scatter scatter_S1x128_S2_S__n_01_01_0 (fun _ b => b) (broadcastInDim S1x128 ![] bcast_S_S1x128 (constant S_ .f32 0x00000000#32))
        (cellIdx 0#32 0#32) (V5 m d main_arg1 : (⟨S_, .f32⟩ : BufTy).Contents (Elt F)))
      (cellIdx 0#32 1#32) (V5 m d main_arg2 : (⟨S_, .f32⟩ : BufTy).Contents (Elt F)) := by
    unfold V6 cellIdx; after_results_simp; rfl
  rw [e, V5_arg m d main_arg1 (.inl rfl), V5_arg m d main_arg2 (.inr rfl), cell_set, cell_set]
  have h0 : ((0#32 : BitVec 32).toInt = ((j 1).val : ℤ)) ↔ (j 1).val = 0 := by
    rw [show (0#32 : BitVec 32).toInt = 0 from rfl]; omega
  have h1 : ((1#32 : BitVec 32).toInt = ((j 1).val : ℤ)) ↔ (j 1).val = 1 := by
    rw [show (1#32 : BitVec 32).toInt = 1 from rfl]; omega
  simp only [h0, h1]
  rfl

/-- The two results are the first two lanes of the last row. -/
theorem V8_first (i : S_.Idx) : (V8 m d main_v20 : S_.Idx → F .f32) i
    = TC3.row (F := F) (V6 m d main_v17) (V6 m d main_v2) (V6 m d main_v16) (at2 0 0 (by decide) (by decide)) := by
  have e : V8 m d main_v20 = shapeCast S_ (extractStridedSlice S1x1 ![0, 0] (V7 m d main_v18 : (⟨S1x128, .f32⟩ : BufTy).Contents (Elt F)) slices_S1x128_S1x1_0_0) shapeCasts_S1x1_S_ := by
    unfold V8; after_results_simp; rfl
  rw [e, V7_self, shapeCast_apply _ _ i (at2 0 0 (by decide) (by decide) : S1x1.Idx) (by
    have h1 := (S_.rowMajor i).isLt
    have h2 : S_.numel = 1 := rfl
    rw [Shape.rowMajor_val_two]
    show 0 * 1 + 0 = (S_.rowMajor i).val
    omega)]
  unfold extractStridedSlice
  refine congrArg (TC3.row (F := F) _ _ _) (funext fun a => Fin.ext ?_)
  fin_cases a <;> rfl

theorem V8_second (i : S_.Idx) : (V8 m d main_v22 : S_.Idx → F .f32) i
    = TC3.row (F := F) (V6 m d main_v17) (V6 m d main_v2) (V6 m d main_v16) (at2 0 1 (by decide) (by decide)) := by
  have e : V8 m d main_v22 = shapeCast S_ (extractStridedSlice S1x1 ![0, 1] (V7 m d main_v18 : (⟨S1x128, .f32⟩ : BufTy).Contents (Elt F)) slices_S1x128_S1x1_0_1) shapeCasts_S1x1_S_ := by
    unfold V8; after_results_simp; rfl
  rw [e, V7_self, shapeCast_apply _ _ i (at2 0 0 (by decide) (by decide) : S1x1.Idx) (by
    have h1 := (S_.rowMajor i).isLt
    have h2 : S_.numel = 1 := rfl
    rw [Shape.rowMajor_val_two]
    show 0 * 1 + 0 = (S_.rowMajor i).val
    omega)]
  unfold extractStridedSlice
  refine congrArg (TC3.row (F := F) _ _ _) (funext fun a => Fin.ext ?_)
  fin_cases a <;> rfl

end

/-! ## In the extended reals -/

variable (m : (ℓ : Loc nD τ sig) → Buf (Elt Ideal) ℓ) (d : Dev nD)

/-- The lower quantile of the words, from the floats at its two ranks, -/
def quantLow (x : SX.Idx → BitVec 32) : Ideal .f32 :=
  Scalar.addf (TC3.floatNat (F := Ideal) (entry x 838860 838860)) (Scalar.mulf (Scalar.ofBits .f32 0x3F400000#32)
    (Scalar.subf (TC3.floatNat (entry x 838860 838861)) (TC3.floatNat (entry x 838860 838860))))
/-- and the upper one. -/
def quantHigh (x : SX.Idx → BitVec 32) : Ideal .f32 :=
  Scalar.addf (TC3.floatNat (F := Ideal) (entry x 15938354 15938354)) (Scalar.mulf (Scalar.ofBits .f32 0x3E800000#32)
    (Scalar.subf (TC3.floatNat (entry x 15938354 15938355)) (TC3.floatNat (entry x 15938354 15938354))))

theorem low_eq : TC3.newLow (F := Ideal) (k3_pay3 (V6 m d main_v16)) (TC3.loQ (V6 m d main_v17) (V6 m d main_v2))
    = TC3.newLow ((m (d, Proc.devRef .tc main_arg1) : S_.Idx → Ideal .f32) ValueIdx.ix0) (quantLow (xs m d)) := by
  rw [TC3.loQ_eq _ _ (V6_hist m d) (V6_row m d) (prefixes_val m d)]
  have e : k3_pay3 (F := Ideal) (V6 m d main_v16) = (m (d, Proc.devRef .tc main_arg1) : S_.Idx → Ideal .f32) ValueIdx.ix0 := by
    refine (pick_lane (k3_pay2 (V6 m d main_v16)) 0 (by decide)).trans ?_
    unfold k3_pay2
    rw [TC3.shapeCast_same, V6_bounds]
    rfl
  rw [e]
  rfl

theorem high_eq : TC3.newScale (F := Ideal) (k3_pay3 (V6 m d main_v16)) (k3_pay4 (V6 m d main_v16)) (TC3.loQ (V6 m d main_v17) (V6 m d main_v2))
      (TC3.hiQ (V6 m d main_v17) (V6 m d main_v2))
    = TC3.newScale ((m (d, Proc.devRef .tc main_arg1) : S_.Idx → Ideal .f32) ValueIdx.ix0) ((m (d, Proc.devRef .tc main_arg2) : S_.Idx → Ideal .f32) ValueIdx.ix0)
        (quantLow (xs m d)) (quantHigh (xs m d)) := by
  unfold TC3.newScale
  rw [low_eq, TC3.hiQ_eq _ _ (V6_hist m d) (V6_row m d) (prefixes_val m d)]
  have e : k3_pay4 (F := Ideal) (V6 m d main_v16) = (m (d, Proc.devRef .tc main_arg2) : S_.Idx → Ideal .f32) ValueIdx.ix0 := by
    refine (pick_lane (k3_pay2 (V6 m d main_v16)) 1 (by decide)).trans ?_
    unfold k3_pay2
    rw [TC3.shapeCast_same, V6_bounds]
    rfl
  rw [e]
  rfl

/-- The program's first result -/
theorem result_first (i : S_.Idx) : (V8 m d main_v20 : S_.Idx → Ideal .f32) i
    = TC3.newLow ((m (d, Proc.devRef .tc main_arg1) : S_.Idx → Ideal .f32) ValueIdx.ix0) (quantLow (xs m d)) := by
  rw [V8_first, TC3.row_lane]
  exact low_eq m d

/-- and its second. -/
theorem result_second (i : S_.Idx) : (V8 m d main_v22 : S_.Idx → Ideal .f32) i
    = TC3.newScale ((m (d, Proc.devRef .tc main_arg1) : S_.Idx → Ideal .f32) ValueIdx.ix0) ((m (d, Proc.devRef .tc main_arg2) : S_.Idx → Ideal .f32) ValueIdx.ix0)
        (quantLow (xs m d)) (quantHigh (xs m d)) := by
  rw [V8_second, TC3.row_lane]
  exact high_eq m d

end Cert.Proof

end
-- ==== Proof.RefValue.lean ====
/-
  The reference's results in the extended reals: its sorted array read at a rank is the float of the key of that rank, so
  that its results are those of the program.
-/
module

public import proofs.«01_k».proof.Proof.Keys
public import proofs.«01_k».proof.Proof.Order
public import proofs.«01_k».proof.Proof.TC3Value
public import proofs.«01_k».proof.Proof.Reading
public import proofs.«01_k».proof.Proof.Gen.ReferenceIdeal
public import proofs.«01_k».proof.Proof.Gen.ReferenceIdeal.Run
public import proofs.«01_k».proof.Proof.Gen.Pre_no_positive_nan
public import Idealize.ShloMosaic.Lib.ReduceAll
public import Idealize.ShloMosaic.Lib.WordCmp

@[expose] public section

noncomputable section

namespace Cert.Proof.Ref

open Cert.ReferenceIdeal Cert.ReferenceIdeal.Facts₀ Cert.ReferenceIdeal.Facts

open Cert.Proof.TC1 (NW)

open Idealize.ShloMosaic

/-! ## The precondition -/

/-- No word of `x` is a NaN pattern with a clear sign: what the precondition says. -/
theorem words_le (x : S4096x4096.Idx → BitVec 32) (low high : FVec Ideal S_ .f32)
    (h : Cert.Pre_no_positive_nan.fn (F := Ideal) x low high = fun _ => 1#1) (j : S4096x4096.Idx) : (x j).toInt ≤ 0x7F800000 := by
  haveI : Subsingleton Cert.Pre_no_positive_nan.S_.Idx := ⟨fun a b => funext fun i => i.elim0⟩
  exact IntOp.cmpi_sle.1 (Host.reduce_andi_all _ _ _ _ ValueIdx.ix0 (congrFun h ValueIdx.ix0) j)

/-! ## The comparator -/

/-- The comparator's rewriting of an operand is nothing in the extended reals, which have one zero and no NaN. -/
theorem canon (a n : EReal) : Scalar.select (Ideal.cmp .une a a) n (Scalar.select (Ideal.cmp .oeq a (Ideal.ieee 8 23 0#32)) (Ideal.ieee 8 23 0#32) a) = a := by
  unfold Scalar.select Ideal.cmp
  by_cases h : a = Ideal.ieee 8 23 0#32
  · simp [← h]
  · simp [h]

/-- The comparator is the order of the extended reals. -/
theorem comparator_lt (a b : Ideal .f32) : (comparator_f32_d0 (F := Ideal) a b == 1#1) = true ↔ (a : EReal) < b := by
  have e : comparator_f32_d0 (F := Ideal) a b = Ideal.cmp .olt
      (Scalar.select (Ideal.cmp .une a a) (Ideal.ieee 8 23 0x7FC00000#32) (Scalar.select (Ideal.cmp .oeq a (Ideal.ieee 8 23 0#32)) (Ideal.ieee 8 23 0#32) a))
      (Scalar.select (Ideal.cmp .une b b) (Ideal.ieee 8 23 0x7FC00000#32) (Scalar.select (Ideal.cmp .oeq b (Ideal.ieee 8 23 0#32)) (Ideal.ieee 8 23 0#32) b)) := rfl
  rw [e, canon, canon]
  unfold Ideal.cmp
  by_cases h : (a : EReal) < b <;> simp [h]

/-! ## The sorted array -/

/-- The index of one array's only axis. -/
def pos {n : ℕ} (k : Fin n) : (⟨1, ![n]⟩ : Shape).Idx := fun
  | 0 => k

/-- Sorting an array of one axis. -/
theorem sort_one {n : ℕ} {α : Type} (cmp : α → α → BitVec 1) (f : (⟨1, ![n]⟩ : Shape).Idx → α) (j : (⟨1, ![n]⟩ : Shape).Idx) (i : Fin n) (hj : j 0 = i) :
    Host.sort (⟨1, ![n]⟩ : Shape) 0 cmp f j = f (pos (sortedFrom (fun k k' => cmp (f (pos k)) (f (pos k')) == 1#1) i)) := by
  have ha : ∀ k : Fin n, j.along (s := (⟨1, ![n]⟩ : Shape)) ⟨0, Nat.one_pos⟩ k = pos k := fun k => by
    funext a
    match a with
    | 0 => exact Function.update_self _ _ _
  subst hj
  unfold Host.sort
  rw [dif_pos Nat.one_pos]
  have hB : (fun k k' : Fin n => cmp (f (j.along ⟨0, Nat.one_pos⟩ k)) (f (j.along ⟨0, Nat.one_pos⟩ k')) == 1#1)
      = fun k k' => cmp (f (pos k)) (f (pos k')) == 1#1 := by
    funext k k'
    rw [ha, ha]
  exact (congrArg f (ha _)).trans (congrArg (fun B => f (pos (sortedFrom B (j 0)))) hB)

/-- The words with their two low bits cut, as floats. -/
def cut (x : S4096x4096.Idx → BitVec 32) : FVec Ideal S16777216 .f32 :=
  bitcastToFloat (F := Ideal) .f32 (select (cmpi .slt (shapeCast _ x shapeCasts_S4096x4096_S16777216) (broadcastInDim S16777216 ![] bcast_S_S16777216 (constantI S_ 32 0#32)))
    (ori (shapeCast _ x shapeCasts_S4096x4096_S16777216) (broadcastInDim S16777216 ![] bcast_S_S16777216 (constantI S_ 32 3#32)))
    (andi (shapeCast _ x shapeCasts_S4096x4096_S16777216) (broadcastInDim S16777216 ![] bcast_S_S16777216 (constantI S_ 32 4294967292#32))))

theorem slt_zero (w a b : BitVec 32) : Scalar.select (IntOp.cmpi .slt w 0#32) a b = if w.msb then a else b := by
  have h : IntOp.cmpi .slt w 0#32 = BitVec.ofBool w.msb := congrArg BitVec.ofBool (BitVec.slt_zero_eq_msb)
  rw [h]
  cases w.msb <;> rfl

/-- An entry of that array -/
theorem cut_at (x : S4096x4096.Idx → BitVec 32) (k : Fin 16777216) : cut x (pos k) = keyVal (keyNat x k.val) := by
  have e : shapeCast S16777216 x shapeCasts_S4096x4096_S16777216 (pos k) = flat x k.val := by
    rw [shapeCast_apply _ _ (pos k : S16777216.Idx) (rc (k.val / 4096) k.val : S4096x4096.Idx) (by
      rw [Shape.rowMajor_val_one, Shape.rowMajor_val_two]
      have hk := k.isLt
      show k.val / 4096 % 4096 * 4096 + k.val % 4096 = k.val
      omega)]
    rfl
  unfold keyVal
  rw [unkey_keyNat]
  unfold trunc
  rw [← slt_zero, ← e]
  rfl

/-- and the one the sort puts at a rank. -/
theorem sorted_at (x : S4096x4096.Idx → BitVec 32) (hx : ∀ j, (x j).toInt ≤ 0x7F800000) (i r : ℕ) (hi : i + 1 < NW) (hr : i ≤ r) (hr' : r ≤ i + 1)
    (j : S16777216.Idx) (hj : (j 0).val = r) : Host.sort S16777216 0 comparator_f32_d0 (cut x) j = keyVal (entry x i r) := by
  have hn : NW = 16777216 := rfl
  have hlt : r < 16777216 := by omega
  rw [sort_one (n := 16777216) (comparator_f32_d0 (F := Ideal)) (cut x) j ⟨r, hlt⟩ (Fin.ext hj)]
  exact sorted_stat (n := 16777216) (fun k => cut x (pos k)) _ (fun a b => comparator_lt _ _) (keyNat x) keyVal topKey keyVal_mono (cut_at x)
    (fun k _ => keyNat_le x k (hx _)) ⟨r, hlt⟩ _ (entry_stat x i r hi hr hr').1

/-- The float read at a rank. -/
theorem read_at (x : S4096x4096.Idx → BitVec 32) (hx : ∀ j, (x j).toInt ≤ 0x7F800000) (i r : ℕ) (hi : i + 1 < NW) (hr : i ≤ r) (hr' : r ≤ i + 1)
    (hs : S16777216.Slices ![r] S1) (o : S_.Idx) :
    shapeCast S_ (extractStridedSlice S1 ![r] (Host.sort S16777216 0 comparator_f32_d0 (cut x)) hs) shapeCasts_S1_S_ o = keyVal (entry x i r) := by
  rw [shapeCast_apply _ _ o (pos 0 : S1.Idx) (by
    have h1 := (S_.rowMajor o).isLt
    have h2 : S_.numel = 1 := rfl
    rw [Shape.rowMajor_val_one]
    show 0 = (S_.rowMajor o).val
    omega)]
  unfold extractStridedSlice
  exact sorted_at x hx i r hi hr hr' _ rfl

/-- The kernel's float of a key is that float. -/
theorem floatNat_eq (D : ℕ) : TC3.floatNat (F := Ideal) D = keyVal D := by
  unfold TC3.floatNat keyVal
  have e : TC3.wordOf (BitVec.ofNat 32 (4 * D)) = unkey (BitVec.ofNat 32 (4 * D)) := slt_zero _ _ _
  rw [e]
  rfl

/-! ## The results -/

/-- Interpolation between the floats of two neighbouring ranks, as the reference writes it. -/
def lerp (a b : FVec Ideal S_ .f32) (w : BitVec 32) : FVec Ideal S_ .f32 := addf a (mulf (constant S_ .f32 w) (subf b a))

/-- The floats at a rank of the sorted array. -/
def at_ (x : S4096x4096.Idx → BitVec 32) (r : ℕ) (hs : S16777216.Slices ![r] S1) : FVec Ideal S_ .f32 :=
  shapeCast S_ (extractStridedSlice S1 ![r] (Host.sort S16777216 0 comparator_f32_d0 (cut x)) hs) shapeCasts_S1_S_

variable (x : S4096x4096.Idx → BitVec 32) (hx : ∀ j, (x j).toInt ≤ 0x7F800000)

include hx in
theorem low_at (o : S_.Idx) : lerp (at_ x 838860 slices_S16777216_S1_838860) (at_ x 838861 slices_S16777216_S1_838861) 0x3F400000#32 o = quantLow x := by
  unfold quantLow
  rw [floatNat_eq, floatNat_eq, ← read_at x hx 838860 838860 (by decide) (by decide) (by decide) slices_S16777216_S1_838860 o,
    ← read_at x hx 838860 838861 (by decide) (by decide) (by decide) slices_S16777216_S1_838861 o]
  rfl

include hx in
theorem high_at (o : S_.Idx) : lerp (at_ x 15938354 slices_S16777216_S1_15938354) (at_ x 15938355 slices_S16777216_S1_15938355) 0x3E800000#32 o = quantHigh x := by
  unfold quantHigh
  rw [floatNat_eq, floatNat_eq, ← read_at x hx 15938354 15938354 (by decide) (by decide) (by decide) slices_S16777216_S1_15938354 o,
    ← read_at x hx 15938354 15938355 (by decide) (by decide) (by decide) slices_S16777216_S1_15938355 o]
  rfl

/-- A moving average of a bound and a quantile. -/
def blend (b q : FVec Ideal S_ .f32) : FVec Ideal S_ .f32 := addf (mulf (constant S_ .f32 0x3F7D70A4#32) b) (mulf (constant S_ .f32 0x3C23D70A#32) q)

theorem blend_at (b q : FVec Ideal S_ .f32) (o : S_.Idx) : blend b q o = TC3.newLow (b o) (q o) := rfl

theorem scale_at (l h q r : FVec Ideal S_ .f32) (o : S_.Idx) :
    maximumf (constant S_ .f32 0x3F800000#32) (subf (blend h r) (blend l q)) o = TC3.newScale (l o) (h o) (q o) (r o) := rfl

end Cert.Proof.Ref

end
-- ==== Proof.lean ====
module

public import proofs.«01_k».proof.Defs
public import proofs.«01_k».proof.Proof.Main
public import proofs.«01_k».proof.Proof.Same
public import proofs.«01_k».proof.Proof.RefValue
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import Idealize.ShloMosaic.Lib.Quiescent

@[expose] public section

noncomputable section

namespace Cert.Proof

open Idealize.ShloMosaic Idealize.SL.Sem
open Idealize.ShloMosaic.TcCoe

/-- In the final memory of the run an argument array is what it was at launch. -/
theorem arg_kept {F : FTy → Type} [FloatOps F] (m : (ℓ : Loc KernelIdeal.nD KernelIdeal.τ KernelIdeal.sig) → Buf (Elt F) ℓ)
    {mem : (ℓ : Loc KernelIdeal.nD KernelIdeal.τ KernelIdeal.sig) → Buf (Elt F) ℓ} {d : Dev KernelIdeal.nD}
    (h : ∀ b ∈ Pipeline.ucRefs KernelIdeal.τ KernelIdeal.sig, mem (d, b) = V8 m d b) (b : Ref KernelIdeal.sig .tc)
    (hb : b = KernelIdeal.main_arg0 ∨ b = KernelIdeal.main_arg1 ∨ b = KernelIdeal.main_arg2) (hs : b.isScoped = false) :
    mem (d, Proc.devRef .tc b) = m (d, Proc.devRef .tc b) :=
  (h _ (Pipeline.devRef_mem_ucRefs hs)).trans (V8_arg m d b hb)

/-- The kernel runs to its end, leaves its arguments as they were and every semaphore at zero: over any floats. -/
theorem frame {F : FTy → Type} [FloatOps F] [∀ e, Nonempty (Elt F e)]
    (m : (ℓ : Loc KernelIdeal.nD KernelIdeal.τ KernelIdeal.sig) → Buf (Elt F) ℓ) (ρ : Dev KernelIdeal.nD → PrngReg) :
    θ_run (Cert.KernelIdeal.defs (F := F)) (Cert.KernelIdeal.threads (F := F)) ⟨m, fun _ => 0, ρ⟩ fun r =>
      (∀ c : Dev KernelIdeal.nD,
        r.2.mem ((c.tc : Thread KernelIdeal.nD KernelIdeal.τ).loc KernelIdeal.main_arg0) = m ((c.tc : Thread KernelIdeal.nD KernelIdeal.τ).loc KernelIdeal.main_arg0)
        ∧ r.2.mem ((c.tc : Thread KernelIdeal.nD KernelIdeal.τ).loc KernelIdeal.main_arg1) = m ((c.tc : Thread KernelIdeal.nD KernelIdeal.τ).loc KernelIdeal.main_arg1)
        ∧ r.2.mem ((c.tc : Thread KernelIdeal.nD KernelIdeal.τ).loc KernelIdeal.main_arg2) = m ((c.tc : Thread KernelIdeal.nD KernelIdeal.τ).loc KernelIdeal.main_arg2))
      ∧ r.2.sem = fun _ => 0 :=
  (θ_run Cert.KernelIdeal.defs _ _).mono
    (fun _ h => ⟨fun c => ⟨arg_kept m (h.1 c) KernelIdeal.main_arg0 (.inl rfl) rfl,
      arg_kept m (h.1 c) KernelIdeal.main_arg1 (.inr (.inl rfl)) rfl,
      arg_kept m (h.1 c) KernelIdeal.main_arg2 (.inr (.inr rfl)) rfl⟩, h.2⟩)
    (run_main (F := F) m ρ)

/-- The kernel as printed, -/
theorem frame_kernel : Cert.quiescent_Kernel := fun m ρ _ => by
  rw [defs_eq]
  exact frame (F := Bits) m ρ

/-- and over extended reals. -/
theorem frame_kernelIdeal : Cert.quiescent_KernelIdeal := fun m ρ _ => frame (F := Ideal) m ρ

/-- The reference runs to its end and leaves its arguments as they were; it has no semaphore. -/
theorem frame_referenceIdeal : Cert.quiescent_ReferenceIdeal := fun m ρ _ =>
  (θ_run Cert.ReferenceIdeal.defs _ _).mono
    (fun _ h => ⟨fun c => (h c).2.2, sem_eq_zero_of_no_sems rfl _⟩)
    (Cert.ReferenceIdeal.Value.run m ρ)

/-! ## The results -/

/-- The kernel's results on a device, in the memory its run ends in. -/
theorem results (m : (ℓ : Loc KernelIdeal.nD KernelIdeal.τ KernelIdeal.sig) → Buf (Elt Ideal) ℓ) (ρ : Dev KernelIdeal.nD → PrngReg) :
    θ_run (Cert.KernelIdeal.defs (F := Ideal)) (Cert.KernelIdeal.threads (F := Ideal)) ⟨m, fun _ => 0, ρ⟩ fun r => ∀ c : Dev KernelIdeal.nD,
      r.2.mem ((c.tc : Thread KernelIdeal.nD KernelIdeal.τ).loc KernelIdeal.main_v20) = V8 m c KernelIdeal.main_v20
      ∧ r.2.mem ((c.tc : Thread KernelIdeal.nD KernelIdeal.τ).loc KernelIdeal.main_v22) = V8 m c KernelIdeal.main_v22
      ∧ r.2.mem ((c.tc : Thread KernelIdeal.nD KernelIdeal.τ).loc KernelIdeal.main_arg0) = m ((c.tc : Thread KernelIdeal.nD KernelIdeal.τ).loc KernelIdeal.main_arg0)
      ∧ r.2.mem ((c.tc : Thread KernelIdeal.nD KernelIdeal.τ).loc KernelIdeal.main_arg1) = m ((c.tc : Thread KernelIdeal.nD KernelIdeal.τ).loc KernelIdeal.main_arg1)
      ∧ r.2.mem ((c.tc : Thread KernelIdeal.nD KernelIdeal.τ).loc KernelIdeal.main_arg2) = m ((c.tc : Thread KernelIdeal.nD KernelIdeal.τ).loc KernelIdeal.main_arg2) :=
  (θ_run Cert.KernelIdeal.defs _ _).mono
    (fun _ h c => ⟨h.1 c _ (Pipeline.devRef_mem_ucRefs (rfl : KernelIdeal.main_v20.isScoped = false)),
      h.1 c _ (Pipeline.devRef_mem_ucRefs (rfl : KernelIdeal.main_v22.isScoped = false)),
      arg_kept m (h.1 c) KernelIdeal.main_arg0 (.inl rfl) rfl,
      arg_kept m (h.1 c) KernelIdeal.main_arg1 (.inr (.inl rfl)) rfl,
      arg_kept m (h.1 c) KernelIdeal.main_arg2 (.inr (.inr rfl)) rfl⟩)
    (run_main (F := Ideal) m ρ)

/-- The reference's first result, as its text has it, is the kernel's; -/
theorem first_eq (m : (ℓ : Loc KernelIdeal.nD KernelIdeal.τ KernelIdeal.sig) → Buf (Elt Ideal) ℓ) (c : Dev KernelIdeal.nD)
    (hx : ∀ j, (xs m c j).toInt ≤ 0x7F800000) :
    Ref.blend (m (c, Proc.devRef .tc KernelIdeal.main_arg1)) (Ref.lerp (Ref.at_ (xs m c) 838860 Cert.ReferenceIdeal.Facts₀.slices_S16777216_S1_838860)
        (Ref.at_ (xs m c) 838861 Cert.ReferenceIdeal.Facts₀.slices_S16777216_S1_838861) 0x3F400000#32) = V8 m c KernelIdeal.main_v20 := by
  funext o
  refine Eq.trans ?_ (result_first m c o).symm
  rw [Ref.blend_at, Ref.low_at (xs m c) hx o]
  exact congrArg (fun z => TC3.newLow (F := Ideal) ((m (c, Proc.devRef .tc KernelIdeal.main_arg1) : KernelIdeal.S_.Idx → Ideal .f32) z) (quantLow (xs m c)))
    (funext fun a => a.elim0)

/-- and so is its second. -/
theorem second_eq (m : (ℓ : Loc KernelIdeal.nD KernelIdeal.τ KernelIdeal.sig) → Buf (Elt Ideal) ℓ) (c : Dev KernelIdeal.nD)
    (hx : ∀ j, (xs m c j).toInt ≤ 0x7F800000) :
    maximumf (constant KernelIdeal.S_ .f32 0x3F800000#32) (subf
      (Ref.blend (m (c, Proc.devRef .tc KernelIdeal.main_arg2)) (Ref.lerp (Ref.at_ (xs m c) 15938354 Cert.ReferenceIdeal.Facts₀.slices_S16777216_S1_15938354)
        (Ref.at_ (xs m c) 15938355 Cert.ReferenceIdeal.Facts₀.slices_S16777216_S1_15938355) 0x3E800000#32))
      (Ref.blend (m (c, Proc.devRef .tc KernelIdeal.main_arg1)) (Ref.lerp (Ref.at_ (xs m c) 838860 Cert.ReferenceIdeal.Facts₀.slices_S16777216_S1_838860)
        (Ref.at_ (xs m c) 838861 Cert.ReferenceIdeal.Facts₀.slices_S16777216_S1_838861) 0x3F400000#32))) = V8 m c KernelIdeal.main_v22 := by
  funext o
  refine Eq.trans ?_ (result_second m c o).symm
  rw [Ref.scale_at, Ref.low_at (xs m c) hx o, Ref.high_at (xs m c) hx o]
  exact congrArg (fun z => TC3.newScale (F := Ideal) ((m (c, Proc.devRef .tc KernelIdeal.main_arg1) : KernelIdeal.S_.Idx → Ideal .f32) z)
      ((m (c, Proc.devRef .tc KernelIdeal.main_arg2) : KernelIdeal.S_.Idx → Ideal .f32) z) (quantLow (xs m c)) (quantHigh (xs m c)))
    (funext fun a => a.elim0)

/-- In the extended reals the kernel and the reference end with the same results, for words without a NaN of clear sign. -/
theorem same_results : Cert.algebraic_KernelIdeal_ReferenceIdeal_pre_no_positive_nan := fun m g m' g' hpre hargs => by
  have hx : ∀ c j, (xs m c j).toInt ≤ 0x7F800000 := fun c => Ref.words_le _ _ _ (hpre c)
  refine ⟨fun c => V8 m c KernelIdeal.main_v20, fun c => V8 m c KernelIdeal.main_v22, results m g, ?_⟩
  refine (θ_run Cert.ReferenceIdeal.defs _ _).mono (fun r h c => ?_) (Cert.ReferenceIdeal.Value.run m' g')
  obtain ⟨h1, h2, hr⟩ := h c
  refine ⟨h1.trans ?_, h2.trans ?_, hr⟩
  · rw [(hargs c).1, (hargs c).2.1]
    exact first_eq m c (hx c)
  · unfold Cert.ReferenceIdeal.Value.res_main_v31
    rw [(hargs c).1, (hargs c).2.1, (hargs c).2.2]
    exact second_eq m c (hx c)

/-- The whole claim. -/
theorem claim : Cert.Claim :=
  ⟨Cert.Kernel.Gen.facts, Cert.KernelIdeal.Gen.facts, Cert.ReferenceIdeal.Gen.facts, Cert.Pre_no_positive_nan.Gen.facts,
    frame_kernel, frame_kernelIdeal, fun m ρ _ => frame_kernelIdeal m ρ trivial,
    frame_referenceIdeal, fun m ρ _ => frame_referenceIdeal m ρ trivial, trivial, same_results⟩

end Cert.Proof

end
